-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Fused (m : (ℓ : Loc Cert.Fused.nD Cert.Fused.τ Cert.Fused.sig) → Buf (Elt Bits) ℓ) : Prop :=
  True

def Pre_FusedIdeal (m : (ℓ : Loc Cert.FusedIdeal.nD Cert.FusedIdeal.τ Cert.FusedIdeal.sig) → Buf (Elt Ideal) ℓ) : Prop :=
  True

def Pre_FusedIdeal_finite_rows [hPre_finite_rows : Cert.Pre_finite_rows.Facts] (m : (ℓ : Loc Cert.FusedIdeal.nD Cert.FusedIdeal.τ Cert.FusedIdeal.sig) → Buf (Elt Ideal) ℓ) : Prop :=
  ∀ c : Dev Cert.FusedIdeal.nD,
    (Cert.Pre_finite_rows.fn (F := Ideal) (m ((c.tc : Thread Cert.FusedIdeal.nD Cert.FusedIdeal.τ).loc Cert.FusedIdeal.main_arg0)) (m ((c.tc : Thread Cert.FusedIdeal.nD Cert.FusedIdeal.τ).loc Cert.FusedIdeal.main_arg1)) (m ((c.tc : Thread Cert.FusedIdeal.nD Cert.FusedIdeal.τ).loc Cert.FusedIdeal.main_arg2)) (m ((c.tc : Thread Cert.FusedIdeal.nD Cert.FusedIdeal.τ).loc Cert.FusedIdeal.main_arg3)) (m ((c.tc : Thread Cert.FusedIdeal.nD Cert.FusedIdeal.τ).loc Cert.FusedIdeal.main_arg4)) (m ((c.tc : Thread Cert.FusedIdeal.nD Cert.FusedIdeal.τ).loc Cert.FusedIdeal.main_arg5)) (m ((c.tc : Thread Cert.FusedIdeal.nD Cert.FusedIdeal.τ).loc Cert.FusedIdeal.main_arg6)) (m ((c.tc : Thread Cert.FusedIdeal.nD Cert.FusedIdeal.τ).loc Cert.FusedIdeal.main_arg7)) (m ((c.tc : Thread Cert.FusedIdeal.nD Cert.FusedIdeal.τ).loc Cert.FusedIdeal.main_arg8)) (m ((c.tc : Thread Cert.FusedIdeal.nD Cert.FusedIdeal.τ).loc Cert.FusedIdeal.main_arg9))) = (fun _ => 1#1)

def Pre_FusedReferenceIdeal (m : (ℓ : Loc Cert.FusedReferenceIdeal.nD Cert.FusedReferenceIdeal.τ Cert.FusedReferenceIdeal.sig) → Buf (Elt Ideal) ℓ) : Prop :=
  True

def Pre_FusedReferenceIdeal_finite_rows [hPre_finite_rows : Cert.Pre_finite_rows.Facts] (m : (ℓ : Loc Cert.FusedReferenceIdeal.nD Cert.FusedReferenceIdeal.τ Cert.FusedReferenceIdeal.sig) → Buf (Elt Ideal) ℓ) : Prop :=
  ∀ c : Dev Cert.FusedReferenceIdeal.nD,
    (Cert.Pre_finite_rows.fn (F := Ideal) (m ((c.tc : Thread Cert.FusedReferenceIdeal.nD Cert.FusedReferenceIdeal.τ).loc Cert.FusedReferenceIdeal.main_arg0)) (m ((c.tc : Thread Cert.FusedReferenceIdeal.nD Cert.FusedReferenceIdeal.τ).loc Cert.FusedReferenceIdeal.main_arg1)) (m ((c.tc : Thread Cert.FusedReferenceIdeal.nD Cert.FusedReferenceIdeal.τ).loc Cert.FusedReferenceIdeal.main_arg2)) (m ((c.tc : Thread Cert.FusedReferenceIdeal.nD Cert.FusedReferenceIdeal.τ).loc Cert.FusedReferenceIdeal.main_arg3)) (m ((c.tc : Thread Cert.FusedReferenceIdeal.nD Cert.FusedReferenceIdeal.τ).loc Cert.FusedReferenceIdeal.main_arg4)) (m ((c.tc : Thread Cert.FusedReferenceIdeal.nD Cert.FusedReferenceIdeal.τ).loc Cert.FusedReferenceIdeal.main_arg5)) (m ((c.tc : Thread Cert.FusedReferenceIdeal.nD Cert.FusedReferenceIdeal.τ).loc Cert.FusedReferenceIdeal.main_arg6)) (m ((c.tc : Thread Cert.FusedReferenceIdeal.nD Cert.FusedReferenceIdeal.τ).loc Cert.FusedReferenceIdeal.main_arg7)) (m ((c.tc : Thread Cert.FusedReferenceIdeal.nD Cert.FusedReferenceIdeal.τ).loc Cert.FusedReferenceIdeal.main_arg8)) (m ((c.tc : Thread Cert.FusedReferenceIdeal.nD Cert.FusedReferenceIdeal.τ).loc Cert.FusedReferenceIdeal.main_arg9))) = (fun _ => 1#1)

def Pre_Repack (m : (ℓ : Loc Cert.Repack.nD Cert.Repack.τ Cert.Repack.sig) → Buf (Elt Bits) ℓ) : Prop :=
  True

def Pre_RepackIdeal (m : (ℓ : Loc Cert.RepackIdeal.nD Cert.RepackIdeal.τ Cert.RepackIdeal.sig) → Buf (Elt Ideal) ℓ) : Prop :=
  True

def Pre_RepackReferenceIdeal (m : (ℓ : Loc Cert.RepackReferenceIdeal.nD Cert.RepackReferenceIdeal.τ Cert.RepackReferenceIdeal.sig) → Buf (Elt Ideal) ℓ) : Prop :=
  True

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Fused [hFused : Cert.Fused.Facts] : Prop :=
  ∀ (m : (ℓ : Loc Cert.Fused.nD Cert.Fused.τ Cert.Fused.sig) → Buf (Elt Bits) ℓ) (g : Dev Cert.Fused.nD → PrngReg), Pre_Fused m →
    θ_run (Cert.Fused.defs (F := Bits)) (onTc (τ := Cert.Fused.τ) (Cert.Fused.main (F := Bits))) ⟨m, fun _ => 0, g⟩ (fun r => (∀ c : Dev Cert.Fused.nD,
      r.2.mem ((c.tc : Thread Cert.Fused.nD Cert.Fused.τ).loc Cert.Fused.main_arg0) = m ((c.tc : Thread Cert.Fused.nD Cert.Fused.τ).loc Cert.Fused.main_arg0)
      ∧ r.2.mem ((c.tc : Thread Cert.Fused.nD Cert.Fused.τ).loc Cert.Fused.main_arg1) = m ((c.tc : Thread Cert.Fused.nD Cert.Fused.τ).loc Cert.Fused.main_arg1)
      ∧ r.2.mem ((c.tc : Thread Cert.Fused.nD Cert.Fused.τ).loc Cert.Fused.main_arg2) = m ((c.tc : Thread Cert.Fused.nD Cert.Fused.τ).loc Cert.Fused.main_arg2)
      ∧ r.2.mem ((c.tc : Thread Cert.Fused.nD Cert.Fused.τ).loc Cert.Fused.main_arg3) = m ((c.tc : Thread Cert.Fused.nD Cert.Fused.τ).loc Cert.Fused.main_arg3)
      ∧ r.2.mem ((c.tc : Thread Cert.Fused.nD Cert.Fused.τ).loc Cert.Fused.main_arg4) = m ((c.tc : Thread Cert.Fused.nD Cert.Fused.τ).loc Cert.Fused.main_arg4)
      ∧ r.2.mem ((c.tc : Thread Cert.Fused.nD Cert.Fused.τ).loc Cert.Fused.main_arg5) = m ((c.tc : Thread Cert.Fused.nD Cert.Fused.τ).loc Cert.Fused.main_arg5)
      ∧ r.2.mem ((c.tc : Thread Cert.Fused.nD Cert.Fused.τ).loc Cert.Fused.main_arg6) = m ((c.tc : Thread Cert.Fused.nD Cert.Fused.τ).loc Cert.Fused.main_arg6)
      ∧ r.2.mem ((c.tc : Thread Cert.Fused.nD Cert.Fused.τ).loc Cert.Fused.main_arg7) = m ((c.tc : Thread Cert.Fused.nD Cert.Fused.τ).loc Cert.Fused.main_arg7)
      ∧ r.2.mem ((c.tc : Thread Cert.Fused.nD Cert.Fused.τ).loc Cert.Fused.main_arg8) = m ((c.tc : Thread Cert.Fused.nD Cert.Fused.τ).loc Cert.Fused.main_arg8)
      ∧ r.2.mem ((c.tc : Thread Cert.Fused.nD Cert.Fused.τ).loc Cert.Fused.main_arg9) = m ((c.tc : Thread Cert.Fused.nD Cert.Fused.τ).loc Cert.Fused.main_arg9))
      ∧ r.2.sem = fun _ => 0)

def quiescent_FusedIdeal [hFusedIdeal : Cert.FusedIdeal.Facts] : Prop :=
  ∀ (m : (ℓ : Loc Cert.FusedIdeal.nD Cert.FusedIdeal.τ Cert.FusedIdeal.sig) → Buf (Elt Ideal) ℓ) (g : Dev Cert.FusedIdeal.nD → PrngReg), Pre_FusedIdeal m →
    θ_run (Cert.FusedIdeal.defs (F := Ideal)) (onTc (τ := Cert.FusedIdeal.τ) (Cert.FusedIdeal.main (F := Ideal))) ⟨m, fun _ => 0, g⟩ (fun r => (∀ c : Dev Cert.FusedIdeal.nD,
      r.2.mem ((c.tc : Thread Cert.FusedIdeal.nD Cert.FusedIdeal.τ).loc Cert.FusedIdeal.main_arg0) = m ((c.tc : Thread Cert.FusedIdeal.nD Cert.FusedIdeal.τ).loc Cert.FusedIdeal.main_arg0)
      ∧ r.2.mem ((c.tc : Thread Cert.FusedIdeal.nD Cert.FusedIdeal.τ).loc Cert.FusedIdeal.main_arg1) = m ((c.tc : Thread Cert.FusedIdeal.nD Cert.FusedIdeal.τ).loc Cert.FusedIdeal.main_arg1)
      ∧ r.2.mem ((c.tc : Thread Cert.FusedIdeal.nD Cert.FusedIdeal.τ).loc Cert.FusedIdeal.main_arg2) = m ((c.tc : Thread Cert.FusedIdeal.nD Cert.FusedIdeal.τ).loc Cert.FusedIdeal.main_arg2)
      ∧ r.2.mem ((c.tc : Thread Cert.FusedIdeal.nD Cert.FusedIdeal.τ).loc Cert.FusedIdeal.main_arg3) = m ((c.tc : Thread Cert.FusedIdeal.nD Cert.FusedIdeal.τ).loc Cert.FusedIdeal.main_arg3)
      ∧ r.2.mem ((c.tc : Thread Cert.FusedIdeal.nD Cert.FusedIdeal.τ).loc Cert.FusedIdeal.main_arg4) = m ((c.tc : Thread Cert.FusedIdeal.nD Cert.FusedIdeal.τ).loc Cert.FusedIdeal.main_arg4)
      ∧ r.2.mem ((c.tc : Thread Cert.FusedIdeal.nD Cert.FusedIdeal.τ).loc Cert.FusedIdeal.main_arg5) = m ((c.tc : Thread Cert.FusedIdeal.nD Cert.FusedIdeal.τ).loc Cert.FusedIdeal.main_arg5)
      ∧ r.2.mem ((c.tc : Thread Cert.FusedIdeal.nD Cert.FusedIdeal.τ).loc Cert.FusedIdeal.main_arg6) = m ((c.tc : Thread Cert.FusedIdeal.nD Cert.FusedIdeal.τ).loc Cert.FusedIdeal.main_arg6)
      ∧ r.2.mem ((c.tc : Thread Cert.FusedIdeal.nD Cert.FusedIdeal.τ).loc Cert.FusedIdeal.main_arg7) = m ((c.tc : Thread Cert.FusedIdeal.nD Cert.FusedIdeal.τ).loc Cert.FusedIdeal.main_arg7)
      ∧ r.2.mem ((c.tc : Thread Cert.FusedIdeal.nD Cert.FusedIdeal.τ).loc Cert.FusedIdeal.main_arg8) = m ((c.tc : Thread Cert.FusedIdeal.nD Cert.FusedIdeal.τ).loc Cert.FusedIdeal.main_arg8)
      ∧ r.2.mem ((c.tc : Thread Cert.FusedIdeal.nD Cert.FusedIdeal.τ).loc Cert.FusedIdeal.main_arg9) = m ((c.tc : Thread Cert.FusedIdeal.nD Cert.FusedIdeal.τ).loc Cert.FusedIdeal.main_arg9))
      ∧ r.2.sem = fun _ => 0)

def quiescent_FusedIdeal_pre_finite_rows [hFusedIdeal : Cert.FusedIdeal.Facts] [hPre_finite_rows : Cert.Pre_finite_rows.Facts] : Prop :=
  ∀ (m : (ℓ : Loc Cert.FusedIdeal.nD Cert.FusedIdeal.τ Cert.FusedIdeal.sig) → Buf (Elt Ideal) ℓ) (g : Dev Cert.FusedIdeal.nD → PrngReg), Pre_FusedIdeal_finite_rows m →
    θ_run (Cert.FusedIdeal.defs (F := Ideal)) (onTc (τ := Cert.FusedIdeal.τ) (Cert.FusedIdeal.main (F := Ideal))) ⟨m, fun _ => 0, g⟩ (fun r => (∀ c : Dev Cert.FusedIdeal.nD,
      r.2.mem ((c.tc : Thread Cert.FusedIdeal.nD Cert.FusedIdeal.τ).loc Cert.FusedIdeal.main_arg0) = m ((c.tc : Thread Cert.FusedIdeal.nD Cert.FusedIdeal.τ).loc Cert.FusedIdeal.main_arg0)
      ∧ r.2.mem ((c.tc : Thread Cert.FusedIdeal.nD Cert.FusedIdeal.τ).loc Cert.FusedIdeal.main_arg1) = m ((c.tc : Thread Cert.FusedIdeal.nD Cert.FusedIdeal.τ).loc Cert.FusedIdeal.main_arg1)
      ∧ r.2.mem ((c.tc : Thread Cert.FusedIdeal.nD Cert.FusedIdeal.τ).loc Cert.FusedIdeal.main_arg2) = m ((c.tc : Thread Cert.FusedIdeal.nD Cert.FusedIdeal.τ).loc Cert.FusedIdeal.main_arg2)
      ∧ r.2.mem ((c.tc : Thread Cert.FusedIdeal.nD Cert.FusedIdeal.τ).loc Cert.FusedIdeal.main_arg3) = m ((c.tc : Thread Cert.FusedIdeal.nD Cert.FusedIdeal.τ).loc Cert.FusedIdeal.main_arg3)
      ∧ r.2.mem ((c.tc : Thread Cert.FusedIdeal.nD Cert.FusedIdeal.τ).loc Cert.FusedIdeal.main_arg4) = m ((c.tc : Thread Cert.FusedIdeal.nD Cert.FusedIdeal.τ).loc Cert.FusedIdeal.main_arg4)
      ∧ r.2.mem ((c.tc : Thread Cert.FusedIdeal.nD Cert.FusedIdeal.τ).loc Cert.FusedIdeal.main_arg5) = m ((c.tc : Thread Cert.FusedIdeal.nD Cert.FusedIdeal.τ).loc Cert.FusedIdeal.main_arg5)
      ∧ r.2.mem ((c.tc : Thread Cert.FusedIdeal.nD Cert.FusedIdeal.τ).loc Cert.FusedIdeal.main_arg6) = m ((c.tc : Thread Cert.FusedIdeal.nD Cert.FusedIdeal.τ).loc Cert.FusedIdeal.main_arg6)
      ∧ r.2.mem ((c.tc : Thread Cert.FusedIdeal.nD Cert.FusedIdeal.τ).loc Cert.FusedIdeal.main_arg7) = m ((c.tc : Thread Cert.FusedIdeal.nD Cert.FusedIdeal.τ).loc Cert.FusedIdeal.main_arg7)
      ∧ r.2.mem ((c.tc : Thread Cert.FusedIdeal.nD Cert.FusedIdeal.τ).loc Cert.FusedIdeal.main_arg8) = m ((c.tc : Thread Cert.FusedIdeal.nD Cert.FusedIdeal.τ).loc Cert.FusedIdeal.main_arg8)
      ∧ r.2.mem ((c.tc : Thread Cert.FusedIdeal.nD Cert.FusedIdeal.τ).loc Cert.FusedIdeal.main_arg9) = m ((c.tc : Thread Cert.FusedIdeal.nD Cert.FusedIdeal.τ).loc Cert.FusedIdeal.main_arg9))
      ∧ r.2.sem = fun _ => 0)

def quiescent_FusedReferenceIdeal [hFusedReferenceIdeal : Cert.FusedReferenceIdeal.Facts] : Prop :=
  ∀ (m : (ℓ : Loc Cert.FusedReferenceIdeal.nD Cert.FusedReferenceIdeal.τ Cert.FusedReferenceIdeal.sig) → Buf (Elt Ideal) ℓ) (g : Dev Cert.FusedReferenceIdeal.nD → PrngReg), Pre_FusedReferenceIdeal m →
    θ_run (Cert.FusedReferenceIdeal.defs (F := Ideal)) (onTc (τ := Cert.FusedReferenceIdeal.τ) (Cert.FusedReferenceIdeal.main (F := Ideal))) ⟨m, fun _ => 0, g⟩ (fun r => (∀ c : Dev Cert.FusedReferenceIdeal.nD,
      r.2.mem ((c.tc : Thread Cert.FusedReferenceIdeal.nD Cert.FusedReferenceIdeal.τ).loc Cert.FusedReferenceIdeal.main_arg0) = m ((c.tc : Thread Cert.FusedReferenceIdeal.nD Cert.FusedReferenceIdeal.τ).loc Cert.FusedReferenceIdeal.main_arg0)
      ∧ r.2.mem ((c.tc : Thread Cert.FusedReferenceIdeal.nD Cert.FusedReferenceIdeal.τ).loc Cert.FusedReferenceIdeal.main_arg1) = m ((c.tc : Thread Cert.FusedReferenceIdeal.nD Cert.FusedReferenceIdeal.τ).loc Cert.FusedReferenceIdeal.main_arg1)
      ∧ r.2.mem ((c.tc : Thread Cert.FusedReferenceIdeal.nD Cert.FusedReferenceIdeal.τ).loc Cert.FusedReferenceIdeal.main_arg2) = m ((c.tc : Thread Cert.FusedReferenceIdeal.nD Cert.FusedReferenceIdeal.τ).loc Cert.FusedReferenceIdeal.main_arg2)
      ∧ r.2.mem ((c.tc : Thread Cert.FusedReferenceIdeal.nD Cert.FusedReferenceIdeal.τ).loc Cert.FusedReferenceIdeal.main_arg3) = m ((c.tc : Thread Cert.FusedReferenceIdeal.nD Cert.FusedReferenceIdeal.τ).loc Cert.FusedReferenceIdeal.main_arg3)
      ∧ r.2.mem ((c.tc : Thread Cert.FusedReferenceIdeal.nD Cert.FusedReferenceIdeal.τ).loc Cert.FusedReferenceIdeal.main_arg4) = m ((c.tc : Thread Cert.FusedReferenceIdeal.nD Cert.FusedReferenceIdeal.τ).loc Cert.FusedReferenceIdeal.main_arg4)
      ∧ r.2.mem ((c.tc : Thread Cert.FusedReferenceIdeal.nD Cert.FusedReferenceIdeal.τ).loc Cert.FusedReferenceIdeal.main_arg5) = m ((c.tc : Thread Cert.FusedReferenceIdeal.nD Cert.FusedReferenceIdeal.τ).loc Cert.FusedReferenceIdeal.main_arg5)
      ∧ r.2.mem ((c.tc : Thread Cert.FusedReferenceIdeal.nD Cert.FusedReferenceIdeal.τ).loc Cert.FusedReferenceIdeal.main_arg6) = m ((c.tc : Thread Cert.FusedReferenceIdeal.nD Cert.FusedReferenceIdeal.τ).loc Cert.FusedReferenceIdeal.main_arg6)
      ∧ r.2.mem ((c.tc : Thread Cert.FusedReferenceIdeal.nD Cert.FusedReferenceIdeal.τ).loc Cert.FusedReferenceIdeal.main_arg7) = m ((c.tc : Thread Cert.FusedReferenceIdeal.nD Cert.FusedReferenceIdeal.τ).loc Cert.FusedReferenceIdeal.main_arg7)
      ∧ r.2.mem ((c.tc : Thread Cert.FusedReferenceIdeal.nD Cert.FusedReferenceIdeal.τ).loc Cert.FusedReferenceIdeal.main_arg8) = m ((c.tc : Thread Cert.FusedReferenceIdeal.nD Cert.FusedReferenceIdeal.τ).loc Cert.FusedReferenceIdeal.main_arg8)
      ∧ r.2.mem ((c.tc : Thread Cert.FusedReferenceIdeal.nD Cert.FusedReferenceIdeal.τ).loc Cert.FusedReferenceIdeal.main_arg9) = m ((c.tc : Thread Cert.FusedReferenceIdeal.nD Cert.FusedReferenceIdeal.τ).loc Cert.FusedReferenceIdeal.main_arg9))
      ∧ r.2.sem = fun _ => 0)

def quiescent_FusedReferenceIdeal_pre_finite_rows [hFusedReferenceIdeal : Cert.FusedReferenceIdeal.Facts] [hPre_finite_rows : Cert.Pre_finite_rows.Facts] : Prop :=
  ∀ (m : (ℓ : Loc Cert.FusedReferenceIdeal.nD Cert.FusedReferenceIdeal.τ Cert.FusedReferenceIdeal.sig) → Buf (Elt Ideal) ℓ) (g : Dev Cert.FusedReferenceIdeal.nD → PrngReg), Pre_FusedReferenceIdeal_finite_rows m →
    θ_run (Cert.FusedReferenceIdeal.defs (F := Ideal)) (onTc (τ := Cert.FusedReferenceIdeal.τ) (Cert.FusedReferenceIdeal.main (F := Ideal))) ⟨m, fun _ => 0, g⟩ (fun r => (∀ c : Dev Cert.FusedReferenceIdeal.nD,
      r.2.mem ((c.tc : Thread Cert.FusedReferenceIdeal.nD Cert.FusedReferenceIdeal.τ).loc Cert.FusedReferenceIdeal.main_arg0) = m ((c.tc : Thread Cert.FusedReferenceIdeal.nD Cert.FusedReferenceIdeal.τ).loc Cert.FusedReferenceIdeal.main_arg0)
      ∧ r.2.mem ((c.tc : Thread Cert.FusedReferenceIdeal.nD Cert.FusedReferenceIdeal.τ).loc Cert.FusedReferenceIdeal.main_arg1) = m ((c.tc : Thread Cert.FusedReferenceIdeal.nD Cert.FusedReferenceIdeal.τ).loc Cert.FusedReferenceIdeal.main_arg1)
      ∧ r.2.mem ((c.tc : Thread Cert.FusedReferenceIdeal.nD Cert.FusedReferenceIdeal.τ).loc Cert.FusedReferenceIdeal.main_arg2) = m ((c.tc : Thread Cert.FusedReferenceIdeal.nD Cert.FusedReferenceIdeal.τ).loc Cert.FusedReferenceIdeal.main_arg2)
      ∧ r.2.mem ((c.tc : Thread Cert.FusedReferenceIdeal.nD Cert.FusedReferenceIdeal.τ).loc Cert.FusedReferenceIdeal.main_arg3) = m ((c.tc : Thread Cert.FusedReferenceIdeal.nD Cert.FusedReferenceIdeal.τ).loc Cert.FusedReferenceIdeal.main_arg3)
      ∧ r.2.mem ((c.tc : Thread Cert.FusedReferenceIdeal.nD Cert.FusedReferenceIdeal.τ).loc Cert.FusedReferenceIdeal.main_arg4) = m ((c.tc : Thread Cert.FusedReferenceIdeal.nD Cert.FusedReferenceIdeal.τ).loc Cert.FusedReferenceIdeal.main_arg4)
      ∧ r.2.mem ((c.tc : Thread Cert.FusedReferenceIdeal.nD Cert.FusedReferenceIdeal.τ).loc Cert.FusedReferenceIdeal.main_arg5) = m ((c.tc : Thread Cert.FusedReferenceIdeal.nD Cert.FusedReferenceIdeal.τ).loc Cert.FusedReferenceIdeal.main_arg5)
      ∧ r.2.mem ((c.tc : Thread Cert.FusedReferenceIdeal.nD Cert.FusedReferenceIdeal.τ).loc Cert.FusedReferenceIdeal.main_arg6) = m ((c.tc : Thread Cert.FusedReferenceIdeal.nD Cert.FusedReferenceIdeal.τ).loc Cert.FusedReferenceIdeal.main_arg6)
      ∧ r.2.mem ((c.tc : Thread Cert.FusedReferenceIdeal.nD Cert.FusedReferenceIdeal.τ).loc Cert.FusedReferenceIdeal.main_arg7) = m ((c.tc : Thread Cert.FusedReferenceIdeal.nD Cert.FusedReferenceIdeal.τ).loc Cert.FusedReferenceIdeal.main_arg7)
      ∧ r.2.mem ((c.tc : Thread Cert.FusedReferenceIdeal.nD Cert.FusedReferenceIdeal.τ).loc Cert.FusedReferenceIdeal.main_arg8) = m ((c.tc : Thread Cert.FusedReferenceIdeal.nD Cert.FusedReferenceIdeal.τ).loc Cert.FusedReferenceIdeal.main_arg8)
      ∧ r.2.mem ((c.tc : Thread Cert.FusedReferenceIdeal.nD Cert.FusedReferenceIdeal.τ).loc Cert.FusedReferenceIdeal.main_arg9) = m ((c.tc : Thread Cert.FusedReferenceIdeal.nD Cert.FusedReferenceIdeal.τ).loc Cert.FusedReferenceIdeal.main_arg9))
      ∧ r.2.sem = fun _ => 0)

def quiescent_Repack [hRepack : Cert.Repack.Facts] : Prop :=
  ∀ (m : (ℓ : Loc Cert.Repack.nD Cert.Repack.τ Cert.Repack.sig) → Buf (Elt Bits) ℓ) (g : Dev Cert.Repack.nD → PrngReg), Pre_Repack m →
    θ_run (Cert.Repack.defs (F := Bits)) (onTc (τ := Cert.Repack.τ) (Cert.Repack.main (F := Bits))) ⟨m, fun _ => 0, g⟩ (fun r => (∀ c : Dev Cert.Repack.nD,
      r.2.mem ((c.tc : Thread Cert.Repack.nD Cert.Repack.τ).loc Cert.Repack.main_arg0) = m ((c.tc : Thread Cert.Repack.nD Cert.Repack.τ).loc Cert.Repack.main_arg0))
      ∧ r.2.sem = fun _ => 0)

def quiescent_RepackIdeal [hRepackIdeal : Cert.RepackIdeal.Facts] : Prop :=
  ∀ (m : (ℓ : Loc Cert.RepackIdeal.nD Cert.RepackIdeal.τ Cert.RepackIdeal.sig) → Buf (Elt Ideal) ℓ) (g : Dev Cert.RepackIdeal.nD → PrngReg), Pre_RepackIdeal m →
    θ_run (Cert.RepackIdeal.defs (F := Ideal)) (onTc (τ := Cert.RepackIdeal.τ) (Cert.RepackIdeal.main (F := Ideal))) ⟨m, fun _ => 0, g⟩ (fun r => (∀ c : Dev Cert.RepackIdeal.nD,
      r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ r.2.sem = fun _ => 0)

def quiescent_RepackReferenceIdeal [hRepackReferenceIdeal : Cert.RepackReferenceIdeal.Facts] : Prop :=
  ∀ (m : (ℓ : Loc Cert.RepackReferenceIdeal.nD Cert.RepackReferenceIdeal.τ Cert.RepackReferenceIdeal.sig) → Buf (Elt Ideal) ℓ) (g : Dev Cert.RepackReferenceIdeal.nD → PrngReg), Pre_RepackReferenceIdeal m →
    θ_run (Cert.RepackReferenceIdeal.defs (F := Ideal)) (onTc (τ := Cert.RepackReferenceIdeal.τ) (Cert.RepackReferenceIdeal.main (F := Ideal))) ⟨m, fun _ => 0, g⟩ (fun r => (∀ c : Dev Cert.RepackReferenceIdeal.nD,
      r.2.mem ((c.tc : Thread Cert.RepackReferenceIdeal.nD Cert.RepackReferenceIdeal.τ).loc Cert.RepackReferenceIdeal.main_arg0) = m ((c.tc : Thread Cert.RepackReferenceIdeal.nD Cert.RepackReferenceIdeal.τ).loc Cert.RepackReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Fused_FusedIdeal : Prop :=
  True

def algebraic_FusedIdeal_FusedReferenceIdeal_pre_finite_rows [hFusedIdeal : Cert.FusedIdeal.Facts] [hFusedReferenceIdeal : Cert.FusedReferenceIdeal.Facts] [hPre_finite_rows : Cert.Pre_finite_rows.Facts] : Prop :=
  ∀ (m : (ℓ : Loc Cert.FusedIdeal.nD Cert.FusedIdeal.τ Cert.FusedIdeal.sig) → Buf (Elt Ideal) ℓ) (g : Dev Cert.FusedIdeal.nD → PrngReg)
    (m' : (ℓ : Loc Cert.FusedReferenceIdeal.nD Cert.FusedReferenceIdeal.τ Cert.FusedReferenceIdeal.sig) → Buf (Elt Ideal) ℓ) (g' : Dev Cert.FusedReferenceIdeal.nD → PrngReg), Pre_FusedIdeal_finite_rows m →
    (∀ c : Dev Cert.FusedIdeal.nD,
      m' ((c.tc : Thread Cert.FusedReferenceIdeal.nD Cert.FusedReferenceIdeal.τ).loc Cert.FusedReferenceIdeal.main_arg0) = m ((c.tc : Thread Cert.FusedIdeal.nD Cert.FusedIdeal.τ).loc Cert.FusedIdeal.main_arg0)
      ∧ m' ((c.tc : Thread Cert.FusedReferenceIdeal.nD Cert.FusedReferenceIdeal.τ).loc Cert.FusedReferenceIdeal.main_arg1) = m ((c.tc : Thread Cert.FusedIdeal.nD Cert.FusedIdeal.τ).loc Cert.FusedIdeal.main_arg1)
      ∧ m' ((c.tc : Thread Cert.FusedReferenceIdeal.nD Cert.FusedReferenceIdeal.τ).loc Cert.FusedReferenceIdeal.main_arg2) = m ((c.tc : Thread Cert.FusedIdeal.nD Cert.FusedIdeal.τ).loc Cert.FusedIdeal.main_arg2)
      ∧ m' ((c.tc : Thread Cert.FusedReferenceIdeal.nD Cert.FusedReferenceIdeal.τ).loc Cert.FusedReferenceIdeal.main_arg3) = m ((c.tc : Thread Cert.FusedIdeal.nD Cert.FusedIdeal.τ).loc Cert.FusedIdeal.main_arg3)
      ∧ m' ((c.tc : Thread Cert.FusedReferenceIdeal.nD Cert.FusedReferenceIdeal.τ).loc Cert.FusedReferenceIdeal.main_arg4) = m ((c.tc : Thread Cert.FusedIdeal.nD Cert.FusedIdeal.τ).loc Cert.FusedIdeal.main_arg4)
      ∧ m' ((c.tc : Thread Cert.FusedReferenceIdeal.nD Cert.FusedReferenceIdeal.τ).loc Cert.FusedReferenceIdeal.main_arg5) = m ((c.tc : Thread Cert.FusedIdeal.nD Cert.FusedIdeal.τ).loc Cert.FusedIdeal.main_arg5)
      ∧ m' ((c.tc : Thread Cert.FusedReferenceIdeal.nD Cert.FusedReferenceIdeal.τ).loc Cert.FusedReferenceIdeal.main_arg6) = m ((c.tc : Thread Cert.FusedIdeal.nD Cert.FusedIdeal.τ).loc Cert.FusedIdeal.main_arg6)
      ∧ m' ((c.tc : Thread Cert.FusedReferenceIdeal.nD Cert.FusedReferenceIdeal.τ).loc Cert.FusedReferenceIdeal.main_arg7) = m ((c.tc : Thread Cert.FusedIdeal.nD Cert.FusedIdeal.τ).loc Cert.FusedIdeal.main_arg7)
      ∧ m' ((c.tc : Thread Cert.FusedReferenceIdeal.nD Cert.FusedReferenceIdeal.τ).loc Cert.FusedReferenceIdeal.main_arg8) = m ((c.tc : Thread Cert.FusedIdeal.nD Cert.FusedIdeal.τ).loc Cert.FusedIdeal.main_arg8)
      ∧ m' ((c.tc : Thread Cert.FusedReferenceIdeal.nD Cert.FusedReferenceIdeal.τ).loc Cert.FusedReferenceIdeal.main_arg9) = m ((c.tc : Thread Cert.FusedIdeal.nD Cert.FusedIdeal.τ).loc Cert.FusedIdeal.main_arg9)) →
    ∃ (v0 : (c : Dev Cert.FusedIdeal.nD) → Buf (Elt Ideal) ((c.tc : Thread Cert.FusedIdeal.nD Cert.FusedIdeal.τ).loc Cert.FusedIdeal.main_v21)),
      θ_run (Cert.FusedIdeal.defs (F := Ideal)) (onTc (τ := Cert.FusedIdeal.τ) (Cert.FusedIdeal.main (F := Ideal))) ⟨m, fun _ => 0, g⟩ (fun r => ∀ c : Dev Cert.FusedIdeal.nD,
          r.2.mem ((c.tc : Thread Cert.FusedIdeal.nD Cert.FusedIdeal.τ).loc Cert.FusedIdeal.main_v21) = v0 c
          ∧ r.2.mem ((c.tc : Thread Cert.FusedIdeal.nD Cert.FusedIdeal.τ).loc Cert.FusedIdeal.main_arg0) = m ((c.tc : Thread Cert.FusedIdeal.nD Cert.FusedIdeal.τ).loc Cert.FusedIdeal.main_arg0)
          ∧ r.2.mem ((c.tc : Thread Cert.FusedIdeal.nD Cert.FusedIdeal.τ).loc Cert.FusedIdeal.main_arg1) = m ((c.tc : Thread Cert.FusedIdeal.nD Cert.FusedIdeal.τ).loc Cert.FusedIdeal.main_arg1)
          ∧ r.2.mem ((c.tc : Thread Cert.FusedIdeal.nD Cert.FusedIdeal.τ).loc Cert.FusedIdeal.main_arg2) = m ((c.tc : Thread Cert.FusedIdeal.nD Cert.FusedIdeal.τ).loc Cert.FusedIdeal.main_arg2)
          ∧ r.2.mem ((c.tc : Thread Cert.FusedIdeal.nD Cert.FusedIdeal.τ).loc Cert.FusedIdeal.main_arg3) = m ((c.tc : Thread Cert.FusedIdeal.nD Cert.FusedIdeal.τ).loc Cert.FusedIdeal.main_arg3)
          ∧ r.2.mem ((c.tc : Thread Cert.FusedIdeal.nD Cert.FusedIdeal.τ).loc Cert.FusedIdeal.main_arg4) = m ((c.tc : Thread Cert.FusedIdeal.nD Cert.FusedIdeal.τ).loc Cert.FusedIdeal.main_arg4)
          ∧ r.2.mem ((c.tc : Thread Cert.FusedIdeal.nD Cert.FusedIdeal.τ).loc Cert.FusedIdeal.main_arg5) = m ((c.tc : Thread Cert.FusedIdeal.nD Cert.FusedIdeal.τ).loc Cert.FusedIdeal.main_arg5)
          ∧ r.2.mem ((c.tc : Thread Cert.FusedIdeal.nD Cert.FusedIdeal.τ).loc Cert.FusedIdeal.main_arg6) = m ((c.tc : Thread Cert.FusedIdeal.nD Cert.FusedIdeal.τ).loc Cert.FusedIdeal.main_arg6)
          ∧ r.2.mem ((c.tc : Thread Cert.FusedIdeal.nD Cert.FusedIdeal.τ).loc Cert.FusedIdeal.main_arg7) = m ((c.tc : Thread Cert.FusedIdeal.nD Cert.FusedIdeal.τ).loc Cert.FusedIdeal.main_arg7)
          ∧ r.2.mem ((c.tc : Thread Cert.FusedIdeal.nD Cert.FusedIdeal.τ).loc Cert.FusedIdeal.main_arg8) = m ((c.tc : Thread Cert.FusedIdeal.nD Cert.FusedIdeal.τ).loc Cert.FusedIdeal.main_arg8)
          ∧ r.2.mem ((c.tc : Thread Cert.FusedIdeal.nD Cert.FusedIdeal.τ).loc Cert.FusedIdeal.main_arg9) = m ((c.tc : Thread Cert.FusedIdeal.nD Cert.FusedIdeal.τ).loc Cert.FusedIdeal.main_arg9))
      ∧ θ_run (Cert.FusedReferenceIdeal.defs (F := Ideal)) (onTc (τ := Cert.FusedReferenceIdeal.τ) (Cert.FusedReferenceIdeal.main (F := Ideal))) ⟨m', fun _ => 0, g'⟩ (fun r => ∀ c : Dev Cert.FusedReferenceIdeal.nD,
          r.2.mem ((c.tc : Thread Cert.FusedReferenceIdeal.nD Cert.FusedReferenceIdeal.τ).loc Cert.FusedReferenceIdeal.main_v154) = v0 c
          ∧ r.2.mem ((c.tc : Thread Cert.FusedReferenceIdeal.nD Cert.FusedReferenceIdeal.τ).loc Cert.FusedReferenceIdeal.main_arg0) = m' ((c.tc : Thread Cert.FusedReferenceIdeal.nD Cert.FusedReferenceIdeal.τ).loc Cert.FusedReferenceIdeal.main_arg0)
          ∧ r.2.mem ((c.tc : Thread Cert.FusedReferenceIdeal.nD Cert.FusedReferenceIdeal.τ).loc Cert.FusedReferenceIdeal.main_arg1) = m' ((c.tc : Thread Cert.FusedReferenceIdeal.nD Cert.FusedReferenceIdeal.τ).loc Cert.FusedReferenceIdeal.main_arg1)
          ∧ r.2.mem ((c.tc : Thread Cert.FusedReferenceIdeal.nD Cert.FusedReferenceIdeal.τ).loc Cert.FusedReferenceIdeal.main_arg2) = m' ((c.tc : Thread Cert.FusedReferenceIdeal.nD Cert.FusedReferenceIdeal.τ).loc Cert.FusedReferenceIdeal.main_arg2)
          ∧ r.2.mem ((c.tc : Thread Cert.FusedReferenceIdeal.nD Cert.FusedReferenceIdeal.τ).loc Cert.FusedReferenceIdeal.main_arg3) = m' ((c.tc : Thread Cert.FusedReferenceIdeal.nD Cert.FusedReferenceIdeal.τ).loc Cert.FusedReferenceIdeal.main_arg3)
          ∧ r.2.mem ((c.tc : Thread Cert.FusedReferenceIdeal.nD Cert.FusedReferenceIdeal.τ).loc Cert.FusedReferenceIdeal.main_arg4) = m' ((c.tc : Thread Cert.FusedReferenceIdeal.nD Cert.FusedReferenceIdeal.τ).loc Cert.FusedReferenceIdeal.main_arg4)
          ∧ r.2.mem ((c.tc : Thread Cert.FusedReferenceIdeal.nD Cert.FusedReferenceIdeal.τ).loc Cert.FusedReferenceIdeal.main_arg5) = m' ((c.tc : Thread Cert.FusedReferenceIdeal.nD Cert.FusedReferenceIdeal.τ).loc Cert.FusedReferenceIdeal.main_arg5)
          ∧ r.2.mem ((c.tc : Thread Cert.FusedReferenceIdeal.nD Cert.FusedReferenceIdeal.τ).loc Cert.FusedReferenceIdeal.main_arg6) = m' ((c.tc : Thread Cert.FusedReferenceIdeal.nD Cert.FusedReferenceIdeal.τ).loc Cert.FusedReferenceIdeal.main_arg6)
          ∧ r.2.mem ((c.tc : Thread Cert.FusedReferenceIdeal.nD Cert.FusedReferenceIdeal.τ).loc Cert.FusedReferenceIdeal.main_arg7) = m' ((c.tc : Thread Cert.FusedReferenceIdeal.nD Cert.FusedReferenceIdeal.τ).loc Cert.FusedReferenceIdeal.main_arg7)
          ∧ r.2.mem ((c.tc : Thread Cert.FusedReferenceIdeal.nD Cert.FusedReferenceIdeal.τ).loc Cert.FusedReferenceIdeal.main_arg8) = m' ((c.tc : Thread Cert.FusedReferenceIdeal.nD Cert.FusedReferenceIdeal.τ).loc Cert.FusedReferenceIdeal.main_arg8)
          ∧ r.2.mem ((c.tc : Thread Cert.FusedReferenceIdeal.nD Cert.FusedReferenceIdeal.τ).loc Cert.FusedReferenceIdeal.main_arg9) = m' ((c.tc : Thread Cert.FusedReferenceIdeal.nD Cert.FusedReferenceIdeal.τ).loc Cert.FusedReferenceIdeal.main_arg9))

def preserves_Repack_RepackIdeal : Prop :=
  True

def algebraic_RepackIdeal_RepackReferenceIdeal [hRepackIdeal : Cert.RepackIdeal.Facts] [hRepackReferenceIdeal : Cert.RepackReferenceIdeal.Facts] : Prop :=
  ∀ (m : (ℓ : Loc Cert.RepackIdeal.nD Cert.RepackIdeal.τ Cert.RepackIdeal.sig) → Buf (Elt Ideal) ℓ) (g : Dev Cert.RepackIdeal.nD → PrngReg)
    (m' : (ℓ : Loc Cert.RepackReferenceIdeal.nD Cert.RepackReferenceIdeal.τ Cert.RepackReferenceIdeal.sig) → Buf (Elt Ideal) ℓ) (g' : Dev Cert.RepackReferenceIdeal.nD → PrngReg), Pre_RepackIdeal m →
    (∀ c : Dev Cert.RepackIdeal.nD,
      m' ((c.tc : Thread Cert.RepackReferenceIdeal.nD Cert.RepackReferenceIdeal.τ).loc Cert.RepackReferenceIdeal.main_arg0) = m ((c.tc : Thread Cert.RepackIdeal.nD Cert.RepackIdeal.τ).loc Cert.RepackIdeal.main_arg0)) →
    ∃ (v0 : (c : Dev Cert.RepackIdeal.nD) → Buf (Elt Ideal) ((c.tc : Thread Cert.RepackIdeal.nD Cert.RepackIdeal.τ).loc Cert.RepackIdeal.main_v0)),
      θ_run (Cert.RepackIdeal.defs (F := Ideal)) (onTc (τ := Cert.RepackIdeal.τ) (Cert.RepackIdeal.main (F := Ideal))) ⟨m, fun _ => 0, g⟩ (fun r => ∀ c : Dev Cert.RepackIdeal.nD,
          r.2.mem ((c.tc : Thread Cert.RepackIdeal.nD Cert.RepackIdeal.τ).loc Cert.RepackIdeal.main_v0) = v0 c
          ∧ r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ θ_run (Cert.RepackReferenceIdeal.defs (F := Ideal)) (onTc (τ := Cert.RepackReferenceIdeal.τ) (Cert.RepackReferenceIdeal.main (F := Ideal))) ⟨m', fun _ => 0, g'⟩ (fun r => ∀ c : Dev Cert.RepackReferenceIdeal.nD,
          r.2.mem ((c.tc : Thread Cert.RepackReferenceIdeal.nD Cert.RepackReferenceIdeal.τ).loc Cert.RepackReferenceIdeal.main_v2) = v0 c
          ∧ r.2.mem ((c.tc : Thread Cert.RepackReferenceIdeal.nD Cert.RepackReferenceIdeal.τ).loc Cert.RepackReferenceIdeal.main_arg0) = m' ((c.tc : Thread Cert.RepackReferenceIdeal.nD Cert.RepackReferenceIdeal.τ).loc Cert.RepackReferenceIdeal.main_arg0))

def Claim : Prop :=
  ∃ (hKernel : Cert.Kernel.Facts) (hKernelIdeal : Cert.KernelIdeal.Facts) (hReferenceIdeal : Cert.ReferenceIdeal.Facts) (hFused : Cert.Fused.Facts) (hFusedIdeal : Cert.FusedIdeal.Facts) (hFusedReferenceIdeal : Cert.FusedReferenceIdeal.Facts) (hRepack : Cert.Repack.Facts) (hRepackIdeal : Cert.RepackIdeal.Facts) (hRepackReferenceIdeal : Cert.RepackReferenceIdeal.Facts) (hPre_in_vocabulary : Cert.Pre_in_vocabulary.Facts) (hPre_finite_rows : Cert.Pre_finite_rows.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ quiescent_Fused (hFused := hFused)
    ∧ quiescent_FusedIdeal (hFusedIdeal := hFusedIdeal)
    ∧ quiescent_FusedIdeal_pre_finite_rows (hFusedIdeal := hFusedIdeal) (hPre_finite_rows := hPre_finite_rows)
    ∧ quiescent_FusedReferenceIdeal (hFusedReferenceIdeal := hFusedReferenceIdeal)
    ∧ quiescent_FusedReferenceIdeal_pre_finite_rows (hFusedReferenceIdeal := hFusedReferenceIdeal) (hPre_finite_rows := hPre_finite_rows)
    ∧ quiescent_Repack (hRepack := hRepack)
    ∧ quiescent_RepackIdeal (hRepackIdeal := hRepackIdeal)
    ∧ quiescent_RepackReferenceIdeal (hRepackReferenceIdeal := hRepackReferenceIdeal)
    ∧ preserves_Kernel_KernelIdeal
    ∧ algebraic_KernelIdeal_ReferenceIdeal (hKernelIdeal := hKernelIdeal) (hReferenceIdeal := hReferenceIdeal) (hPre_in_vocabulary := hPre_in_vocabulary)
    ∧ preserves_Fused_FusedIdeal
    ∧ algebraic_FusedIdeal_FusedReferenceIdeal_pre_finite_rows (hFusedIdeal := hFusedIdeal) (hFusedReferenceIdeal := hFusedReferenceIdeal) (hPre_finite_rows := hPre_finite_rows)
    ∧ preserves_Repack_RepackIdeal
    ∧ algebraic_RepackIdeal_RepackReferenceIdeal (hRepackIdeal := hRepackIdeal) (hRepackReferenceIdeal := hRepackReferenceIdeal)
-- ==== Pre_finite_rows.lean ====
abbrev S128x200 : Shape := ⟨2, ![128, 200]⟩
abbrev S4 : Shape := ⟨1, ![4]⟩
abbrev S25600x128 : Shape := ⟨2, ![25600, 128]⟩
abbrev S64x192 : Shape := ⟨2, ![64, 192]⟩
abbrev S192 : Shape := ⟨1, ![192]⟩
abbrev S64x64 : Shape := ⟨2, ![64, 64]⟩
abbrev S64 : Shape := ⟨1, ![64]⟩
abbrev S64x100000 : Shape := ⟨2, ![64, 100000]⟩
abbrev S100000 : Shape := ⟨1, ![100000]⟩
abbrev S_ : Shape := ⟨0, ![]⟩

class Facts : Prop where
  bcast_S_S25600x128 : S_.BroadcastsInDim S25600x128 (![] : Fin 0 → Fin S25600x128.rank)
  reducesTo_S25600x128_S_d0_1 : S25600x128.ReducesTo [0, 1] S_
  h_S_ : 0 < S_.numel

variable [Facts]

def fn {F : FTy → Type} [FloatOps F] (main_arg0 : IVec S128x200 32) (main_arg1 : FVec F S4 .f32) (main_arg2 : FVec F S25600x128 .f32) (main_arg3 : FVec F S64x192 .f32) (main_arg4 : FVec F S64x192 .f32) (main_arg5 : FVec F S192 .f32) (main_arg6 : FVec F S64x64 .f32) (main_arg7 : FVec F S64 .f32) (main_arg8 : FVec F S64x100000 .f32) (main_arg9 : FVec F S100000 .f32) : IVec S_ 1 :=
  let main_v0 : FVec F S25600x128 .f32 := Host.absf main_arg2
  let main_cst : FVec F S_ .f32 := constant S_ .f32 0x7F800000#32
  let main_v1 : FVec F S25600x128 .f32 := broadcastInDim S25600x128 ![] bcast_S_S25600x128 main_cst
  let main_v2 : IVec S25600x128 1 := cmpf .olt main_v0 main_v1
  let main_c : IVec S_ 1 := constantI S_ 1 1#1
  let main_v3 : IVec S_ 1 := (fun x v => Host.reduce IntOp.andi x v reducesTo_S25600x128_S_d0_1 h_S_) main_v2 main_c
  main_v3
-- ==== Pre_in_vocabulary.lean ====
abbrev S128x200 : Shape := ⟨2, ![128, 200]⟩
abbrev S50000x128 : Shape := ⟨2, ![50000, 128]⟩
abbrev S_ : Shape := ⟨0, ![]⟩

class Facts : Prop where
  bcast_S_S128x200 : S_.BroadcastsInDim S128x200 (![] : Fin 0 → Fin S128x200.rank)

variable [Facts]

def fn {F : FTy → Type} [FloatOps F] (main_arg0 : IVec S128x200 32) (main_arg1 : FVec F S50000x128 .f32) : IVec S128x200 1 :=
  let main_c : IVec S_ 32 := constantI S_ 32 0#32
  let main_v0 : IVec S128x200 32 := broadcastInDim S128x200 ![] bcast_S_S128x200 main_c
  let main_v1 : IVec S128x200 1 := cmpi .sge main_arg0 main_v0
  let main_c_0 : IVec S_ 32 := constantI S_ 32 100000#32
  let main_v2 : IVec S128x200 32 := broadcastInDim S128x200 ![] bcast_S_S128x200 main_c_0
  let main_v3 : IVec S128x200 1 := cmpi .slt main_arg0 main_v2
  let main_v4 : IVec S128x200 1 := andi main_v1 main_v3
  main_v4
-- ==== Kernel.lean ====
abbrev S128x200 : Shape := ⟨2, ![128, 200]⟩
abbrev S50000x128 : Shape := ⟨2, ![50000, 128]⟩
abbrev S200x128 : Shape := ⟨2, ![200, 128]⟩
abbrev S25600 : Shape := ⟨1, ![25600]⟩
abbrev S_ : Shape := ⟨0, ![]⟩
abbrev S32x8x100 : Shape := ⟨3, ![32, 8, 100]⟩
abbrev S25600x128 : Shape := ⟨2, ![25600, 128]⟩
abbrev S8x100 : Shape := ⟨2, ![8, 100]⟩
abbrev S800x128 : Shape := ⟨2, ![800, 128]⟩
abbrev S1x8x100 : Shape := ⟨3, ![1, 8, 100]⟩
abbrev S100x128 : Shape := ⟨2, ![100, 128]⟩
abbrev S1x100 : Shape := ⟨2, ![1, 100]⟩
abbrev S100 : Shape := ⟨1, ![100]⟩

abbrev nBuf : Table → Nat
  | .hbm => 13
  | .local .scVector .vmem => 2
  | _ => 0

abbrev bufTy : (tb : Table) → Fin (nBuf tb) → BufTy
  | .hbm, ⟨0, _⟩ => ⟨S128x200, .i32⟩
  | .hbm, ⟨1, _⟩ => ⟨S50000x128, .f32⟩
  | .hbm, ⟨2, _⟩ => ⟨S200x128, .i32⟩
  | .hbm, ⟨3, _⟩ => ⟨S25600, .i32⟩
  | .hbm, ⟨4, _⟩ => ⟨S_, .i32⟩
  | .hbm, ⟨5, _⟩ => ⟨S25600, .i32⟩
  | .hbm, ⟨6, _⟩ => ⟨S25600, .i1⟩
  | .hbm, ⟨7, _⟩ => ⟨S_, .i32⟩
  | .hbm, ⟨8, _⟩ => ⟨S25600, .i32⟩
  | .hbm, ⟨9, _⟩ => ⟨S25600, .i32⟩
  | .hbm, ⟨10, _⟩ => ⟨S25600, .i32⟩
  | .hbm, ⟨11, _⟩ => ⟨S32x8x100, .i32⟩
  | .hbm, ⟨12, _⟩ => ⟨S25600x128, .f32⟩
  | .local .scVector .vmem, ⟨0, _⟩ => ⟨S8x100, .i32⟩
  | .local .scVector .vmem, ⟨1, _⟩ => ⟨S800x128, .f32⟩
  | _, _ => ⟨S128x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v7_scv : Ref sig .scVector := ⟨.hbm, 11, rfl⟩
abbrev main_arg1_scv : Ref sig .scVector := ⟨.hbm, 1, rfl⟩
abbrev main_v8_scv : Ref sig .scVector := ⟨.hbm, 12, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_82_r0 : BitVec 32 := 0#32
  let c0_i32_83_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v66 : BitVec 32 := Scalar.muli v1 c800_i32
  let c0_i32_82_r1 : BitVec 32 := 0#32
  ![v66.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x200 : Shape := ⟨2, ![128, 200]⟩
abbrev S50000x128 : Shape := ⟨2, ![50000, 128]⟩
abbrev S200x128 : Shape := ⟨2, ![200, 128]⟩
abbrev S25600 : Shape := ⟨1, ![25600]⟩
abbrev S_ : Shape := ⟨0, ![]⟩
abbrev S25600x1 : Shape := ⟨2, ![25600, 1]⟩
abbrev S1 : Shape := ⟨1, ![1]⟩
abbrev S1x1 : Shape := ⟨2, ![1, 1]⟩
abbrev S25600x128 : Shape := ⟨2, ![25600, 128]⟩

abbrev nBuf : Space → Nat
  | .hbm => 49
  | .vmem => 0
  | .smem => 0
  | _ => 0

abbrev bufTy : (tb : Table) → Fin (tcTables nBuf tb) → BufTy
  | .hbm, ⟨0, _⟩ => ⟨S128x200, .i32⟩
  | .hbm, ⟨1, _⟩ => ⟨S50000x128, .f32⟩
  | .hbm, ⟨2, _⟩ => ⟨S200x128, .i32⟩
  | .hbm, ⟨3, _⟩ => ⟨S25600, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S25600, .i32⟩
  | .hbm, ⟨11, _⟩ => ⟨S25600, .i32⟩
  | .hbm, ⟨12, _⟩ => ⟨S_, .i32⟩
  | .hbm, ⟨13, _⟩ => ⟨S25600, .i32⟩
  | .hbm, ⟨14, _⟩ => ⟨S25600, .i1⟩
  | .hbm, ⟨15, _⟩ => ⟨S_, .i32⟩
  | .hbm, ⟨16, _⟩ => ⟨S25600, .i32⟩
  | .hbm, ⟨17, _⟩ => ⟨S25600, .i1⟩
  | .hbm, ⟨18, _⟩ => ⟨S_, .i32⟩
  | .hbm, ⟨19, _⟩ => ⟨S_, .i1⟩
  | .hbm, ⟨20, _⟩ => ⟨S25600, .i1⟩
  | .hbm, ⟨21, _⟩ => ⟨S25600, .i1⟩
  | .hbm, ⟨22, _⟩ => ⟨S25600, .i1⟩
  | .hbm, ⟨23, _⟩ => ⟨S25600, .i32⟩
  | .hbm, ⟨24, _⟩ => ⟨S25600, .i32⟩
  | .hbm, ⟨25, _⟩ => ⟨S25600, .i32⟩
  | .hbm, ⟨26, _⟩ => ⟨S_, .i32⟩
  | .hbm, ⟨27, _⟩ => ⟨S25600, .i32⟩
  | .hbm, ⟨28, _⟩ => ⟨S25600, .i1⟩
  | .hbm, ⟨29, _⟩ => ⟨S_, .i32⟩
  | .hbm, ⟨30, _⟩ => ⟨S25600, .i32⟩
  | .hbm, ⟨31, _⟩ => ⟨S25600, .i32⟩
  | .hbm, ⟨32, _⟩ => ⟨S25600, .i32⟩
  | .hbm, ⟨33, _⟩ => ⟨S25600x1, .i32⟩
  | .hbm, ⟨34, _⟩ => ⟨S1, .i32⟩
  | .hbm, ⟨35, _⟩ => ⟨S_, .i32⟩
  | .hbm, ⟨36, _⟩ => ⟨S25600x1, .i32⟩
  | .hbm, ⟨37, _⟩ => ⟨S25600x1, .i1⟩
  | .hbm, ⟨38, _⟩ => ⟨S1x1, .i32⟩
  | .hbm, ⟨39, _⟩ => ⟨S25600x1, .i32⟩
  | .hbm, ⟨40, _⟩ => ⟨S25600x1, .i1⟩
  | .hbm, ⟨41, _⟩ => ⟨S25600x1, .i1⟩
  | .hbm, ⟨42, _⟩ => ⟨S_, .i1⟩
  | .hbm, ⟨43, _⟩ => ⟨S25600, .i1⟩
  | .hbm, ⟨44, _⟩ => ⟨S25600x128, .f32⟩
  | .hbm, ⟨45, _⟩ => ⟨S25600x128, .i1⟩
  | .hbm, ⟨46, _⟩ => ⟨S_, .f32⟩
  | .hbm, ⟨47, _⟩ => ⟨S25600x128, .f32⟩
  | .hbm, ⟨48, _⟩ => ⟨S25600x128, .f32⟩
  | _, _ => ⟨S128x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v3 : Ref sig .tc := ⟨.hbm, 48, rfl⟩

abbrev nD : Nat := 1
abbrev τ : Topo := Topo.v7x

variable {F : FTy → Type} [FloatOps F]
-- ==== Fused.lean ====
abbrev S128x200 : Shape := ⟨2, ![128, 200]⟩
abbrev S4 : Shape := ⟨1, ![4]⟩
abbrev S25600x128 : Shape := ⟨2, ![25600, 128]⟩
abbrev S64x192 : Shape := ⟨2, ![64, 192]⟩
abbrev S192 : Shape := ⟨1, ![192]⟩
abbrev S64x64 : Shape := ⟨2, ![64, 64]⟩
abbrev S64 : Shape := ⟨1, ![64]⟩
abbrev S64x100000 : Shape := ⟨2, ![64, 100000]⟩
abbrev S100000 : Shape := ⟨1, ![100000]⟩
abbrev S_ : Shape := ⟨0, ![]⟩
abbrev S128x2x100 : Shape := ⟨3, ![128, 2, 100]⟩
abbrev S2x128x100 : Shape := ⟨3, ![2, 128, 100]⟩
abbrev S3 : Shape := ⟨1, ![3]⟩
abbrev S200x128x128 : Shape := ⟨3, ![200, 128, 128]⟩
abbrev S1x64 : Shape := ⟨2, ![1, 64]⟩
abbrev S1x100000 : Shape := ⟨2, ![1, 100000]⟩
abbrev S1x192 : Shape := ⟨2, ![1, 192]⟩
abbrev S4x100000x128 : Shape := ⟨3, ![4, 100000, 128]⟩
abbrev S100x128x128 : Shape := ⟨3, ![100, 128, 128]⟩
abbrev S1x128x100 : Shape := ⟨3, ![1, 128, 100]⟩
abbrev S64x6144 : Shape := ⟨2, ![64, 6144]⟩
abbrev S1x6144 : Shape := ⟨2, ![1, 6144]⟩
abbrev S4x6144x128 : Shape := ⟨3, ![4, 6144, 128]⟩
abbrev S128x64 : Shape := ⟨2, ![128, 64]⟩
abbrev S512x64 : Shape := ⟨2, ![512, 64]⟩
abbrev S128x100 : Shape := ⟨2, ![128, 100]⟩
abbrev S1x128x128 : Shape := ⟨3, ![1, 128, 128]⟩
abbrev S128x128 : Shape := ⟨2, ![128, 128]⟩
abbrev S128x1 : Shape := ⟨2, ![128, 1]⟩
abbrev S12800x64 : Shape := ⟨2, ![12800, 64]⟩
abbrev S32x64 : Shape := ⟨2, ![32, 64]⟩
abbrev S1 : Shape := ⟨1, ![1]⟩
abbrev S6144x128 : Shape := ⟨2, ![6144, 128]⟩
abbrev S1x6144x128 : Shape := ⟨3, ![1, 6144, 128]⟩

abbrev nBuf : Space → Nat
  | .hbm => 33
  | .vmem => 23
  | .smem => 1
  | _ => 0

abbrev bufTy : (tb : Table) → Fin (tcTables nBuf tb) → BufTy
  | .hbm, ⟨0, _⟩ => ⟨S128x200, .i32⟩
  | .hbm, ⟨1, _⟩ => ⟨S4, .f32⟩
  | .hbm, ⟨2, _⟩ => ⟨S25600x128, .f32⟩
  | .hbm, ⟨3, _⟩ => ⟨S64x192, .f32⟩
  | .hbm, ⟨4, _⟩ => ⟨S64x192, .f32⟩
  | .hbm, ⟨5, _⟩ => ⟨S192, .f32⟩
  | .hbm, ⟨6, _⟩ => ⟨S64x64, .f32⟩
  | .hbm, ⟨7, _⟩ => ⟨S64, .f32⟩
  | .hbm, ⟨8, _⟩ => ⟨S64x100000, .f32⟩
  | .hbm, ⟨9, _⟩ => ⟨S100000, .f32⟩
  | .hbm, ⟨10, _⟩ => ⟨S_, .i32⟩
  | .hbm, ⟨11, _⟩ => ⟨S128x200, .i32⟩
  | .hbm, ⟨12, _⟩ => ⟨S128x200, .i1⟩
  | .hbm, ⟨13, _⟩ => ⟨S128x200, .f32⟩
  | .hbm, ⟨14, _⟩ => ⟨S128x2x100, .f32⟩
  | .hbm, ⟨15, _⟩ => ⟨S2x128x100, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S200x128x128, .f32⟩
  | .hbm, ⟨20, _⟩ => ⟨S1x64, .f32⟩
  | .hbm, ⟨21, _⟩ => ⟨S1x100000, .f32⟩
  | .hbm, ⟨22, _⟩ => ⟨S1x192, .f32⟩
  | .hbm, ⟨23, _⟩ => ⟨S64x64, .f32⟩
  | .hbm, ⟨24, _⟩ => ⟨S64x64, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S1x64, .f32⟩
  | .hbm, ⟨29, _⟩ => ⟨S64x64, .f32⟩
  | .hbm, ⟨30, _⟩ => ⟨S64x64, .f32⟩
  | .hbm, ⟨31, _⟩ => ⟨S1x64, .f32⟩
  | .hbm, ⟨32, _⟩ => ⟨S4x100000x128, .f32⟩
  | .local _ .vmem, ⟨0, _⟩ => ⟨S100x128x128, .f32⟩
  | .local _ .vmem, ⟨1, _⟩ => ⟨S100x128x128, .f32⟩
  | .local _ .vmem, ⟨2, _⟩ => ⟨S1x128x100, .f32⟩
  | .local _ .vmem, ⟨3, _⟩ => ⟨S1x128x100, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x6144, .f32⟩
  | .local _ .vmem, ⟨16, _⟩ => ⟨S64x6144, .f32⟩
  | .local _ .vmem, ⟨17, _⟩ => ⟨S1x6144, .f32⟩
  | .local _ .vmem, ⟨18, _⟩ => ⟨S1x6144, .f32⟩
  | .local _ .vmem, ⟨19, _⟩ => ⟨S4x6144x128, .f32⟩
  | .local _ .vmem, ⟨20, _⟩ => ⟨S4x6144x128, .f32⟩
  | .local _ .vmem, ⟨21, _⟩ => ⟨S128x64, .f32⟩
  | .local _ .vmem, ⟨22, _⟩ => ⟨S512x64, .f32⟩
  | .local _ .smem, ⟨0, _⟩ => ⟨S3, .f32⟩
  | _, _ => ⟨S128x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![19], ![false]⟩

def k0_cond4 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_15 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_16 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S100x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x6144 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x6144 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x6144x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FusedReferenceIdeal.lean ====
abbrev S128x200 : Shape := ⟨2, ![128, 200]⟩
abbrev S4 : Shape := ⟨1, ![4]⟩
abbrev S25600x128 : Shape := ⟨2, ![25600, 128]⟩
abbrev S64x192 : Shape := ⟨2, ![64, 192]⟩
abbrev S192 : Shape := ⟨1, ![192]⟩
abbrev S64x64 : Shape := ⟨2, ![64, 64]⟩
abbrev S64 : Shape := ⟨1, ![64]⟩
abbrev S64x100000 : Shape := ⟨2, ![64, 100000]⟩
abbrev S100000 : Shape := ⟨1, ![100000]⟩
abbrev S200x128x128 : Shape := ⟨3, ![200, 128, 128]⟩
abbrev S_ : Shape := ⟨0, ![]⟩
abbrev S200x128 : Shape := ⟨2, ![200, 128]⟩
abbrev S200x128x1 : Shape := ⟨3, ![200, 128, 1]⟩
abbrev S200x128x64 : Shape := ⟨3, ![200, 128, 64]⟩
abbrev S3 : Shape := ⟨1, ![3]⟩
abbrev S128x64 : Shape := ⟨2, ![128, 64]⟩
abbrev S1x128x64 : Shape := ⟨3, ![1, 128, 64]⟩
abbrev S128x192 : Shape := ⟨2, ![128, 192]⟩
abbrev S1x192 : Shape := ⟨2, ![1, 192]⟩
abbrev S1 : Shape := ⟨1, ![1]⟩
abbrev S1x64 : Shape := ⟨2, ![1, 64]⟩
abbrev S4x128x64 : Shape := ⟨3, ![4, 128, 64]⟩
abbrev S4x128x100000 : Shape := ⟨3, ![4, 128, 100000]⟩
abbrev S1x1x100000 : Shape := ⟨3, ![1, 1, 100000]⟩
abbrev S4x100000x128 : Shape := ⟨3, ![4, 100000, 128]⟩

abbrev nBuf : Space → Nat
  | .hbm => 235
  | .vmem => 0
  | .smem => 0
  | _ => 0

abbrev hbmTy0_0 (i : Nat) : BufTy := match i % 128 with
  | 0 => ⟨S128x200, .i32⟩
  | 1 => ⟨S4, .f32⟩
  | 2 => ⟨S25600x128, .f32⟩
  | 3 => ⟨S64x192, .f32⟩
  | 4 => ⟨S64x192, .f32⟩
  | 5 => ⟨S192, .f32⟩
  | 6 => ⟨S64x64, .f32⟩
  | 7 => ⟨S64, .f32⟩
  | 8 => ⟨S64x100000, .f32⟩
  | 9 => ⟨S100000, .f32⟩
  | 10 => ⟨S200x128x128, .f32⟩
  | 11 => ⟨S_, .i32⟩
  | 12 => ⟨S128x200, .i32⟩
  | 13 => ⟨S128x200, .i1⟩
  | 14 => ⟨S200x128, .i1⟩
  | 15 => ⟨S200x128x1, .i1⟩
  | 16 => ⟨S200x128x64, .f32⟩
  | 17 => ⟨S200x128x64, .f32⟩
  | 18 => ⟨S200x128x64, .i1⟩
  | 19 => ⟨S200x128x64, .f32⟩
  | 20 => ⟨S3, .f32⟩
  | 21 => ⟨S3, .f32⟩
  | 22 => ⟨S3, .f32⟩
  | 23 => ⟨S_, .f32⟩
  | 24 => ⟨S128x64, .f32⟩
  | 25 => ⟨S_, .i32⟩
  | 26 => ⟨S200x128x64, .f32⟩
  | 27 => ⟨S64x192, .f32⟩
  | 28 => ⟨S192, .f32⟩
  | 29 => ⟨S64x192, .f32⟩
  | 30 => ⟨S_, .i32⟩
  | 31 => ⟨S128x64, .f32⟩
  | 32 => ⟨S_, .i32⟩
  | 33 => ⟨S_, .i1⟩
  | 34 => ⟨S_, .i32⟩
  | 35 => ⟨S_, .i32⟩
  | 36 => ⟨S1x128x64, .f32⟩
  | 37 => ⟨S128x64, .f32⟩
  | 38 => ⟨S128x192, .f32⟩
  | 39 => ⟨S1x192, .f32⟩
  | 40 => ⟨S128x192, .f32⟩
  | 41 => ⟨S128x192, .f32⟩
  | 42 => ⟨S128x192, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64, .f32⟩
  | 51 => ⟨S128x64, .f32⟩
  | 52 => ⟨S_, .f32⟩
  | 53 => ⟨S128x64, .f32⟩
  | 54 => ⟨S128x64, .f32⟩
  | 55 => ⟨S_, .f32⟩
  | 56 => ⟨S128x64, .f32⟩
  | 57 => ⟨S128x64, .f32⟩
  | 58 => ⟨S128x64, .f32⟩
  | 59 => ⟨S128x64, .f32⟩
  | 60 => ⟨S128x64, .f32⟩
  | 61 => ⟨S_, .f32⟩
  | 62 => ⟨S128x64, .f32⟩
  | 63 => ⟨S128x64, .f32⟩
  | 64 => ⟨S_, .f32⟩
  | 65 => ⟨S128x64, .f32⟩
  | 66 => ⟨S128x64, .f32⟩
  | 67 => ⟨S128x64, .f32⟩
  | 68 => ⟨S128x64, .f32⟩
  | 69 => ⟨S128x64, .f32⟩
  | 70 => ⟨S_, .f32⟩
  | 71 => ⟨S128x64, .f32⟩
  | 72 => ⟨S128x64, .f32⟩
  | 73 => ⟨S128x64, .f32⟩
  | 74 => ⟨S128x64, .f32⟩
  | 75 => ⟨S128x64, .f32⟩
  | 76 => ⟨S_, .i32⟩
  | 77 => ⟨S_, .i32⟩
  | 78 => ⟨S1, .f32⟩
  | 79 => ⟨S_, .f32⟩
  | 80 => ⟨S128x64, .f32⟩
  | 81 => ⟨S1x64, .f32⟩
  | 82 => ⟨S128x64, .f32⟩
  | 83 => ⟨S128x64, .f32⟩
  | 84 => ⟨S128x64, .f32⟩
  | 85 => ⟨S_, .f32⟩
  | 86 => ⟨S_, .f32⟩
  | 87 => ⟨S128x64, .f32⟩
  | 88 => ⟨S128x64, .f32⟩
  | 89 => ⟨S128x64, .f32⟩
  | 90 => ⟨S128x64, .f32⟩
  | 91 => ⟨S1x64, .f32⟩
  | 92 => ⟨S128x64, .f32⟩
  | 93 => ⟨S128x64, .f32⟩
  | 94 => ⟨S128x64, .f32⟩
  | 95 => ⟨S_, .f32⟩
  | 96 => ⟨S_, .f32⟩
  | 97 => ⟨S128x64, .f32⟩
  | 98 => ⟨S128x64, .f32⟩
  | 99 => ⟨S128x64, .f32⟩
  | 100 => ⟨S128x64, .f32⟩
  | 101 => ⟨S1x64, .f32⟩
  | 102 => ⟨S128x64, .f32⟩
  | 103 => ⟨S128x64, .f32⟩
  | 104 => ⟨S128x64, .f32⟩
  | 105 => ⟨S128x64, .f32⟩
  | 106 => ⟨S128x64, .f32⟩
  | 107 => ⟨S128x64, .f32⟩
  | 108 => ⟨S128x64, .f32⟩
  | 109 => ⟨S1x64, .f32⟩
  | 110 => ⟨S128x64, .f32⟩
  | 111 => ⟨S128x64, .f32⟩
  | 112 => ⟨S128x64, .f32⟩
  | 113 => ⟨S_, .f32⟩
  | 114 => ⟨S_, .f32⟩
  | 115 => ⟨S_, .f32⟩
  | 116 => ⟨S128x64, .f32⟩
  | 117 => ⟨S128x64, .f32⟩
  | 118 => ⟨S128x64, .f32⟩
  | 119 => ⟨S_, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S128x64, .f32⟩
  | 127 => ⟨S1, .f32⟩
  | _ => ⟨S128x200, .i32⟩

abbrev hbmTy0_1 (i : Nat) : BufTy := match i % 128 with
  | 0 => ⟨S_, .f32⟩
  | 1 => ⟨S128x64, .f32⟩
  | 2 => ⟨S1x64, .f32⟩
  | 3 => ⟨S128x64, .f32⟩
  | 4 => ⟨S128x64, .f32⟩
  | 5 => ⟨S128x64, .f32⟩
  | 6 => ⟨S_, .f32⟩
  | 7 => ⟨S_, .f32⟩
  | 8 => ⟨S128x64, .f32⟩
  | 9 => ⟨S128x64, .f32⟩
  | 10 => ⟨S128x64, .f32⟩
  | 11 => ⟨S128x64, .f32⟩
  | 12 => ⟨S1x64, .f32⟩
  | 13 => ⟨S128x64, .f32⟩
  | 14 => ⟨S128x64, .f32⟩
  | 15 => ⟨S128x64, .f32⟩
  | 16 => ⟨S_, .f32⟩
  | 17 => ⟨S_, .f32⟩
  | 18 => ⟨S128x64, .f32⟩
  | 19 => ⟨S128x64, .f32⟩
  | 20 => ⟨S128x64, .f32⟩
  | 21 => ⟨S128x64, .f32⟩
  | 22 => ⟨S1x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S1x64, .f32⟩
  | 31 => ⟨S128x64, .f32⟩
  | 32 => ⟨S128x64, .f32⟩
  | 33 => ⟨S128x64, .f32⟩
  | 34 => ⟨S_, .f32⟩
  | 35 => ⟨S_, .f32⟩
  | 36 => ⟨S_, .f32⟩
  | 37 => ⟨S128x64, .f32⟩
  | 38 => ⟨S128x64, .f32⟩
  | 39 => ⟨S128x64, .f32⟩
  | 40 => ⟨S_, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S1, .f32⟩
  | 49 => ⟨S_, .f32⟩
  | 50 => ⟨S128x64, .f32⟩
  | 51 => ⟨S1x64, .f32⟩
  | 52 => ⟨S128x64, .f32⟩
  | 53 => ⟨S128x64, .f32⟩
  | 54 => ⟨S128x64, .f32⟩
  | 55 => ⟨S_, .f32⟩
  | 56 => ⟨S_, .f32⟩
  | 57 => ⟨S128x64, .f32⟩
  | 58 => ⟨S128x64, .f32⟩
  | 59 => ⟨S128x64, .f32⟩
  | 60 => ⟨S128x64, .f32⟩
  | 61 => ⟨S1x64, .f32⟩
  | 62 => ⟨S128x64, .f32⟩
  | 63 => ⟨S128x64, .f32⟩
  | 64 => ⟨S128x64, .f32⟩
  | 65 => ⟨S_, .f32⟩
  | 66 => ⟨S_, .f32⟩
  | 67 => ⟨S128x64, .f32⟩
  | 68 => ⟨S128x64, .f32⟩
  | 69 => ⟨S128x64, .f32⟩
  | 70 => ⟨S128x64, .f32⟩
  | 71 => ⟨S1x64, .f32⟩
  | 72 => ⟨S128x64, .f32⟩
  | 73 => ⟨S128x64, .f32⟩
  | 74 => ⟨S128x64, .f32⟩
  | 75 => ⟨S128x64, .f32⟩
  | 76 => ⟨S128x64, .f32⟩
  | 77 => ⟨S128x64, .f32⟩
  | 78 => ⟨S128x64, .f32⟩
  | 79 => ⟨S1x64, .f32⟩
  | 80 => ⟨S128x64, .f32⟩
  | 81 => ⟨S128x64, .f32⟩
  | 82 => ⟨S128x64, .f32⟩
  | 83 => ⟨S_, .f32⟩
  | 84 => ⟨S_, .f32⟩
  | 85 => ⟨S_, .f32⟩
  | 86 => ⟨S128x64, .f32⟩
  | 87 => ⟨S128x64, .f32⟩
  | 88 => ⟨S128x64, .f32⟩
  | 89 => ⟨S_, .f32⟩
  | 90 => ⟨S128x64, .f32⟩
  | 91 => ⟨S128x64, .f32⟩
  | 92 => ⟨S128x64, .f32⟩
  | 93 => ⟨S128x64, .f32⟩
  | 94 => ⟨S128x64, .f32⟩
  | 95 => ⟨S128x64, .f32⟩
  | 96 => ⟨S128x64, .f32⟩
  | 97 => ⟨S1x128x64, .f32⟩
  | 98 => ⟨S1x128x64, .f32⟩
  | 99 => ⟨S1x128x64, .f32⟩
  | 100 => ⟨S1x128x64, .f32⟩
  | 101 => ⟨S4x128x64, .f32⟩
  | 102 => ⟨S4x128x100000, .f32⟩
  | 103 => ⟨S1x1x100000, .f32⟩
  | 104 => ⟨S4x128x100000, .f32⟩
  | 105 => ⟨S4x128x100000, .f32⟩
  | 106 => ⟨S4x100000x128, .f32⟩
  | _ => ⟨S128x200, .i32⟩

abbrev hbmTy (i : Nat) : BufTy := match i / 128 with
  | 0 => hbmTy0_0 i
  | 1 => hbmTy0_1 i
  | _ => ⟨S128x200, .i32⟩

abbrev bufTy : (tb : Table) → Fin (tcTables nBuf tb) → BufTy
  | .hbm, ⟨i, _⟩ => hbmTy i
  | _, _ => ⟨S128x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_c_0 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev main_v12_5 : Ref sig .tc := ⟨.hbm, 31, rfl⟩
abbrev main_while0c_c_21 : Ref sig .tc := ⟨.hbm, 32, rfl⟩
abbrev main_while0c_v155 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v155 : Ref sig .tc := ⟨.hbm, 37, rfl⟩
abbrev main_while0b_v156 : Ref sig .tc := ⟨.hbm, 38, rfl⟩
abbrev main_while0b_v157 : Ref sig .tc := ⟨.hbm, 39, rfl⟩
abbrev main_while0b_v158 : Ref sig .tc := ⟨.hbm, 40, rfl⟩
abbrev main_while0b_v159 : Ref sig .tc := ⟨.hbm, 41, rfl⟩
abbrev main_while0b_v160 : Ref sig .tc := ⟨.hbm, 42, rfl⟩
abbrev main_while0b_v161 : Ref sig .tc := ⟨.hbm, 43, rfl⟩
abbrev main_while0b_v162 : Ref sig .tc := ⟨.hbm, 44, rfl⟩
abbrev main_while0b_v163 : Ref sig .tc := ⟨.hbm, 45, rfl⟩
abbrev main_while0b_v164 : Ref sig .tc := ⟨.hbm, 46, rfl⟩
abbrev main_while0b_v165 : Ref sig .tc := ⟨.hbm, 47, rfl⟩
abbrev main_while0b_v166 : Ref sig .tc := ⟨.hbm, 48, rfl⟩
abbrev main_while0b_v167 : Ref sig .tc := ⟨.hbm, 49, rfl⟩
abbrev main_while0b_v168 : Ref sig .tc := ⟨.hbm, 50, rfl⟩
abbrev main_while0b_v169 : Ref sig .tc := ⟨.hbm, 51, rfl⟩
abbrev main_while0b_cst_21 : Ref sig .tc := ⟨.hbm, 52, rfl⟩
abbrev main_while0b_v170 : Ref sig .tc := ⟨.hbm, 53, rfl⟩
abbrev main_while0b_v171 : Ref sig .tc := ⟨.hbm, 54, rfl⟩
abbrev main_while0b_cst_22 : Ref sig .tc := ⟨.hbm, 55, rfl⟩
abbrev main_while0b_v172 : Ref sig .tc := ⟨.hbm, 56, rfl⟩
abbrev main_while0b_v173 : Ref sig .tc := ⟨.hbm, 57, rfl⟩
abbrev main_while0b_v174 : Ref sig .tc := ⟨.hbm, 58, rfl⟩
abbrev main_while0b_v175 : Ref sig .tc := ⟨.hbm, 59, rfl⟩
abbrev main_while0b_v176 : Ref sig .tc := ⟨.hbm, 60, rfl⟩
abbrev main_while0b_cst_23 : Ref sig .tc := ⟨.hbm, 61, rfl⟩
abbrev main_while0b_v177 : Ref sig .tc := ⟨.hbm, 62, rfl⟩
abbrev main_while0b_v178 : Ref sig .tc := ⟨.hbm, 63, rfl⟩
abbrev main_while0b_cst_24 : Ref sig .tc := ⟨.hbm, 64, rfl⟩
abbrev main_while0b_v179 : Ref sig .tc := ⟨.hbm, 65, rfl⟩
abbrev main_while0b_v180 : Ref sig .tc := ⟨.hbm, 66, rfl⟩
abbrev main_while0b_v181 : Ref sig .tc := ⟨.hbm, 67, rfl⟩
abbrev main_while0b_v182 : Ref sig .tc := ⟨.hbm, 68, rfl⟩
abbrev main_while0b_v183 : Ref sig .tc := ⟨.hbm, 69, rfl⟩
abbrev main_while0b_cst_25 : Ref sig .tc := ⟨.hbm, 70, rfl⟩
abbrev main_while0b_v184 : Ref sig .tc := ⟨.hbm, 71, rfl⟩
abbrev main_while0b_v185 : Ref sig .tc := ⟨.hbm, 72, rfl⟩
abbrev main_while0b_v186 : Ref sig .tc := ⟨.hbm, 73, rfl⟩
abbrev main_while0b_v187 : Ref sig .tc := ⟨.hbm, 74, rfl⟩
abbrev main_while0b_v188 : Ref sig .tc := ⟨.hbm, 75, rfl⟩
abbrev main_while0b_c_26 : Ref sig .tc := ⟨.hbm, 76, rfl⟩
abbrev main_while0b_v189 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_cst_1 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_cst_2 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_cst_3 : Ref sig .tc := ⟨.hbm, 113, rfl⟩
abbrev main_v46 : Ref sig .tc := ⟨.hbm, 114, rfl⟩
abbrev main_cst_4 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_5 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_cst_6 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_cst_7 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_cst_8 : Ref sig .tc := ⟨.hbm, 162, rfl⟩
abbrev main_v90 : Ref sig .tc := ⟨.hbm, 163, rfl⟩
abbrev main_cst_9 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_cst_10 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_11 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_12 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_cst_13 : Ref sig .tc := ⟨.hbm, 211, rfl⟩
abbrev main_v134 : Ref sig .tc := ⟨.hbm, 212, rfl⟩
abbrev main_cst_14 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_cst_15 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩

abbrev nD : Nat := 1
abbrev τ : Topo := Topo.v7x

variable {F : FTy → Type} [FloatOps F]

abbrev main_while0_count : Scf.Loop 32 := ⟨0#32, 200#32, 1#32⟩
-- ==== Repack.lean ====
abbrev S100000x64 : Shape := ⟨2, ![100000, 64]⟩
abbrev S50000x128 : Shape := ⟨2, ![50000, 128]⟩
abbrev S2000x64 : Shape := ⟨2, ![2000, 64]⟩
abbrev S2000x128 : Shape := ⟨2, ![2000, 128]⟩

abbrev nBuf : Space → Nat
  | .hbm => 2
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x128, .f32⟩
  | .local _ .vmem, ⟨5, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RepackReferenceIdeal.lean ====
abbrev S100000x64 : Shape := ⟨2, ![100000, 64]⟩
abbrev S50000x64 : Shape := ⟨2, ![50000, 64]⟩
abbrev S50000x128 : Shape := ⟨2, ![50000, 128]⟩

abbrev nBuf : Space → Nat
  | .hbm => 4
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x64, .f32⟩
  | .hbm, ⟨3, _⟩ => ⟨S50000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.GatherBatch.lean ====
/-
  Several indirect gathers outstanding on one DMA semaphore. The library's rule for an indirect gather has the
  semaphore at zero before it and one gather in flight after it. The kernel here starts eight gathers on one
  semaphore and waits for them afterwards. This module gives the rule for that: a gather's rows are transfers of one
  `Transfers.Batch`, each row paying the same credit, so a gather of `o` rows advances the batch by `o` transfers.
-/
module

public import Idealize.ShloMosaic.Lib.SparseCore.Stream
public import Idealize.ShloMosaic.Lib.Batch

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending)

/-! ## A batch's transfers by groups -/

section Groups

variable {M : Type} [URA M] {n : ℕ}

/-- Transfer `k` of the group of `o` transfers that begins with transfer `j`. -/
def member (j o : ℕ) (h : j + o ≤ n) : Fin o ↪ Fin n :=
  ⟨fun k => ⟨j + k.val, by omega⟩, fun a b hab => Fin.ext (by have := congrArg Fin.val hab; simp only at this; omega)⟩

/-- The transfers from `j` on are the group of `o` that begins with `j` and those from `j + o` on. -/
theorem pending_group (j o : ℕ) (h : j + o ≤ n) :
    pending (n := n) j = Finset.univ.map (member j o h) ∪ pending (j + o) := by
  ext t
  simp only [pending, Finset.mem_filter, Finset.mem_univ, _root_.true_and, Finset.mem_union, Finset.mem_map, member, Function.Embedding.coeFn_mk]
  constructor
  · intro hj
    by_cases hlt : t.val < j + o
    · exact .inl ⟨⟨t.val - j, by omega⟩, Fin.ext (show j + (t.val - j) = t.val by omega)⟩
    · exact .inr (by omega)
  · rintro (⟨k, rfl⟩ | hk)
    · exact Nat.le_add_right _ _
    · omega

theorem group_disjoint (j o : ℕ) (h : j + o ≤ n) : Disjoint (Finset.univ.map (member j o h)) (pending (n := n) (j + o)) := by
  refine Finset.disjoint_left.mpr fun t ht ht' => ?_
  obtain ⟨k, -, rfl⟩ := Finset.mem_map.mp ht
  simp only [pending, Finset.mem_filter, Finset.mem_univ, _root_.true_and, member, Function.Embedding.coeFn_mk] at ht'
  have h' : j + o ≤ j + k.val := ht'
  omega

/-- A family over the transfers from `j` on is its group of `o` beside the rest. -/
theorem bigSep_pending_group (j o : ℕ) (h : j + o ≤ n) (Φ : Fin n → sProp M) :
    bigSep (pending j) Φ = iprop((bigSep Finset.univ fun k => Φ (member j o h k)) ∗ bigSep (pending (j + o)) Φ) := by
  rw [pending_group j o h, BI.bigSep_union (group_disjoint j o h), BI.bigSep_map]; rfl

end Groups

/-! ## The gather's issue into a batch -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What a gather writes on row `k` of its destination: the source's row that entry `k` of the list names. -/
def rowPayload (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis) (k : Fin (s.size hg.axis')) : (s.rowShape hg.axis').Idx → Elt F e :=
  fun i => src.view.read (Elt F) fs (hg.rowIdx (rows (offs.view.read (Elt F) fo) hn hin k) i)

/-- What row `k` of a gather delivers: the destination's row written with the source's row that entry `k` of the list
    names, entry `k`'s share of the list, and one of the pieces the source's share was cut into. -/
def rowDelivery (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) : sProp 𝕄 :=
  iprop(((dst.view.loc c ↦[(dst.view.slice (s.rowRect hg.axis' k)).set]{fullShare}
        ((dst.view.slice (s.rowRect hg.axis' k)).write (Elt F) fd (rowPayload c src hg offs hn fs fo hin k) Finset.univ))
      ∗ (offs.view.loc c ↦[{offs.view.emb (si.rowMajor.symm (k.cast hn.symm))}]{qo} fo))
    ∗ (src.view.loc c ↦[src.view.set]{pieceOf q _ ho k} fs))

instance rowDelivery_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) :
    Storable (upEmb : UEmb _ 𝕄) (rowDelivery c src dst hg offs hn ho q qo fs fd fo hin k) := by
  unfold rowDelivery; infer_instance

/-- All the rows' deliveries of one gather: the destination written with the gather's payload, the source's share and the
    list's share whole again. -/
theorem rowDelivery_join {src : Memref sig c.2.kind sp s₀ e} {dst : Memref sig c.2.kind .vmem s e} {hg : s₀.Gathers a s}
    {offs : Memref sig c.2.kind .vmem si .i32} {hn : si.numel = s.size hg.axis'} (ho : 0 < s.size hg.axis')
    {q qo : PosShare TreeShare} {fs : Buf (Elt F) (src.view.loc c)} {fd : Buf (Elt F) (dst.view.loc c)} {fo : Buf (Elt F) (offs.view.loc c)}
    (hin : ∀ x, (offs.view.read (Elt F) fo x).toNat < s₀.size hg.axis) :
    (bigSep Finset.univ fun k => rowDelivery (F := F) (Name := Name) (U := U) (Lvl := Lvl) (Ix := Ix) c src dst hg offs hn ho q qo fs fd fo hin k)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowDelivery
  have hen : Function.Bijective fun k : Fin (s.size hg.axis') => si.rowMajor.symm (k.cast hn.symm) :=
    si.rowMajor.symm.bijective.comp (finCongr hn.symm).bijective
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd
      (rowPayload c src hg offs hn fs fo hin)
      (gatherPayload hg (src.view.read (Elt F) fs) (rows (offs.view.read (Elt F) fo) hn hin))
      (fun k i => by unfold rowPayload gatherPayload; rw [Shape.Gathers.idx_rowRect_emb])) $$ Hrows
  isplitl [Hsrc]; · iapply (Entails.of_eq (pointsTo_piecesOf (src.view.set) fs ho q).symm) $$ Hsrc
  iapply (Entails.of_eq (pointsTo_entries c offs.view _ hen qo fo).symm) $$ Hoffs

/-- An indirect gather issued as the next `o` transfers of a batch, `o` its number of rows, `j` transfers issued before
    it and the waits following the issues: from a share of the source, the destination, a share of the list whose words
    are all in range, and the batch, the tile continues with the batch advanced by `o`. Row `k`'s delivery entails what the
    batch says its transfer `j + k` delivers (`hD`), and every row pays the batch's credit `N` (`hN`). -/
theorem wp_indirectGatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} {j u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hj : j + s.size hg.axis' ≤ n) (hu : u ≤ j * N)
    (hD : ∀ k, rowDelivery (F := F) (Name := Name) (U := U) (Lvl := Lvl) (Ix := Ix) c src dst hg offs hn ho q qo fs fd fo hin k ⊢ D (member j _ hj k)) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ k, (rd k).dst.view.dmaCredit = s.size hg.axis' * N := by
    rw [Finset.sum_congr rfl fun k _ => show (rd k).dst.view.dmaCredit = N from hN k, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (bigSep_pending_group (n := n) j _ hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i, iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ (member j _ hj i)) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare} ((dst.view.slice (s.rowRect hg.axis' i)).write (Elt F) fd (w i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (SemLoc.dma sem) = N from hN i]
        iapply (Transfers.batch_creditUpdate EC (N := N) (D := D) (γ := γ) (γ₀ := γ₀) (ι := κ) (member j _ hj i) (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.GatherBatch

end
-- ==== Proof.GatherIdeal.lean ====
/-
  The SparseCore gather of `KernelIdeal`: its frame, and the value of its result. Thirty-two tasks, one for each vector
  subcore of both SparseCores. Task `w` fetches its 800 row numbers, a 8×100 row of the index array, into its index
  scratch, starts eight indirect gathers of 100 rows each from the table into its row scratch, all on one semaphore,
  waits for the eight, and writes the 800 rows out to its block of the result.

  The index array and the result are cut by the tasks' blocks. The table is read by every task, and by eight gathers of
  a task at once: its full share is cut into 32 pieces and a task's piece into eight. The eight gathers are one batch of
  800 row transfers (`GatherBatch`).
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.VecWindow
public import Idealize.ShloMosaic.Lib.Tactic
public import proofs.«01_k».proof.Proof.Gen.KernelIdeal
public import proofs.«01_k».proof.Proof.Gen.KernelIdeal.Skeleton

@[expose] public section

noncomputable section

namespace Cert.KernelIdeal.Gather

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.ShloMosaic.Tactic
open Cert.Proof.GatherBatch

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev iLoc (d : Dev nD) : Loc nD τ sig := (SparseCore.T d).loc main_v7
abbrev xLoc (d : Dev nD) : Loc nD τ sig := (SparseCore.T d).loc main_arg1
abbrev oLoc (d : Dev nD) : Loc nD τ sig := (SparseCore.T d).loc main_v8

local notation "iV" => (Memref.whole Cert.KernelIdeal.main_v7_scv : Memref Cert.KernelIdeal.sig Kind.scVector Space.hbm Cert.KernelIdeal.S32x8x100 EltTy.i32)
local notation "xV" => (Memref.whole Cert.KernelIdeal.main_arg1_scv : Memref Cert.KernelIdeal.sig Kind.scVector Space.hbm Cert.KernelIdeal.S50000x128 EltTy.f32)
local notation "oV" => (Memref.whole Cert.KernelIdeal.main_v8_scv : Memref Cert.KernelIdeal.sig Kind.scVector Space.hbm Cert.KernelIdeal.S25600x128 EltTy.f32)
local notation "sV" => (Memref.whole Cert.KernelIdeal.cc0_scratch0 : Memref Cert.KernelIdeal.sig Kind.scVector Space.vmem Cert.KernelIdeal.S8x100 EltTy.i32)
local notation "rV" => (Memref.whole Cert.KernelIdeal.cc0_scratch1 : Memref Cert.KernelIdeal.sig Kind.scVector Space.vmem Cert.KernelIdeal.S800x128 EltTy.f32)

theorem idiv : 32 ∣ S32x8x100.size 0 := ⟨1, rfl⟩
theorem odiv : 32 ∣ S25600x128.size 0 := ⟨800, rfl⟩
theorem sdiv : 8 ∣ S8x100.size 0 := ⟨1, rfl⟩
theorem rdiv : 8 ∣ S800x128.size 0 := ⟨100, rfl⟩
/-- Block `w` of the index array, of the result; part `j` of the index scratch, of the row scratch. -/
abbrev irow (w : Fin 32) : Rect S32x8x100 := Rect.part (s := S32x8x100) (a₀ := 0) idiv w
abbrev orow (w : Fin 32) : Rect S25600x128 := Rect.part (s := S25600x128) (a₀ := 0) odiv w
abbrev srow (j : Fin 8) : Rect S8x100 := Rect.part (s := S8x100) (a₀ := 0) sdiv j
abbrev rrow (j : Fin 8) : Rect S800x128 := Rect.part (s := S800x128) (a₀ := 0) rdiv j
abbrev iRowSet (w : Fin 32) : Finset S32x8x100.Idx := (irow w).set
abbrev oRowSet (w : Fin 32) : Finset S25600x128.Idx := (orow w).set

/-- Task `w`'s piece of the table's full share, and gather `j`'s piece of that. -/
abbrev xq (w : Fin 32) : PosShare TreeShare := pieceOf fullShare 32 (Nat.zero_lt_succ 31) w
abbrev xqj (w : Fin 32) (j : Fin 8) : PosShare TreeShare := pieceOf (xq w) 8 (Nat.zero_lt_succ 7) j

/-! ## The value -/

/-- The table's row that a row number names: itself, when it is a row. -/
def gRow (v : BitVec 32) : Fin 50000 := ⟨v.toNat % 50000, Nat.mod_lt _ (by decide)⟩

/-- Entry `r` of the index array in row-major order. -/
def entry (fI : S32x8x100.Idx → BitVec 32) (r : Fin 25600) : BitVec 32 :=
  fI (ix3 ⟨r.val / 800, by omega⟩ ⟨r.val % 800 / 100, by omega⟩ ⟨r.val % 100, by omega⟩)

/-- The gathered rows: row `r` is the table's row that entry `r` of the index array names. -/
def gOut (fI : S32x8x100.Idx → BitVec 32) (fX : S50000x128.Idx → F .f32) : S25600x128.Idx → F .f32 :=
  fun y => fX (ix2 (gRow (entry fI (y 0))) (y 1))

/-- Task `w`'s 800 gathered rows, as its row scratch holds them. -/
def gPart (fI : S32x8x100.Idx → BitVec 32) (fX : S50000x128.Idx → F .f32) (w : Fin 32) : S800x128.Idx → F .f32 :=
  fun y => gOut fI fX (ix2 ⟨800 * w.val + (y 0).val, by have : (y 0).val < 800 := (y 0).isLt; omega⟩ (y 1))

/-! ## The task's views -/

section Tile

variable (d : Dev nD) (L : grid0.Coords)

abbrev cV (L : grid0.Coords) : Fin τ.nSC := (L 0).castLE hcore0
abbrev jV (L : grid0.Coords) : Fin τ.nSub := (L 1).castLE hsub0
/-- The task's number: SparseCore `c`'s subcore `s` runs task `2 s + c`. -/
def wL (L : grid0.Coords) : Fin 32 :=
  ⟨2 * (L 1).val + (L 0).val, by have h0 : (L 0).val < 2 := (L 0).isLt; have h1 : (L 1).val < 16 := (L 1).isLt; omega⟩

abbrev irowK (L : grid0.Coords) : Rect S32x8x100 := Rect.unit (s := S32x8x100) (k0_off1 L) S1x8x100.size (k0_off1_inb L)
abbrev orowK (L : grid0.Coords) : Rect S25600x128 := Rect.unit (s := S25600x128) (k0_off2 L) S800x128.size (k0_off2_inb L)
abbrev iRowK (L : grid0.Coords) : Memref sig .scVector .hbm S8x100 .i32 := ((iV).slice (irowK L) (fun _ => rfl)).squeeze S8x100 squeezes_S1x8x100_S8x100
abbrev oRowK (L : grid0.Coords) : Memref sig .scVector .hbm S800x128 .f32 := (oV).slice (orowK L) (fun _ => rfl)
abbrev xAllK : Memref sig .scVector .hbm S50000x128 .f32 := (xV).slice (Rect.unit (s := S50000x128) ![0, 0] S50000x128.size inb_S50000x128_S50000x128_0_0) (fun _ => rfl)

theorem inb_list (j : Fin 8) : ∀ a, (![j.val, 0] : Fin 2 → ℕ) a + S1x100.size a ≤ S8x100.size a := by revert j; decide
theorem inb_rows (j : Fin 8) : ∀ a, (![100 * j.val, 0] : Fin 2 → ℕ) a + S100x128.size a ≤ S800x128.size a := by revert j; decide
/-- Gather `j`'s list of row numbers, a row of the index scratch, and its destination, a part of the row scratch. -/
abbrev lstK (j : Fin 8) : Memref sig .scVector .vmem S100 .i32 :=
  ((sV).slice (Rect.unit (s := S8x100) ![j.val, 0] S1x100.size (inb_list j)) (fun _ => rfl)).squeeze S100 squeezes_S1x100_S100
abbrev dstK (j : Fin 8) : Memref sig .scVector .vmem S100x128 .f32 :=
  (rV).slice (Rect.unit (s := S800x128) ![100 * j.val, 0] S100x128.size (inb_rows j)) (fun _ => rfl)

theorem irowK_eq : irowK L = irow (wL L) := by
  unfold irowK irow Rect.part Rect.block
  congr 1 <;> funext a
  · rw [k0_off1_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]
theorem orowK_eq : orowK L = orow (wL L) := by
  unfold orowK orow Rect.part Rect.block
  congr 1 <;> funext a
  · rw [k0_off2_eq]
    match a with
    | 0 => simp [Shape.partIx, Shape.partSize, wL]; omega
    | 1 => simp [Shape.partIx, Shape.partSize]
  · match a with
    | 0 => simp [Shape.partSize]
    | 1 => simp [Shape.partSize]
theorem list_eq (j : Fin 8) : Rect.unit (s := S8x100) ![j.val, 0] S1x100.size (inb_list j) = srow j := by
  unfold srow Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem rows_eq (j : Fin 8) : Rect.unit (s := S800x128) ![100 * j.val, 0] S100x128.size (inb_rows j) = rrow j := by
  unfold rrow Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_iRowK : (iRowK L).view.set = iRowSet (wL L) :=
  ((View.set_reshape _ _).trans (View.set_slice (View.whole main_v7_scv) (irowK L))).trans (Finset.map_refl.trans (by rw [irowK_eq]))
theorem set_oRowK : (oRowK L).view.set = oRowSet (wL L) :=
  (View.set_slice (View.whole main_v8_scv) (orowK L)).trans (Finset.map_refl.trans (by rw [orowK_eq]))
theorem set_lstK (j : Fin 8) : (lstK j).view.set = (srow j).set :=
  ((View.set_reshape _ _).trans (View.set_slice (View.whole cc0_scratch0) (Rect.unit (s := S8x100) ![j.val, 0] S1x100.size (inb_list j)))).trans
    (Finset.map_refl.trans (by rw [list_eq]))
theorem set_dstK (j : Fin 8) : (dstK j).view.set = (rrow j).set :=
  (View.set_slice (View.whole cc0_scratch1) (Rect.unit (s := S800x128) ![100 * j.val, 0] S100x128.size (inb_rows j))).trans
    (Finset.map_refl.trans (by rw [rows_eq]))
theorem set_xAllK : (xAllK).view.set = Finset.univ := by
  refine (View.set_slice (View.whole main_arg1_scv) (Rect.unit (s := S50000x128) ![0, 0] S50000x128.size inb_S50000x128_S50000x128_0_0)).trans
    (Finset.map_refl.trans (Finset.eq_univ_iff_forall.mpr fun i => ?_))
  rw [Rect.mem_set_unit]
  intro a
  match a with
  | 0 => exact ⟨Nat.zero_le _, lt_of_lt_of_eq (i 0).isLt (Nat.zero_add _).symm⟩
  | 1 => exact ⟨Nat.zero_le _, lt_of_lt_of_eq (i 1).isLt (Nat.zero_add _).symm⟩

/-! ## What the views read -/

/-- Task `w`'s row numbers, as its index scratch holds them. -/
def idxBuf (fI : S32x8x100.Idx → BitVec 32) (w : Fin 32) : S8x100.Idx → BitVec 32 := fun z => fI (ix3 w (z 0) (z 1))

theorem emb_iRowK (z : S8x100.Idx) : (iRowK L).view.emb z = (ix3 (wL L) (z 0) (z 1) : S32x8x100.Idx) := by
  have e : Shape.reshapeEquiv squeezes_S1x8x100_S8x100.numel_eq z = (ix3 0 (z 0) (z 1) : S1x8x100.Idx) :=
    Shape.reshapeEquiv_eq_of_rowMajor _ (by
      rw [Shape.rowMajor_val_three, Shape.rowMajor_val_two]
      simp)
  have e' : (iRowK L).view.emb z = (irowK L).emb (Shape.reshapeEquiv squeezes_S1x8x100_S8x100.numel_eq z) := rfl
  rw [e', e]
  funext a
  apply Fin.ext
  rw [Rect.emb_apply]
  match a with
  | 0 => simp [irowK, k0_off1_eq, wL]
  | 1 => simp [irowK, k0_off1_eq]
  | 2 => simp [irowK, k0_off1_eq]

theorem read_iRowK (fI : S32x8x100.Idx → BitVec 32) : (iRowK L).view.read (Elt F) fI = idxBuf fI (wL L) := by
  funext z
  refine (View.read_apply _ _).trans ((cast_eq _ _).trans ?_)
  rw [emb_iRowK]; rfl

theorem emb_lstK (j : Fin 8) (k : S100.Idx) : (lstK j).view.emb k = (ix2 j (k 0) : S8x100.Idx) := by
  have e : Shape.reshapeEquiv squeezes_S1x100_S100.numel_eq k = (ix2 0 (k 0) : S1x100.Idx) :=
    Shape.reshapeEquiv_eq_of_rowMajor _ (by
      rw [Shape.rowMajor_val_two, Shape.rowMajor_val_one]
      simp)
  have e' : (lstK j).view.emb k = (Rect.unit (s := S8x100) ![j.val, 0] S1x100.size (inb_list j)).emb (Shape.reshapeEquiv squeezes_S1x100_S100.numel_eq k) := rfl
  rw [e', e]
  funext a
  apply Fin.ext
  rw [Rect.emb_apply]
  match a with
  | 0 => simp
  | 1 => simp

theorem read_lstK (j : Fin 8) (g : S8x100.Idx → BitVec 32) (k : S100.Idx) : (lstK j).view.read (Elt F) g k = g (ix2 j (k 0)) := by
  refine (View.read_apply _ _).trans ((cast_eq _ _).trans ?_)
  rw [emb_lstK]

theorem read_xAllK (fX : S50000x128.Idx → F .f32) (y : S50000x128.Idx) : (xAllK).view.read (Elt F) fX y = fX y := by
  refine (View.read_apply _ _).trans ((cast_eq _ _).trans ?_)
  have e' : (xAllK).view.emb y = (Rect.unit (s := S50000x128) ![0, 0] S50000x128.size inb_S50000x128_S50000x128_0_0).emb y := rfl
  rw [e']
  exact congrArg fX (Rect.emb_unit_full (s := S50000x128) _ y)

theorem emb_dstK (j : Fin 8) (x : S100x128.Idx) :
    (dstK j).view.emb x = (ix2 ⟨100 * j.val + (x 0).val, by have : (x 0).val < 100 := (x 0).isLt; omega⟩ (x 1) : S800x128.Idx) := by
  have e' : (dstK j).view.emb x = (Rect.unit (s := S800x128) ![100 * j.val, 0] S100x128.size (inb_rows j)).emb x := rfl
  rw [e']
  funext a
  apply Fin.ext
  rw [Rect.emb_apply]
  match a with
  | 0 => simp
  | 1 => simp

theorem emb_oRowK (x : S800x128.Idx) :
    (oRowK L).view.emb x = (ix2 ⟨800 * (wL L).val + (x 0).val, by have : (x 0).val < 800 := (x 0).isLt; omega⟩ (x 1) : S25600x128.Idx) := by
  have e' : (oRowK L).view.emb x = (orowK L).emb x := rfl
  rw [e']
  funext a
  apply Fin.ext
  rw [Rect.emb_apply]
  match a with
  | 0 => simp [orowK, k0_off2_eq, wL]; omega
  | 1 => simp [orowK, k0_off2_eq]

/-! ## What a gather and the write-out leave -/

theorem entry_task (fI : S32x8x100.Idx → BitVec 32) (w : Fin 32) (j : Fin 8) (k : ℕ) (hk : k < 100) (h : 800 * w.val + (100 * j.val + k) < 25600) :
    entry fI ⟨800 * w.val + (100 * j.val + k), h⟩ = idxBuf fI w (ix2 j ⟨k, hk⟩) := by
  unfold entry idxBuf
  refine congrArg fI ((ix3_inj _ _ _ _ _ _).mpr ⟨Fin.ext ?_, Fin.ext ?_, Fin.ext ?_⟩)
  · show (800 * w.val + (100 * j.val + k)) / 800 = w.val; omega
  · show (800 * w.val + (100 * j.val + k)) % 800 / 100 = j.val; omega
  · show (800 * w.val + (100 * j.val + k)) % 100 = k; omega

/-- Gather `j` of task `w` leaves its part of the row scratch at the task's gathered rows. -/
theorem gather_part (fI : S32x8x100.Idx → BitVec 32) (fX : S50000x128.Idx → F .f32) (fr : S800x128.Idx → F .f32) (w : Fin 32) (j : Fin 8)
    (hin : ∀ x, ((lstK j).view.read (Elt F) (idxBuf fI w) x).toNat < S50000x128.size gathers_S50000x128_S100x128.axis)
    (y : S800x128.Idx) (hy : y ∈ (dstK j).view.set) :
    (dstK j).view.write (Elt F) fr (gatherPayload gathers_S50000x128_S100x128 ((xAllK).view.read (Elt F) fX)
      (rows ((lstK j).view.read (Elt F) (idxBuf fI w)) rfl hin)) Finset.univ y = gPart fI fX w y := by
  obtain ⟨x, -, rfl⟩ := Finset.mem_map.mp hy
  rw [View.write_emb_of_mem _ _ (Finset.mem_univ x)]
  refine (cast_eq _ _).trans ?_
  unfold gatherPayload
  rw [read_xAllK]
  unfold gPart gOut
  congr 1
  rw [emb_dstK]
  funext a
  match a with
  | 0 =>
    refine (Shape.Gathers.idx_axis _ _ _).trans (Fin.ext ?_)
    have e1 : (lstK j).view.read (Elt F) (idxBuf fI w) (S100.rowMajor.symm (x 0)) = idxBuf fI w (ix2 j (x 0)) :=
      (read_lstK j _ _).trans (congrArg (fun z => idxBuf fI w (ix2 j z))
        (Fin.ext ((Shape.rowMajor_val_one _).symm.trans (congrArg Fin.val (Equiv.apply_symm_apply _ _)))))
    have h1 : (idxBuf fI w (ix2 j (x 0))).toNat < 50000 := e1 ▸ hin _
    have e2 : (idxBuf fI w (ix2 j (x 0))).toNat = (gRow (idxBuf fI w (ix2 j (x 0)))).val := (Nat.mod_eq_of_lt h1).symm
    exact (congrArg BitVec.toNat e1).trans (e2.trans (congrArg (fun v => (gRow v).val)
      (entry_task fI w j (x 0).val (x 0).isLt (by have : (x 0).val < 100 := (x 0).isLt; omega)).symm))
  | 1 => exact Fin.ext (Shape.Gathers.idx_of_ne _ _ _ 1 (by decide))

/-- The write-out leaves the task's block of the result at the gathered rows. -/
theorem writeOut_part (fI : S32x8x100.Idx → BitVec 32) (fX : S50000x128.Idx → F .f32) (fo : S25600x128.Idx → F .f32)
    (y : S25600x128.Idx) (hy : y ∈ (oRowK L).view.set) :
    (oRowK L).view.writes (Elt F) fo [⟨Rect.whole S800x128, (rV).view.read (Elt F) (gPart fI fX (wL L))⟩] y = gOut fI fX y := by
  obtain ⟨x, -, rfl⟩ := Finset.mem_map.mp hy
  refine (cast_eq _ _).symm.trans ((View.read_apply (v := (oRowK L).view) _ x).symm.trans ?_)
  rw [View.read_writes_whole, emb_oRowK]
  rfl

/-! ## The eight gathers as one batch -/

abbrev thr (d : Dev nD) (L : grid0.Coords) : Thread nD τ := V d (cV L) (jV L)
abbrev cGcell (d : Dev nD) (L : grid0.Coords) : GSem nD τ sig := (thr d L, .dma cc0_scratch2.sem)
abbrev cAcell (d : Dev nD) (L : grid0.Coords) : GSem nD τ sig := (thr d L, .dma cc0_scoped0.sem)
abbrev cBcell (d : Dev nD) (L : grid0.Coords) : GSem nD τ sig := (thr d L, .dma cc0_scoped1.sem)

/-- What one gathered row pays on the semaphore. -/
def rowCredit : ℕ := ((dstK 0).slice (S100x128.rowRect gathers_S50000x128_S100x128.axis' ⟨0, by decide⟩) (S100x128.stride_rowRect _ _)).view.dmaCredit

theorem rowCredit_eq (j : Fin 8) (k : Fin (S100x128.size gathers_S50000x128_S100x128.axis')) :
    ((dstK j).slice (S100x128.rowRect gathers_S50000x128_S100x128.axis' k) (S100x128.stride_rowRect _ _)).view.dmaCredit = rowCredit := rfl
theorem gatherCredit_eq (j : Fin 8) : (dstK j).view.dmaCredit = 100 * rowCredit := rfl
theorem rowCredit_pos : 0 < rowCredit := by decide
theorem credit_le (j : ℕ) (hj : j < 8) : j * (100 * rowCredit) + 100 * rowCredit ≤ rowCredit * 800 := by
  rw [← Nat.succ_mul, show rowCredit * 800 = 8 * (100 * rowCredit) by omega]
  exact Nat.mul_le_mul_right _ hj
theorem credit_all : 7 * (100 * rowCredit) + 100 * rowCredit = rowCredit * 800 := by omega

attribute [local irreducible] rowCredit

/-- Every row number is a row of the table. -/
def InTable (fI : S32x8x100.Idx → BitVec 32) : Prop := ∀ z, (fI z).toNat < 50000

theorem list_inTable {fI : S32x8x100.Idx → BitVec 32} (h : InTable fI) (w : Fin 32) (j : Fin 8) (x : S100.Idx) :
    ((lstK j).view.read (Elt F) (idxBuf fI w) x).toNat < S50000x128.size gathers_S50000x128_S100x128.axis := by
  rw [read_lstK]; exact h _

variable {fI : S32x8x100.Idx → BitVec 32} (hI : InTable fI) (fX : S50000x128.Idx → F .f32) (fr : S800x128.Idx → F .f32)

/-- What row `k` of gather `j` delivers. -/
abbrev delivery (j : Fin 8) (k : Fin 100) : sProp 𝕄 :=
  rowDelivery (F := F) (Name := ℕ) (U := UU) (Lvl := ℕ) (Ix := HIx 1) (thr d L) xAllK (dstK j) gathers_S50000x128_S100x128 (lstK j) rfl (by decide)
    (xqj (wL L) j) fullShare fX fr (idxBuf fI (wL L)) (list_inTable hI (wL L) j) k

/-- What transfer `t` of the batch delivers: row `t % 100` of gather `t / 100`. -/
def batchDelivery (t : Fin 800) : sProp 𝕄 :=
  delivery d L hI fX fr ⟨t.val / 100, by omega⟩ ⟨t.val % 100, Nat.mod_lt _ (by decide)⟩

instance (t : Fin 800) : Storable (upEmb : UEmb _ 𝕄) (batchDelivery d L hI fX fr t) := by
  unfold batchDelivery; exact rowDelivery_storable ..

theorem batchDelivery_eq (j : Fin 8) (k : Fin 100) (h : 100 * j.val + k.val < 800) :
    batchDelivery d L hI fX fr ⟨100 * j.val + k.val, h⟩ = delivery d L hI fX fr j k := by
  unfold batchDelivery
  have e1 : (⟨(100 * j.val + k.val) / 100, by omega⟩ : Fin 8) = j := Fin.ext (by show (100 * j.val + k.val) / 100 = j.val; omega)
  have e2 : (⟨(100 * j.val + k.val) % 100, Nat.mod_lt _ (by decide)⟩ : Fin 100) = k := Fin.ext (by show (100 * j.val + k.val) % 100 = k.val; omega)
  show delivery d L hI fX fr ⟨(100 * j.val + k.val) / 100, _⟩ ⟨(100 * j.val + k.val) % 100, _⟩ = _
  rw [e1, e2]

/-- What gather `j` takes: its piece of the table, its part of the row scratch, its list. -/
abbrev gatherRes (fr : S800x128.Idx → F .f32) (fI : S32x8x100.Idx → BitVec 32) (j : Fin 8) : sProp 𝕄 :=
  iprop(((xAllK).view.loc (thr d L) ↦[(xAllK).view.set]{xqj (wL L) j} fX)
    ∗ ((dstK j).view.loc (thr d L) ↦[(dstK j).view.set]{fullShare} fr)
    ∗ ((lstK j).view.loc (thr d L) ↦[(lstK j).view.set]{fullShare} idxBuf fI (wL L)))

/-- The batch of the 800 row transfers, `j` issued and `u` units waited for. -/
abbrev batch (j u : ℕ) : sProp 𝕄 :=
  Batch (countersEmb (nD := nD) (sig := sig) (τ := τ)) (thr d L) (.dma cc0_scratch2.sem) (default : HIx 1) rowCredit (batchDelivery d L hI fX fr) j u

variable [FloatOps F]

/-- Gather `j`'s issue: the batch's next hundred transfers, from gather `j`'s resources. -/
theorem gather_step {α : Type} {Q : α → sProp 𝕄} (j : ℕ) (hj : j < 8) {hs : (xAllK).view.WordExact}
    {k : PUnit → Prog (TpuEff nD τ sig (Elt F) Λ₀ (thr d L).2) α} :
    iprop(bigSep (pending (n := 8) j) (gatherRes d L fX fr fI) ∗ batch d L hI fX fr (100 * j) 0)
      ⊢ iprop((iprop(bigSep (pending (n := 8) (j + 1)) (gatherRes d L fX fr fI) ∗ batch d L hI fX fr (100 * (j + 1)) 0)
              -∗ wp frame (wpE (defs₀ (F := F)) 𝒱₀ (thr d L) none) Set.univ (k ⟨⟩) Q)
          -∗ wp frame (wpE (defs₀ (F := F)) 𝒱₀ (thr d L) none) Set.univ
            (SparseCore.enqueueIndirectGather rfl xAllK (dstK ⟨j, hj⟩) gathers_S50000x128_S100x128 (lstK ⟨j, hj⟩) rfl cc0_scratch2.sem hs rfl (Or.inl rfl) >>= k) Q) := by
  rw [Transfers.bigSep_pending_step _ j hj]
  iintro ⟨⟨⟨Hx, Hd, Hl⟩, Hrest⟩, HB⟩ Hk
  iapply (wp_indirectGatherBatch countersEmb 𝒱₀ (thr d L) none (default : HIx 1) rowCredit (rowCredit_eq ⟨j, hj⟩) (by decide)
    (list_inTable hI (wL L) ⟨j, hj⟩) (j := 100 * j) (u := 0)
    (show 100 * j + 100 ≤ 800 by omega) (Nat.zero_le _)
    (fun k => Entails.of_eq (batchDelivery_eq d L hI fX fr ⟨j, hj⟩ k _).symm)) $$ [Hx Hd Hl HB]
  · isplitl [Hx]; · iexact Hx
    isplitl [Hd]; · iexact Hd
    isplitl [Hl]; · iexact Hl
    iexact HB
  iintro HB
  iapply Hk
  isplitl [Hrest]; · iexact Hrest
  iexact HB

/-- A wait for one gather's units that is not the last. -/
theorem wait_step {α : Type} {Q : α → sProp 𝕄} (j : ℕ) (hj : j < 7) {O : CellTallies nD τ sig (HIx 1)} {W : Waits sig (HIx 1)}
    {hs : (xAllK).view.WordExact} {hd : (dstK ⟨j, by omega⟩).view.WordExact}
    {k : PUnit → Prog (TpuEff nD τ sig (Elt F) Λ₀ (thr d L).2) α} :
    iprop(batch d L hI fX fr 800 (j * (100 * rowCredit)) ∗ owes (thr d L) O W ∗ Transfers.MayWaits (thr d L) (default : HIx 1) O)
      ⊢ iprop((iprop(batch d L hI fX fr 800 ((j + 1) * (100 * rowCredit)) ∗ owes (thr d L) O (insert (SemLoc.dma cc0_scratch2.sem, (default : HIx 1)) W))
              -∗ wp frame (wpE (defs₀ (F := F)) 𝒱₀ (thr d L) none) Set.univ (k ⟨⟩) Q)
          -∗ wp frame (wpE (defs₀ (F := F)) 𝒱₀ (thr d L) none) Set.univ
            (SparseCore.waitIndirectGather cc0_scratch2.sem xAllK (dstK ⟨j, by omega⟩) hs hd >>= k) Q) := by
  iintro ⟨HB, HO, Hmw⟩ Hk
  iapply (Transfers.wp_waitBatchMulO countersEmb 𝒱₀ (thr d L) none (default : HIx 1) 100 (gatherCredit_eq ⟨j, by omega⟩)
    (D := batchDelivery d L hI fX fr) (credit_le j (by omega))) $$ [HB HO Hmw]
  · isplitl [HB]; · iexact HB
    isplitl [HO]; · iexact HO
    iapply (Transfers.MayWaits.elim (SemLoc.dma cc0_scratch2.sem)) $$ Hmw
  rw [← Nat.succ_mul (n := j)]
  iintro ⟨HB, HO⟩
  iapply Hk
  isplitl [HB]; · iexact HB
  iexact HO

/-- The last wait: every transfer's delivery, the semaphore at zero. -/
theorem wait_last {α : Type} {Q : α → sProp 𝕄} {O : CellTallies nD τ sig (HIx 1)} {W : Waits sig (HIx 1)}
    {hs : (xAllK).view.WordExact} {hd : (dstK 7).view.WordExact}
    {k : PUnit → Prog (TpuEff nD τ sig (Elt F) Λ₀ (thr d L).2) α} :
    iprop(batch d L hI fX fr 800 (7 * (100 * rowCredit)) ∗ owes (thr d L) O W ∗ Transfers.MayWaits (thr d L) (default : HIx 1) O)
      ⊢ iprop((iprop(bigSep Finset.univ (batchDelivery d L hI fX fr) ∗ semVal (cGcell d L) 0
                ∗ owes (thr d L) O (insert (SemLoc.dma cc0_scratch2.sem, (default : HIx 1)) W))
              -∗ wp frame (wpE (defs₀ (F := F)) 𝒱₀ (thr d L) none) Set.univ (k ⟨⟩) Q)
          -∗ wp frame (wpE (defs₀ (F := F)) 𝒱₀ (thr d L) none) Set.univ
            (SparseCore.waitIndirectGather cc0_scratch2.sem xAllK (dstK 7) hs hd >>= k) Q) := by
  iintro ⟨HB, HO, Hmw⟩ Hk
  iapply (Transfers.wp_waitBatchAllO countersEmb 𝒱₀ (thr d L) none (default : HIx 1) (gatherCredit_eq 7) rowCredit_pos
    (D := batchDelivery d L hI fX fr) credit_all) $$ [HB HO Hmw]
  · isplitl [HB]; · iexact HB
    isplitl [HO]; · iexact HO
    iapply (Transfers.MayWaits.elim (SemLoc.dma cc0_scratch2.sem)) $$ Hmw
  iexact Hk

omit [FloatOps F] in
/-- Member by member entailment of two families. -/
theorem bigSep_weaken {I : Type} (s : Finset I) (Φ Ψ : I → sProp 𝕄) (h : ∀ i, Φ i ⊢ Ψ i) : bigSep s Φ ⊢ bigSep s Ψ := bigSep_mono fun i _ => h i

theorem rows_disjoint : ∀ i ∈ (Finset.univ : Finset (Fin 8)), ∀ j ∈ (Finset.univ : Finset (Fin 8)), i ≠ j → Disjoint (rrow i).set (rrow j).set :=
  fun _ _ _ _ h => Rect.part_disjoint rdiv h
theorem lists_disjoint : ∀ i ∈ (Finset.univ : Finset (Fin 8)), ∀ j ∈ (Finset.univ : Finset (Fin 8)), i ≠ j → Disjoint (srow i).set (srow j).set :=
  fun _ _ _ _ h => Rect.part_disjoint sdiv h

omit [FloatOps F] in
/-- The row scratch is its eight parts. -/
theorem rV_parts (f : S800x128.Idx → F .f32) :
    ((rV).view.loc (thr d L) ↦{fullShare} f : sProp 𝕄)
      = bigSep Finset.univ fun j : Fin 8 => (dstK j).view.loc (thr d L) ↦[(dstK j).view.set]{fullShare} f := by
  refine Eq.trans ?_ ((pointsTo_biUnion Finset.univ (ℓ := (rV).view.loc (thr d L)) (fun j => (rrow j).set) rows_disjoint).trans
    (bigSep_congr fun j _ => congrArg (fun S => ((rV).view.loc (thr d L) ↦[S]{fullShare} f : sProp 𝕄)) (set_dstK j).symm))
  rw [show (Finset.univ : Finset (Fin 8)).biUnion (fun j => (rrow j).set) = Finset.univ from Rect.biUnion_part rdiv]
omit [FloatOps F] in
/-- The index scratch is its eight rows. -/
theorem sV_parts (f : S8x100.Idx → BitVec 32) :
    ((sV).view.loc (thr d L) ↦{fullShare} f : sProp 𝕄)
      = bigSep Finset.univ fun j : Fin 8 => (lstK j).view.loc (thr d L) ↦[(lstK j).view.set]{fullShare} f := by
  refine Eq.trans ?_ ((pointsTo_biUnion Finset.univ (ℓ := (sV).view.loc (thr d L)) (fun j => (srow j).set) lists_disjoint).trans
    (bigSep_congr fun j _ => congrArg (fun S => ((sV).view.loc (thr d L) ↦[S]{fullShare} f : sProp 𝕄)) (set_lstK j).symm))
  rw [show (Finset.univ : Finset (Fin 8)).biUnion (fun j => (srow j).set) = Finset.univ from Rect.biUnion_part sdiv]
omit [FloatOps F] in
/-- The task's piece of the table is its eight gathers' pieces. -/
theorem xV_parts (w : Fin 32) :
    (xLoc d ↦{xq w} fX : sProp 𝕄)
      = bigSep Finset.univ fun j : Fin 8 => (xAllK).view.loc (thr d L) ↦[(xAllK).view.set]{xqj w j} fX := by
  show (xLoc d ↦{xq w} fX : sProp 𝕄) = bigSep Finset.univ fun j : Fin 8 => (xLoc d ↦[(xAllK).view.set]{xqj w j} fX : sProp 𝕄)
  rw [set_xAllK]
  have h : ∀ (I : Finset (Idx (xLoc d))) (f : Buf (Elt F) (xLoc d)), (xLoc d ↦[I]{xq w} f : sProp 𝕄) = bigSep Finset.univ fun j : Fin 8 => (xLoc d ↦[I]{xqj w j} f : sProp 𝕄) :=
    fun I f => pointsTo_piecesOf (ℓ := xLoc d) I f (Nat.zero_lt_succ 7) (xq w)
  exact h Finset.univ fX

omit [FloatOps F] in
/-- All 800 deliveries: the row scratch at the task's gathered rows, the task's piece of the table, the index scratch. -/
theorem deliveries_join :
    (bigSep Finset.univ (batchDelivery d L hI fX fr))
      ⊢ iprop(((rV).view.loc (thr d L) ↦{fullShare} gPart fI fX (wL L))
        ∗ (xLoc d ↦{xq (wL L)} fX) ∗ ((sV).view.loc (thr d L) ↦{fullShare} idxBuf fI (wL L)) : sProp 𝕄) := by
  have e : bigSep Finset.univ (batchDelivery d L hI fX fr)
      = bigSep Finset.univ fun j : Fin 8 => bigSep Finset.univ fun k : Fin 100 => delivery d L hI fX fr j k := by
    rw [bigSep_univ_equiv (finProdFinEquiv : Fin 8 × Fin 100 ≃ Fin 800), bigSep_univ_prod]
    refine bigSep_congr fun j _ => bigSep_congr fun k _ => ?_
    rw [← batchDelivery_eq d L hI fX fr j k (by omega)]
    exact congrArg _ (Fin.ext (Nat.add_comm _ _))
  have hj : ∀ j : Fin 8, (bigSep Finset.univ fun k : Fin 100 => delivery d L hI fX fr j k)
      ⊢ iprop((((dstK j).view.loc (thr d L) ↦[(dstK j).view.set]{fullShare} gPart fI fX (wL L))
        ∗ ((xAllK).view.loc (thr d L) ↦[(xAllK).view.set]{xqj (wL L) j} fX))
        ∗ ((lstK j).view.loc (thr d L) ↦[(lstK j).view.set]{fullShare} idxBuf fI (wL L)) : sProp 𝕄) := fun j => by
    refine (rowDelivery_join (thr d L) (by decide) (list_inTable hI (wL L) j)).trans ?_
    rw [pointsTo_congr (fun y hy => gather_part fI fX fr (wL L) j (list_inTable hI (wL L) j) y hy)]
    iintro ⟨H1, H2, H3⟩
    isplitr [H3]
    · isplitl [H1] <;> iassumption
    iexact H3
  rw [e, rV_parts, sV_parts, xV_parts d L]
  iintro H0
  ihave H := (bigSep_weaken _ _ _ hj) $$ H0
  ihave H1 := Transfers.bigSep_sep_out _ _ _ $$ H
  icases H1 with ⟨H2, Hs⟩
  ihave H3 := Transfers.bigSep_sep_out _ _ _ $$ H2
  icases H3 with ⟨Hr, Hx⟩
  isplitl [Hr]; · iexact Hr
  isplitl [Hx]; · iexact Hx
  iexact Hs

omit [FloatOps F] in
/-- The scratch buffers and the task's piece of the table as the eight gathers take them. -/
theorem gatherRes_split :
    iprop(((rV).view.loc (thr d L) ↦{fullShare} fr) ∗ (xLoc d ↦{xq (wL L)} fX) ∗ ((sV).view.loc (thr d L) ↦{fullShare} idxBuf fI (wL L)))
      ⊢ (bigSep (pending (n := 8) 0) (gatherRes d L fX fr fI) : sProp 𝕄) := by
  rw [Transfers.pending_zero, rV_parts, sV_parts, xV_parts d L]
  iintro ⟨Hr, Hx, Hs⟩
  ihave H1 := Transfers.bigSep_sep_in _ _ _ $$ [Hr Hs]; · isplitl [Hr] <;> iassumption
  iapply (Transfers.bigSep_sep_in _ _ _)
  isplitl [Hx]; · iexact Hx
  iexact H1

/-- The batch begins from the semaphore at zero. -/
theorem batch_begin : (semVal (cGcell d L) 0 : sProp 𝕄) ⊢ |={Set.univ}=> batch d L hI fX fr 0 0 :=
  Transfers.batch_alloc' (Name := ℕ) (U := UU) (Lvl := ℕ) countersEmb (thr d L) (sm := .dma cc0_scratch2.sem) (default : HIx 1) rowCredit (batchDelivery d L hI fX fr)

/-! ## The task -/

/-- What a task takes: its block of the index array, its piece of the table, its block of the result at `f`. -/
abbrev taskRes (d : Dev nD) (w : Fin 32) (fI : S32x8x100.Idx → BitVec 32) (fX : S50000x128.Idx → F .f32) (f : S25600x128.Idx → F .f32) : sProp 𝕄 :=
  iprop((iLoc d ↦[iRowSet w]{fullShare} fI) ∗ (xLoc d ↦{xq w} fX) ∗ (oLoc d ↦[oRowSet w]{fullShare} f))

theorem pts_iRowK (f : S32x8x100.Idx → BitVec 32) :
    ((iRowK L).view.loc (thr d L) ↦[(iRowK L).view.set]{fullShare} f : sProp 𝕄) = iLoc d ↦[iRowSet (wL L)]{fullShare} f := by
  rw [set_iRowK]
theorem pts_oRowK (f : S25600x128.Idx → F .f32) :
    ((oRowK L).view.loc (thr d L) ↦[(oRowK L).view.set]{fullShare} f : sProp 𝕄) = oLoc d ↦[oRowSet (wL L)]{fullShare} f := by
  rw [set_oRowK]

omit [FloatOps F] in
theorem ownSems0_V :
    (ownSems0 (thr d L) : sProp 𝕄)
      = iprop(semVal (cAcell d L) 0 ∗ semVal (cBcell d L) 0 ∗ semVal (cGcell d L) 0
          ∗ bigSep ((((ownCells (thr d L)).erase (cAcell d L)).erase (cBcell d L)).erase (cGcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩),
    SparseCore.bigSep_erase' (Finset.mem_erase.mpr ⟨by simp [cBcell, cGcell]; decide, Finset.mem_erase.mpr ⟨by simp [cAcell, cGcell]; decide,
      (mem_ownCells (g := cGcell d L)).mpr ⟨rfl, by show (SemLoc.dma cc0_scratch2.sem : SemLoc sig).isScoped .scVector = true; decide⟩⟩⟩)]

omit [FloatOps F] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- A program followed by a plain return has the program's own precondition. -/
theorem wp_of_ret {Ef : Type → Type} {wpE' : Set ℕ → ∀ ⦃β : Type⦄, Ef β → sWPT 𝕄 β} {Q : PUnit.{1} → sProp 𝕄} {p : Prog Ef PUnit.{1}} {R : sProp 𝕄}
    (h : R ⊢ wp frame wpE' Set.univ (p >>= fun _ => .ret ⟨⟩) Q) : R ⊢ wp frame wpE' Set.univ p Q := by
  rw [wp_bind] at h
  exact h.trans (wp_fupd _ _ _ p Q)

/-- Gather `j`'s issue, by itself. -/
theorem gather_wp (j : ℕ) (hj : j < 8) {hs : (xAllK).view.WordExact} :
    iprop(bigSep (pending (n := 8) j) (gatherRes d L fX fr fI) ∗ batch d L hI fX fr (100 * j) 0)
      ⊢ wp frame (wpE (defs₀ (F := F)) 𝒱₀ (thr d L) none) Set.univ
          (SparseCore.enqueueIndirectGather rfl xAllK (dstK ⟨j, hj⟩) gathers_S50000x128_S100x128 (lstK ⟨j, hj⟩) rfl cc0_scratch2.sem hs rfl (Or.inl rfl))
          fun _ => iprop(bigSep (pending (n := 8) (j + 1)) (gatherRes d L fX fr fI) ∗ batch d L hI fX fr (100 * (j + 1)) 0) := by
  refine wp_of_ret ?_
  iintro H
  iapply (gather_step d L hI fX fr j hj) $$ H
  iintro H
  iapply (le_wp_ret frame (wpE (defs₀ (F := F)) 𝒱₀ (thr d L) none) Set.univ) $$ H

/-- The second part of the body issues gathers 3 to 7. -/
theorem part2_wp :
    iprop(bigSep (pending (n := 8) 3) (gatherRes d L fX fr fI) ∗ batch d L hI fX fr (100 * 3) 0)
      ⊢ wp frame (wpE (defs₀ (F := F)) 𝒱₀ (thr d L) none) Set.univ
          (k0_part2_skel L iV (Memref.isWhole_whole _) xV (Memref.isWhole_whole _) oV (Memref.isWhole_whole _)
            sV (Memref.isWhole_whole _) rV (Memref.isWhole_whole _) cc0_scratch2 cc0_scoped0 cc0_scoped1)
          fun _ => iprop(bigSep (pending (n := 8) 8) (gatherRes d L fX fr fI) ∗ batch d L hI fX fr (100 * 8) 0) := by
  unfold k0_part2_skel
  simp only [wp_bind]
  refine (gather_wp d L hI fX fr 3 (by decide)).trans (wp_mono _ _ _ fun _ => ?_)
  refine (gather_wp d L hI fX fr 4 (by decide)).trans (wp_mono _ _ _ fun _ => ?_)
  refine (gather_wp d L hI fX fr 5 (by decide)).trans (wp_mono _ _ _ fun _ => ?_)
  refine (gather_wp d L hI fX fr 6 (by decide)).trans (wp_mono _ _ _ fun _ => ?_)
  refine (gather_wp d L hI fX fr 7 (by decide)).trans (wp_mono _ _ _ fun _ => ?_)
  exact le_wp_ret frame (wpE (defs₀ (F := F)) 𝒱₀ (thr d L) none) Set.univ PUnit.unit
    (fun _ => iprop(bigSep (pending (n := 8) 8) (gatherRes d L fX fr fI) ∗ batch d L hI fX fr (100 * 8) 0))

/-- What is owed while the waits on the gathers' semaphore go on: waits added to `W` are all on that semaphore. -/
abbrev owing (O : CellTallies nD τ sig (HIx 1)) (W : Waits sig (HIx 1)) : sProp 𝕄 :=
  iprop(∃ W', ⌜∀ p ∈ W', p ∈ W ∨ p.2 = none⌝ ∗ owes (thr d L) O W')

omit [FloatOps F] in
/-- One more wait on the gathers' semaphore. -/
theorem owing_insert {O : CellTallies nD τ sig (HIx 1)} {W W' : Waits sig (HIx 1)} (s : SemLoc sig) (h : ∀ p ∈ W', p ∈ W ∨ p.2 = none) :
    (owes (thr d L) O (insert (s, (default : HIx 1)) W') : sProp 𝕄) ⊢ owing d L O W := by
  iintro H
  iexists (insert (s, (default : HIx 1)) W')
  isplitr
  · ipureintro
    intro p hp
    rcases Finset.mem_insert.mp hp with rfl | hp
    · exact Or.inr rfl
    · exact h p hp
  · iexact H

/-- A wait for one gather's units that is not the last, by itself. -/
theorem wait_wp (j : ℕ) (hj : j < 7) {O : CellTallies nD τ sig (HIx 1)} {W : Waits sig (HIx 1)}
    {hs : (xAllK).view.WordExact} {hd : (dstK ⟨j, by omega⟩).view.WordExact} :
    iprop(Transfers.MayWaits (thr d L) (default : HIx 1) O ∗ batch d L hI fX fr 800 (j * (100 * rowCredit)) ∗ owing d L O W)
      ⊢ wp frame (wpE (defs₀ (F := F)) 𝒱₀ (thr d L) none) Set.univ
          (SparseCore.waitIndirectGather cc0_scratch2.sem xAllK (dstK ⟨j, by omega⟩) hs hd)
          fun _ => iprop(Transfers.MayWaits (thr d L) (default : HIx 1) O ∗ batch d L hI fX fr 800 ((j + 1) * (100 * rowCredit)) ∗ owing d L O W) := by
  refine wp_of_ret ?_
  iintro ⟨#Hmw, HB, ⟨%W', %hW', HO⟩⟩
  iapply (wait_step d L hI fX fr j hj) $$ [HB HO]
  · isplitl [HB]; · iexact HB
    isplitl [HO]; · iexact HO
    iexact Hmw
  iintro ⟨HB, HO⟩
  iapply (le_wp_ret frame (wpE (defs₀ (F := F)) 𝒱₀ (thr d L) none) Set.univ PUnit.unit (fun _ => iprop(Transfers.MayWaits (thr d L) (default : HIx 1) O ∗ batch d L hI fX fr 800 ((j + 1) * (100 * rowCredit)) ∗ owing d L O W)))
  isplitr; · iexact Hmw
  isplitl [HB]; · iexact HB
  iapply (owing_insert d L (SemLoc.dma cc0_scratch2.sem) hW') $$ HO

/-- The third part of the body waits for gathers 0 to 5. -/
theorem part3_wp {O : CellTallies nD τ sig (HIx 1)} {W : Waits sig (HIx 1)} :
    iprop(Transfers.MayWaits (thr d L) (default : HIx 1) O ∗ batch d L hI fX fr 800 0 ∗ owing d L O W)
      ⊢ wp frame (wpE (defs₀ (F := F)) 𝒱₀ (thr d L) none) Set.univ
          (k0_part3_skel L iV (Memref.isWhole_whole _) xV (Memref.isWhole_whole _) oV (Memref.isWhole_whole _)
            sV (Memref.isWhole_whole _) rV (Memref.isWhole_whole _) cc0_scratch2 cc0_scoped0 cc0_scoped1)
          fun _ => iprop(Transfers.MayWaits (thr d L) (default : HIx 1) O ∗ batch d L hI fX fr 800 (6 * (100 * rowCredit)) ∗ owing d L O W) := by
  unfold k0_part3_skel
  simp only [wp_bind]
  refine (Entails.trans (Entails.of_eq (by rw [Nat.zero_mul])) (wait_wp d L hI fX fr 0 (by decide))).trans (wp_mono _ _ _ fun _ => ?_)
  refine (wait_wp d L hI fX fr 1 (by decide)).trans (wp_mono _ _ _ fun _ => ?_)
  refine (wait_wp d L hI fX fr 2 (by decide)).trans (wp_mono _ _ _ fun _ => ?_)
  refine (wait_wp d L hI fX fr 3 (by decide)).trans (wp_mono _ _ _ fun _ => ?_)
  refine (wait_wp d L hI fX fr 4 (by decide)).trans (wp_mono _ _ _ fun _ => ?_)
  refine (wait_wp d L hI fX fr 5 (by decide)).trans (wp_mono _ _ _ fun _ => ?_)
  exact le_wp_ret frame (wpE (defs₀ (F := F)) 𝒱₀ (thr d L) none) Set.univ PUnit.unit
    (fun _ => iprop(Transfers.MayWaits (thr d L) (default : HIx 1) O ∗ batch d L hI fX fr 800 (6 * (100 * rowCredit)) ∗ owing d L O W))

/-- The rest of the first part of the body, after the list's fetch, issues gathers 0 to 2. -/
theorem part1_wp (fs : S8x100.Idx → BitVec 32) {O : CellTallies nD τ sig (HIx 1)} {W : Waits sig (HIx 1)} :
    iprop(Transfers.MayWaits (thr d L) (default : HIx 1) O
        ∗ ((iRowK L).view.loc (thr d L) ↦[(iRowK L).view.set]{fullShare} fI)
        ∗ ((sV).view.loc (thr d L) ↦{fullShare} fs)
        ∗ ((rV).view.loc (thr d L) ↦{fullShare} fr)
        ∗ ((xV).view.loc (thr d L) ↦{xq (wL L)} fX)
        ∗ semVal (cAcell d L) 0 ∗ batch d L hI fX fr (100 * 0) 0 ∗ owes (thr d L) O W)
      ⊢ wp frame (wpE (defs₀ (F := F)) 𝒱₀ (thr d L) none) Set.univ
          (k0_part1_skel L iV (Memref.isWhole_whole _) xV (Memref.isWhole_whole _) oV (Memref.isWhole_whole _)
            sV (Memref.isWhole_whole _) rV (Memref.isWhole_whole _) cc0_scratch2 cc0_scoped0 cc0_scoped1)
          fun _ => iprop(Transfers.MayWaits (thr d L) (default : HIx 1) O
            ∗ ((iRowK L).view.loc (thr d L) ↦[(iRowK L).view.set]{fullShare} fI)
            ∗ (bigSep (pending (n := 8) 3) (gatherRes d L fX fr fI) ∗ batch d L hI fX fr (100 * 3) 0)
            ∗ semVal (cAcell d L) 0 ∗ owing d L O W) := by
  unfold k0_part1_skel
  iintro ⟨#Hmw, Hi, Hs, Hr, Hx, HsemA, HB, HO⟩
  sl_exec
  have hs : View.write (Elt F) (sV).view fs (part1_wp.sl.dma0 L (fI := fI)) Finset.univ = idxBuf fI (wL L) := by
    rw [View.write_whole_univ]; exact read_iRowK L fI
  ihave Hs2 := (Entails.of_eq (congrArg (fun f => ((sV).view.loc (thr d L) ↦{fullShare} f : sProp 𝕄)) hs)) $$ Hs
  ihave Hg := (gatherRes_split d L (fI := fI) fX fr) $$ [Hr Hx Hs2]
  · isplitl [Hr]; · iexact Hr
    isplitl [Hx]; · iexact Hx
    iexact Hs2
  iapply (gather_step d L hI fX fr 0 (by decide)) $$ [Hg HB]
  · isplitl [Hg]
    · iexact Hg
    · iexact HB
  iintro H
  simp only []
  iapply (gather_step d L hI fX fr 1 (by decide)) $$ H
  iintro H
  simp only []
  iapply (gather_step d L hI fX fr 2 (by decide)) $$ H
  iintro H
  simp only []
  iapply (le_wp_ret frame (wpE (defs₀ (F := F)) 𝒱₀ (thr d L) none) Set.univ (part1_wp.sl.v1 L))
  isplitr; · iexact Hmw
  isplitl [Hi]; · iexact Hi
  isplitl [H]; · iexact H
  isplitl [HsemA]; · iexact HsemA
  iapply (owing_insert d L (O := O) (W := W) (W' := W) _ (fun p hp => Or.inl hp)) $$ HO

/-- The end of the body: the waits for gathers 6 and 7, and the rows' copy to the result. -/
theorem last_wp (fo : S25600x128.Idx → F .f32) {O : CellTallies nD τ sig (HIx 1)} {W : Waits sig (HIx 1)}
    {h0 h1 : (xAllK).view.WordExact} {h2 : (dstK 6).view.WordExact} {h3 : (dstK 7).view.WordExact}
    {h4 h6 : (rV).view.WordExact} {h5 h7 : (oRowK L).view.WordExact} {h8} :
    iprop(Transfers.MayWaits (thr d L) (default : HIx 1) O ∗ batch d L hI fX fr 800 (6 * (100 * rowCredit)) ∗ owing d L O W
        ∗ ((oRowK L).view.loc (thr d L) ↦[(oRowK L).view.set]{fullShare} fo) ∗ semVal (cBcell d L) 0)
      ⊢ wp frame (wpE (defs₀ (F := F)) 𝒱₀ (thr d L) none) Set.univ
          (do
            SparseCore.waitIndirectGather cc0_scratch2.sem xAllK (dstK 6) h0 h2
            SparseCore.waitIndirectGather cc0_scratch2.sem xAllK (dstK 7) h1 h3
            Prog.lift (.enqueueDma rV (.here (oRowK L)) (.dma cc0_scoped1.sem) h4 h5 h8)
            Prog.lift (.waitDma2 cc0_scoped1.sem rV (oRowK L) h6 h7)
            pure PUnit.unit)
          fun _ => iprop(((oRowK L).view.loc (thr d L) ↦[(oRowK L).view.set]{fullShare} gOut fI fX)
            ∗ ((rV).view.loc (thr d L) ↦{fullShare} gPart fI fX (wL L))
            ∗ (xLoc d ↦{xq (wL L)} fX) ∗ ((sV).view.loc (thr d L) ↦{fullShare} idxBuf fI (wL L))
            ∗ semVal (cBcell d L) 0 ∗ semVal (cGcell d L) 0 ∗ owing d L O W) := by
  iintro ⟨#Hmw, HB, ⟨%W', %hW', HO⟩, Ho, HsemB⟩
  iapply (wait_step d L hI fX fr 6 (by decide)) $$ [HB HO]
  · isplitl [HB]; · iexact HB
    isplitl [HO]; · iexact HO
    iexact Hmw
  iintro ⟨HB, HO⟩
  iapply (wait_last d L hI fX fr) $$ [HB HO]
  · isplitl [HB]; · iexact HB
    isplitl [HO]; · iexact HO
    iexact Hmw
  iintro ⟨HD, HsemG, HO⟩
  ihave HD2 := (deliveries_join d L hI fX fr) $$ HD
  icases HD2 with ⟨Hr, Hx, Hs⟩
  sl_exec
  iapply (le_wp_ret frame (wpE (defs₀ (F := F)) 𝒱₀ (thr d L) none) Set.univ PUnit.unit)
  isplitl [Ho]
  · iapply (Entails.of_eq (pointsTo_congr fun y hy => writeOut_part L fI fX fo y hy)) $$ Ho
  isplitl [Hr]; · iexact Hr
  isplitl [Hx]; · iexact Hx
  isplitl [Hs]; · iexact Hs
  isplitl [HsemB]; · iexact HsemB
  isplitl [HsemG]; · iexact HsemG
  iexists _
  isplitr
  rotate_left
  · iexact HO
  · ipureintro
    intro p hp
    rcases Finset.mem_insert.mp hp with rfl | hp
    · exact Or.inr rfl
    rcases Finset.mem_insert.mp hp with rfl | hp
    · exact Or.inr rfl
    rcases Finset.mem_insert.mp hp with rfl | hp
    · exact Or.inr rfl
    exact hW' p hp

include hI in
set_option maxHeartbeats 4000000 in
/-- The task on vector subcore `(L 0, L 1)` of device `d`: from its block of the index array, its piece of the table and
    its block of the result at any contents, it terminates with the block of the result at the gathered rows. -/
theorem tile_body (hF : (K (F := F)).Facts) (fo : S25600x128.Idx → F .f32) (O : CellTallies nD τ sig (HIx 1)) (W : Waits sig (HIx 1)) (hO : ∀ g, O g none = 0) :
    iprop(levAts (K (F := F)).L (K (F := F)).lev ∗ emp
        ∗ taskRes d (wL L) fI fX fo
        ∗ scopedBufs (thr d L) ∗ scopedSems0 (thr d L) ∗ owes (thr d L) O W)
      ⊢ wp frame (wpE (defs₀ (F := F)) 𝒱₀ (thr d L) none) Set.univ
          (cc0__gather_body L iV (Memref.isWhole_whole _) xV (Memref.isWhole_whole _) oV (Memref.isWhole_whole _)
            sV (Memref.isWhole_whole _) rV (Memref.isWhole_whole _) cc0_scratch2 cc0_scoped0 cc0_scoped1)
          fun _ => iprop(taskRes d (wL L) fI fX (gOut fI fX)
            ∗ scopedBufs (thr d L) ∗ scopedSems0 (thr d L)
            ∗ ∃ W', ⌜∀ p ∈ W', p ∈ W ∨ p.2 = none⌝ ∗ owes (thr d L) O W') := by
  simp only [cc0__gather_body_eq_skeleton]
  unfold cc0__gather_body_skel
  simp only [k0_part1_eq_skeleton, k0_part2_eq_skeleton, k0_part3_eq_skeleton]
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemG, Hsems⟩, HO⟩
  ihave #Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L fI).symm) $$ Hi
  ihave Ho' := (Entails.of_eq (pts_oRowK (F := F) d L fo).symm) $$ Ho
  imod (batch_begin d L hI fX fr) $$ HsemG with HB
  rw [wp_bind]
  ihave Hw := (part1_wp d L hI fX fr fs (O := O) (W := W)) $$ [Hi' Hs Hr Hx HsemA HB HO]
  · isplitr; · iexact Hmw
    isplitl [Hi']; · iexact Hi'
    isplitl [Hs]; · iexact Hs
    isplitl [Hr]; · iexact Hr
    isplitl [Hx]; · iexact Hx
    isplitl [HsemA]; · iexact HsemA
    isplitl [HB]; · iexact HB
    iexact HO
  iapply (wp_wand frame (wpE (defs₀ (F := F)) 𝒱₀ (thr d L) none) Set.univ) $$ Hw
  iintro %v ⟨-, Hi, Hg, HsemA, HO⟩
  rw [wp_bind]
  ihave Hw := (part2_wp d L hI fX fr) $$ Hg
  iapply (wp_wand frame (wpE (defs₀ (F := F)) 𝒱₀ (thr d L) none) Set.univ) $$ Hw
  iintro %v2 ⟨-, HB⟩
  rw [wp_bind]
  ihave Hw := (part3_wp d L hI fX fr (O := O) (W := W)) $$ [HB HO]
  · isplitr; · iexact Hmw
    isplitl [HB]; · iexact HB
    iexact HO
  iapply (wp_wand frame (wpE (defs₀ (F := F)) 𝒱₀ (thr d L) none) Set.univ) $$ Hw
  iintro %v3 ⟨-, HB, HO⟩
  ihave Hw := (last_wp d L hI fX fr fo (O := O) (W := W)) $$ [HB HO Ho' HsemB]
  · isplitr; · iexact Hmw
    isplitl [HB]; · iexact HB
    isplitl [HO]; · iexact HO
    isplitl [Ho']; · iexact Ho'
    iexact HsemB
  iapply (wp_wand frame (wpE (defs₀ (F := F)) 𝒱₀ (thr d L) none) Set.univ) $$ Hw
  iintro %v4 ⟨Ho, Hr, Hx, Hs, HsemB, HsemG, HO⟩
  isplitl [Hi Hx Ho]
  · isplitl [Hi]; · iapply (Entails.of_eq (pts_iRowK (F := F) d L fI)) $$ Hi
    isplitl [Hx]; · iexact Hx
    iapply (Entails.of_eq (pts_oRowK (F := F) d L (gOut fI fX))) $$ Ho
  isplitl [Hs Hr Hbufs]
  · isplitl [Hs]
    · iexists (idxBuf fI (wL L)); iexact Hs
    isplitl [Hr]
    · iexists (gPart fI fX (wL L)); iexact Hr
    iexact Hbufs
  isplitl [HsemA HsemB HsemG Hsems]
  · isplitl [HsemA]; · iexact HsemA
    isplitl [HsemB]; · iexact HsemB
    isplitl [HsemG]; · iexact HsemG
    iexact Hsems
  iexact HO

end Tile

end Cert.KernelIdeal.Gather

end
-- ==== Proof.LaunchIdeal.lean ====
/-
  The launch of `KernelIdeal`'s SparseCore call: @main makes the row numbers of the tokens and lays
  them out as 32×8×100, hands the call the layout, the table and the result's buffer, cut for the 32 tasks, and gets them
  back with the result at the gathered rows.
-/
module

public import proofs.«01_k».proof.Proof.GatherIdeal
public import Idealize.ShloMosaic.Lib.Pipeline.Value

@[expose] public section

noncomputable section

namespace Cert.KernelIdeal.Gather

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

local notation "iV" => (Memref.whole Cert.KernelIdeal.main_v7_scv : Memref Cert.KernelIdeal.sig Kind.scVector Space.hbm Cert.KernelIdeal.S32x8x100 EltTy.i32)
local notation "xV" => (Memref.whole Cert.KernelIdeal.main_arg1_scv : Memref Cert.KernelIdeal.sig Kind.scVector Space.hbm Cert.KernelIdeal.S50000x128 EltTy.f32)
local notation "oV" => (Memref.whole Cert.KernelIdeal.main_v8_scv : Memref Cert.KernelIdeal.sig Kind.scVector Space.hbm Cert.KernelIdeal.S25600x128 EltTy.f32)
local notation "sV" => (Memref.whole Cert.KernelIdeal.cc0_scratch0 : Memref Cert.KernelIdeal.sig Kind.scVector Space.vmem Cert.KernelIdeal.S8x100 EltTy.i32)
local notation "rV" => (Memref.whole Cert.KernelIdeal.cc0_scratch1 : Memref Cert.KernelIdeal.sig Kind.scVector Space.vmem Cert.KernelIdeal.S800x128 EltTy.f32)

/-! ## The operands and their cut among the tasks -/

/-- The task that subcore `i` of SparseCore `c` runs. -/
def wN (c : Fin 2) (i : Fin 16) : Fin 32 := ⟨2 * i.val + c.val, by omega⟩

/-- The pairs of a SparseCore and a subcore are the tasks. -/
def taskEquiv : Fin 2 × Fin 16 ≃ Fin 32 := (Equiv.prodComm (Fin 2) (Fin 16)).trans finProdFinEquiv

theorem taskEquiv_apply (c : Fin 2) (i : Fin 16) : taskEquiv (c, i) = wN c i := Fin.ext (show c.val + 2 * i.val = 2 * i.val + c.val by omega)

variable (d : Dev nD)

theorem irows_disjoint : ∀ i ∈ (Finset.univ : Finset (Fin 32)), ∀ j ∈ (Finset.univ : Finset (Fin 32)), i ≠ j → Disjoint (irow i).set (irow j).set :=
  fun _ _ _ _ h => Rect.part_disjoint idiv h
theorem orows_disjoint : ∀ i ∈ (Finset.univ : Finset (Fin 32)), ∀ j ∈ (Finset.univ : Finset (Fin 32)), i ≠ j → Disjoint (orow i).set (orow j).set :=
  fun _ _ _ _ h => Rect.part_disjoint odiv h

/-- The index array is its 32 blocks. -/
theorem i_tasks (f : S32x8x100.Idx → BitVec 32) :
    (iLoc d ↦{fullShare} f : sProp 𝕄) = bigSep Finset.univ fun w : Fin 32 => iLoc d ↦[iRowSet w]{fullShare} f := by
  rw [← pointsTo_biUnion Finset.univ (ℓ := iLoc d) (fun w => iRowSet w) irows_disjoint,
    show (Finset.univ : Finset (Fin 32)).biUnion (fun w => iRowSet w) = Finset.univ from Rect.biUnion_part idiv]
/-- The result is its 32 blocks. -/
theorem o_tasks (f : S25600x128.Idx → F .f32) :
    (oLoc d ↦{fullShare} f : sProp 𝕄) = bigSep Finset.univ fun w : Fin 32 => oLoc d ↦[oRowSet w]{fullShare} f := by
  rw [← pointsTo_biUnion Finset.univ (ℓ := oLoc d) (fun w => oRowSet w) orows_disjoint,
    show (Finset.univ : Finset (Fin 32)).biUnion (fun w => oRowSet w) = Finset.univ from Rect.biUnion_part odiv]
/-- The table's full share is its 32 pieces. -/
theorem x_tasks (f : S50000x128.Idx → F .f32) :
    (xLoc d ↦{fullShare} f : sProp 𝕄) = bigSep Finset.univ fun w : Fin 32 => xLoc d ↦{xq w} f := by
  have h : ∀ (I : Finset (Idx (xLoc d))) (f : Buf (Elt F) (xLoc d)),
      (xLoc d ↦[I]{fullShare} f : sProp 𝕄) = bigSep Finset.univ fun w : Fin 32 => (xLoc d ↦[I]{xq w} f : sProp 𝕄) :=
    fun I f => pointsTo_piecesOf (ℓ := xLoc d) I f (Nat.zero_lt_succ 31) fullShare
  exact h Finset.univ f

/-- The three operands, whole. -/
abbrev wholeRes (fI : S32x8x100.Idx → BitVec 32) (fX : S50000x128.Idx → F .f32) (f : S25600x128.Idx → F .f32) : sProp 𝕄 :=
  iprop((iLoc d ↦{fullShare} fI) ∗ (xLoc d ↦{fullShare} fX) ∗ (oLoc d ↦{fullShare} f))

/-- The three operands, whole, are the tasks' parts, core by core and subcore by subcore. -/
theorem whole_tasks (fI : S32x8x100.Idx → BitVec 32) (fX : S50000x128.Idx → F .f32) (f : S25600x128.Idx → F .f32) :
    (wholeRes d fI fX f : sProp 𝕄) = bigSep Finset.univ fun c : Fin 2 => bigSep Finset.univ fun i : Fin 16 => taskRes d (wN c i) fI fX f := by
  unfold wholeRes
  rw [i_tasks, x_tasks, o_tasks, ← bigSep_sep', ← bigSep_sep', bigSep_univ_equiv taskEquiv, bigSep_univ_prod]
  exact bigSep_congr fun c _ => bigSep_congr fun i _ => by rw [taskEquiv_apply]

section Run

variable (m : (ℓ : Loc nD τ sig) → Buf (Elt F) ℓ) (ρ : Dev nD → PrngReg)

/-- The tokens as the launch memory holds them. -/
abbrev aLoc (d : Dev nD) : Loc nD τ sig := (SparseCore.T d).loc main_arg0

/-- The tokens, position by position. -/
def flat (x : IVec S128x200 32) : IVec S25600 32 :=
  shapeCast S25600 (transpose S200x128 [1, 0] x transposes_S128x200_S200x128_1_0) shapeCasts_S200x128_S25600

/-- The number 50000, at every position. -/
def half : IVec S25600 32 := broadcastInDim S25600 ![] bcast_S_S25600 (constantI S_ 32 50000#32)

/-- The row numbers of the tokens: a token from 50000 on has the row of the token 50000 below it. -/
def numbers (x : IVec S128x200 32) : IVec S25600 32 := select (cmpi .slt (flat x) half) (flat x) (subi (flat x) half)

/-- The row numbers laid out as 32×8×100. -/
def idxs (d : Dev nD) : S32x8x100.Idx → BitVec 32 := shapeCast S32x8x100 (numbers (m (aLoc d))) shapeCasts_S25600_S32x8x100

/-- The gathered rows of the launch memory's table. -/
abbrev gathered (d : Dev nD) : S25600x128.Idx → F .f32 := gOut (idxs m d) (m (xLoc d))

/-- Every row number of the launch memory names a row of the table. -/
def PreOK : Prop := ∀ d, InTable (idxs m d)

/-- Row numbers below 50000 name rows of the table. -/
theorem preOK_of (h : ∀ d r, (numbers (m (aLoc d)) r).toNat < 50000) : PreOK m := fun d _ => h d _

/-- Entry `r` of the layout is row number `r`. -/
theorem entry_idxs (d : Dev nD) (r : Fin 25600) : entry (idxs m d) r = numbers (m (aLoc d)) (ix1 r) := by
  unfold entry idxs
  refine Idealize.ShloMosaic.shapeCast_apply _ _ _ _ ?_
  show (S25600.rowMajor (ix1 r)).val = _
  rw [Shape.rowMajor_val_one, Shape.rowMajor_val_three]
  show r.val = (r.val / 800 * 8 + r.val % 800 / 100) * 100 + r.val % 100
  omega

variable [FloatOps F]

/-! ## What the handshakes carry -/

/-- To a SparseCore and back: its sixteen tasks' parts, the result first at its launch contents, then at the gathered rows. -/
def P : (K (F := F)).Pay (nD := nD) (Val := Elt F) (Name := ℕ) (U := UU) where
  st := fun q d c => match q with
    | 0 => bigSep Finset.univ fun i : Fin 16 => taskRes d (wN (Fin.cast nCore_zero c) i) (idxs m d) (m (xLoc d)) (m (oLoc d))
  dn := fun q d c => match q with
    | 0 => bigSep Finset.univ fun i : Fin 16 => taskRes d (wN (Fin.cast nCore_zero c) i) (idxs m d) (m (xLoc d)) (gathered m d)
  go := fun q d c i => match q with
    | 0 => taskRes d (wN (Fin.cast nCore_zero c) (Fin.cast nSub_zero i)) (idxs m d) (m (xLoc d)) (m (oLoc d))
  td := fun q d c i => match q with
    | 0 => taskRes d (wN (Fin.cast nCore_zero c) (Fin.cast nSub_zero i)) (idxs m d) (m (xLoc d)) (gathered m d)
  x := fun _ _ => iprop(emp)

instance P_storable : (P (F := F) m).IsStorable where
  st q d c := match q with
    | 0 => (inferInstance : BI.Storable (upEmb : UEmb _ 𝕄)
      (bigSep Finset.univ fun i : Fin 16 => taskRes d (wN (Fin.cast nCore_zero c) i) (idxs m d) (m (xLoc d)) (m (oLoc d))))
  dn q d c := match q with
    | 0 => (inferInstance : BI.Storable (upEmb : UEmb _ 𝕄)
      (bigSep Finset.univ fun i : Fin 16 => taskRes d (wN (Fin.cast nCore_zero c) i) (idxs m d) (m (xLoc d)) (gathered m d)))
  go q d c i := match q with
    | 0 => (inferInstance : BI.Storable (upEmb : UEmb _ 𝕄)
      (taskRes d (wN (Fin.cast nCore_zero c) (Fin.cast nSub_zero i)) (idxs m d) (m (xLoc d)) (m (oLoc d))))
  td q d c i := match q with
    | 0 => (inferInstance : BI.Storable (upEmb : UEmb _ 𝕄)
      (taskRes d (wN (Fin.cast nCore_zero c) (Fin.cast nSub_zero i)) (idxs m d) (m (xLoc d)) (gathered m d)))

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's body meets the launch's obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (hpre d) (m (xLoc d)) hF (m (oLoc d)) O W hO).trans (wp_mono frame _ _ fun _ => obl_post)

omit [FloatOps F] in
theorem bigSep_subcores (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share is its tasks' parts, and back. -/
theorem vecSplit : (K (F := F)).VecSplit' (P m) 0 := by
  intro d c
  show (bigSep Finset.univ fun i : Fin 16 => taskRes d (wN (Fin.cast nCore_zero c) i) (idxs m d) (m (xLoc d)) (m (oLoc d))) ⊢ |={Set.univ}=> iprop(
      (bigSep Finset.univ fun i : Fin ((K (F := F)).nSub 0) => taskRes d (wN (Fin.cast nCore_zero c) (Fin.cast nSub_zero i)) (idxs m d) (m (xLoc d)) (m (oLoc d)))
      ∗ ((bigSep Finset.univ fun i : Fin ((K (F := F)).nSub 0) => taskRes d (wN (Fin.cast nCore_zero c) (Fin.cast nSub_zero i)) (idxs m d) (m (xLoc d)) (gathered m d))
          -∗ bigSep Finset.univ fun i : Fin 16 => taskRes d (wN (Fin.cast nCore_zero c) i) (idxs m d) (m (xLoc d)) (gathered m d)))
  rw [bigSep_subcores (F := F) (fun i => taskRes d (wN (Fin.cast nCore_zero c) i) (idxs m d) (m (xLoc d)) (m (oLoc d))),
    bigSep_subcores (F := F) (fun i => taskRes d (wN (Fin.cast nCore_zero c) i) (idxs m d) (m (xLoc d)) (gathered m d))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_arg1 : Ref sig .tc)
abbrev i' : DevRef τ sig := Proc.devRef .tc (main_v7 : Ref sig .tc)
abbrev o' : DevRef τ sig := Proc.devRef .tc (main_v8 : Ref sig .tc)

/-- The host's operations before the call, in order. -/
abbrev opsBefore : List (HloOp τ sig (Elt F)) :=
  [ StableHlo.unary main_arg0 main_v0 ((transpose S200x128 [1, 0] · transposes_S128x200_S200x128_1_0) : (⟨S128x200, .i32⟩ : BufTy).Contents (Elt F) → (⟨S200x128, .i32⟩ : BufTy).Contents (Elt F)),
    StableHlo.reshape main_v0 main_v1 (rfl : (.i32 : EltTy) = .i32) shapeCasts_S200x128_S25600,
    StableHlo.nullary main_c (constantI S_ 32 50000#32),
    StableHlo.unary main_c main_v2 (broadcastInDim S25600 ![] bcast_S_S25600 : (⟨S_, .i32⟩ : BufTy).Contents (Elt F) → (⟨S25600, .i32⟩ : BufTy).Contents (Elt F)),
    StableHlo.binary main_v1 main_v2 main_v3 (cmpi .slt : (⟨S25600, .i32⟩ : BufTy).Contents (Elt F) → (⟨S25600, .i32⟩ : BufTy).Contents (Elt F) → (⟨S25600, .i1⟩ : BufTy).Contents (Elt F)),
    StableHlo.nullary main_c_0 (constantI S_ 32 50000#32),
    StableHlo.unary main_c_0 main_v4 (broadcastInDim S25600 ![] bcast_S_S25600 : (⟨S_, .i32⟩ : BufTy).Contents (Elt F) → (⟨S25600, .i32⟩ : BufTy).Contents (Elt F)),
    StableHlo.binary main_v1 main_v4 main_v5 (subi : (⟨S25600, .i32⟩ : BufTy).Contents (Elt F) → (⟨S25600, .i32⟩ : BufTy).Contents (Elt F) → (⟨S25600, .i32⟩ : BufTy).Contents (Elt F)),
    StableHlo.TRef.ternary (StableHlo.TRef.of (T := ⟨S25600, .i1⟩) main_v3) (StableHlo.TRef.of (T := ⟨S25600, .i32⟩) main_v1) (StableHlo.TRef.of (T := ⟨S25600, .i32⟩) main_v5)
      (StableHlo.TRef.of (T := ⟨S25600, .i32⟩) main_v6) select,
    StableHlo.reshape main_v6 main_v7 (rfl : (.i32 : EltTy) = .i32) shapeCasts_S25600_S32x8x100 ]

theorem main_eq (d : Dev nD) : main (F := F) d = StableHlo.seq opsBefore >>= fun _ => ((sc (F := F)).run d 0 >>= fun _ => pure ⟨⟩) := rfl

/-- The host's own arrays, between the tokens and the layout. -/
abbrev between : Finset (DevRef τ sig) :=
  {Proc.devRef .tc (main_v0 : Ref sig .tc), Proc.devRef .tc (main_v1 : Ref sig .tc), Proc.devRef .tc (main_c : Ref sig .tc),
    Proc.devRef .tc (main_v2 : Ref sig .tc), Proc.devRef .tc (main_v3 : Ref sig .tc), Proc.devRef .tc (main_c_0 : Ref sig .tc),
    Proc.devRef .tc (main_v4 : Ref sig .tc), Proc.devRef .tc (main_v5 : Ref sig .tc), Proc.devRef .tc (main_v6 : Ref sig .tc)}

/-- The TensorCore's arrays: the tokens, the table, the layout, the result, and the host's own. -/
abbrev arrays : Finset (DevRef τ sig) := insert a' (insert x' (insert i' (insert o' between)))

/-- The launch valuation. -/
def V0 (d : Dev nD) : Valuation τ sig (Elt F) := fun b => m (d, b)

omit [FloatOps F] in
theorem held_arrays (d : Dev nD) (W : Valuation τ sig (Elt F)) :
    (held (T d) arrays W : sProp 𝕄) = iprop((aLoc d ↦{fullShare} W a') ∗ (xLoc d ↦{fullShare} W x') ∗ (iLoc d ↦{fullShare} W i') ∗ (oLoc d ↦{fullShare} W o')
      ∗ held (T d) between W) := by
  unfold held arrays
  rw [SparseCore.bigSep_insert' (by decide), SparseCore.bigSep_insert' (by decide), SparseCore.bigSep_insert' (by decide), SparseCore.bigSep_insert' (by decide)]

omit [FloatOps F] in
theorem unscoped_held (d : Dev nD) : (unscopedBufs d (fun b => m ((SparseCore.T d).loc b)) : sProp 𝕄) = held (T d) arrays (V0 m d) := by
  unfold unscopedBufs held
  rw [show arrays = (Finset.univ.filter fun b : Ref sig .tc => ¬ b.isScoped).map ⟨fun b => Proc.devRef .tc b, fun _ _ h => Proc.devRef_injective _ h⟩ by decide, bigSep_map]
  rfl

omit [FloatOps F] in
theorem before_bufs : ∀ op ∈ opsBefore (F := F), op.bufs ⊆ arrays := List.forall_iff_forall_mem.1
  ⟨(show ({Proc.devRef .tc (main_arg0 : Ref sig .tc), Proc.devRef .tc (main_v0 : Ref sig .tc)} : Finset (DevRef τ sig)) ⊆ arrays by decide),
    (show ({Proc.devRef .tc (main_v0 : Ref sig .tc), Proc.devRef .tc (main_v1 : Ref sig .tc)} : Finset (DevRef τ sig)) ⊆ arrays by decide),
    (show ({Proc.devRef .tc (main_c : Ref sig .tc)} : Finset (DevRef τ sig)) ⊆ arrays by decide),
    (show ({Proc.devRef .tc (main_c : Ref sig .tc), Proc.devRef .tc (main_v2 : Ref sig .tc)} : Finset (DevRef τ sig)) ⊆ arrays by decide),
    (show ({Proc.devRef .tc (main_v1 : Ref sig .tc), Proc.devRef .tc (main_v2 : Ref sig .tc), Proc.devRef .tc (main_v3 : Ref sig .tc)} : Finset (DevRef τ sig)) ⊆ arrays by decide),
    (show ({Proc.devRef .tc (main_c_0 : Ref sig .tc)} : Finset (DevRef τ sig)) ⊆ arrays by decide),
    (show ({Proc.devRef .tc (main_c_0 : Ref sig .tc), Proc.devRef .tc (main_v4 : Ref sig .tc)} : Finset (DevRef τ sig)) ⊆ arrays by decide),
    (show ({Proc.devRef .tc (main_v1 : Ref sig .tc), Proc.devRef .tc (main_v4 : Ref sig .tc), Proc.devRef .tc (main_v5 : Ref sig .tc)} : Finset (DevRef τ sig)) ⊆ arrays by decide),
    (show ({Proc.devRef .tc (main_v3 : Ref sig .tc), Proc.devRef .tc (main_v1 : Ref sig .tc), Proc.devRef .tc (main_v5 : Ref sig .tc), Proc.devRef .tc (main_v6 : Ref sig .tc)} : Finset (DevRef τ sig)) ⊆ arrays by decide),
    (show ({Proc.devRef .tc (main_v6 : Ref sig .tc), Proc.devRef .tc (main_v7 : Ref sig .tc)} : Finset (DevRef τ sig)) ⊆ arrays by decide)⟩

omit [FloatOps F] in
theorem before_fresh : ∀ op ∈ opsBefore (F := F), op.fresh = ∅ := List.forall_iff_forall_mem.1 ⟨rfl, rfl, rfl, rfl, rfl, rfl, rfl, rfl, rfl, rfl⟩

omit [FloatOps F] in
theorem before_layout (d : Dev nD) : StableHlo.after opsBefore (V0 m d) i' = idxs m d := by
  simp only [opsBefore, StableHlo.TRef.ternary, StableHlo.TRef.toBuf, StableHlo.TRef.ofBuf, cast_eq]
  after_results_simp <;> rfl
omit [FloatOps F] in
theorem before_tokens (d : Dev nD) : StableHlo.after opsBefore (V0 m d) a' = m (aLoc d) := by
  simp only [opsBefore, StableHlo.TRef.ternary, StableHlo.TRef.toBuf, StableHlo.TRef.ofBuf, cast_eq]
  after_results_simp <;> rfl
omit [FloatOps F] in
theorem before_table (d : Dev nD) : StableHlo.after opsBefore (V0 m d) x' = m (xLoc d) := by
  simp only [opsBefore, StableHlo.TRef.ternary, StableHlo.TRef.toBuf, StableHlo.TRef.ofBuf, cast_eq]
  after_results_simp <;> rfl
omit [FloatOps F] in
theorem before_result (d : Dev nD) : StableHlo.after opsBefore (V0 m d) o' = m (oLoc d) := by
  simp only [opsBefore, StableHlo.TRef.ternary, StableHlo.TRef.toBuf, StableHlo.TRef.ofBuf, cast_eq]
  after_results_simp <;> rfl

omit [FloatOps F] in
/-- Before the call the four arrays are the launch's, the layout at the row numbers. -/
theorem held_before (d : Dev nD) :
    (held (T d) arrays (StableHlo.after opsBefore (V0 m d)) : sProp 𝕄)
      = iprop((aLoc d ↦{fullShare} m (aLoc d)) ∗ (xLoc d ↦{fullShare} m (xLoc d)) ∗ (iLoc d ↦{fullShare} idxs m d) ∗ (oLoc d ↦{fullShare} m (oLoc d))
        ∗ held (T d) between (StableHlo.after opsBefore (V0 m d))) := by
  rw [held_arrays, before_tokens, before_table, before_layout, before_result]

theorem st0_eq (d : Dev nD) : (bigSep Finset.univ fun c : Fin ((K (F := F)).nCore 0) => (P m).st 0 d c) = wholeRes d (idxs m d) (m (xLoc d)) (m (oLoc d)) := by
  rw [whole_tasks]
  exact bigSep_cores (F := F) fun c => bigSep Finset.univ fun i : Fin 16 => taskRes d (wN c i) (idxs m d) (m (xLoc d)) (m (oLoc d))
theorem dn0_eq (d : Dev nD) : (bigSep Finset.univ fun c : Fin ((K (F := F)).nCore 0) => (P m).dn 0 d c) = wholeRes d (idxs m d) (m (xLoc d)) (gathered m d) := by
  rw [whole_tasks]
  exact bigSep_cores (F := F) fun c => bigSep Finset.univ fun i : Fin 16 => taskRes d (wN c i) (idxs m d) (m (xLoc d)) (gathered m d)

/-- What @main leaves the claim: its arguments as they were, the result at the gathered rows. -/
abbrev FIN (d : Dev nD) : sProp 𝕄 :=
  iprop((aLoc d ↦{fullShare} m (aLoc d)) ∗ (xLoc d ↦{fullShare} m (xLoc d)) ∗ (oLoc d ↦{fullShare} gathered m d))

/-- @main on device `d`'s TensorCore: the row numbers of the tokens and their layout, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  rw [main_eq]
  iintro ⟨#Hctx, Hst, ⟨Hb, Hheld, Hts, -⟩, -⟩
  iapply (StableHlo.wp_seq 𝒱 none Set.univ d arrays _ opsBefore before_bufs before_fresh (V0 m d)) $$ [Hb Hheld]
  · isplitl [Hb]; · iexact Hb
    iexact Hheld
  iintro ⟨Hb, Hheld⟩
  ihave Hh := (Entails.of_eq (held_before (F := F) m d)) $$ Hheld
  icases Hh with ⟨Ha, Hx, Hi, Ho, -⟩
  simp only [wp_bind, wp_pure]
  iapply ((K (F := F)).wp_run (D (F := F)) 𝒱 (EH := EH) (P := P m) κ d 0) $$ [Hst Ha Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitr [Hb Hts]
  · isplitl [Ha]; · iexact Ha
    isplitl [Hx]; · iexact Hx
    iexact Ho
  isplitl [Hb] <;> iassumption

/-- The final memory of device `d`: its arguments as they were, the result at the gathered rows. -/
def fq (d : Dev nD) (s' : Phys nD τ sig (Elt F)) : Prop :=
  s'.mem.mem (oLoc d) = gathered m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := gathered m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device's final memory is as `fq` says, and every semaphore is at zero. -/
def QC : PUnit × MemSt nD τ sig (Elt F) → Prop := fun r =>
  (∀ c : Dev nD, r.2.mem (oLoc c) = gathered m c ∧ r.2.mem (aLoc c) = m (aLoc c) ∧ r.2.mem (xLoc c) = m (xLoc c)) ∧ r.2.sem = fun _ => 0

/-- From any memory whose row numbers name rows of the table, the program runs, and ends with the result at the gathered
    rows, its arguments as they were, and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.KernelIdeal.Gather

end
-- ==== Proof.Rows.lean ====
/-
  The precondition read at an entry, the row numbers that the reference makes of the tokens, and the reference's term read
  at an index: the facts that tie the SparseCore call's result to `jnp.take`'s.
-/
module

public import proofs.«01_k».proof.Proof.Gen.ReferenceIdeal.Run
public import proofs.«01_k».proof.Proof.Gen.Pre_in_vocabulary
public import proofs.«01_k».proof.Defs
public import Idealize.ShloMosaic.Lib.ReduceAll
public import Idealize.ShloMosaic.Lib.Routing.Ops
public import Idealize.ShloMosaic.Lib.WordCmp

@[expose] public section

noncomputable section

namespace Cert.Proof.Rows

open Idealize.ShloMosaic Idealize.ShloMosaic.ValueIdx Cert.ReferenceIdeal Cert.ReferenceIdeal.Gen

variable {F : FTy → Type} [FloatOps F]

/-! ## Words in range -/

/-- A word that is at least zero and below 100000 as a signed integer is below 100000 as a natural. -/
theorem word_lt (v : BitVec 32) (e : IntOp.andi (IntOp.cmpi .sge v 0#32) (IntOp.cmpi .slt v 100000#32) = 1#1) : v.toNat < 100000 := by
  simp only [IntOp.cmpi, WordCmp.andi_ofBool, WordCmp.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- Below 100000, a word taken down by 50000 where it reaches 50000 is its remainder modulo 50000. -/
theorem lowered (v : BitVec 32) (h : v.toNat < 100000) :
    (Scalar.select (IntOp.cmpi .slt v 50000#32) v (IntOp.subi v 50000#32)).toNat = v.toNat % 50000 := by
  rw [WordCmp.cmpi_slt_of_lt (by omega) (by decide), show (50000#32 : BitVec 32).toNat = 50000 from rfl]
  by_cases hv : v.toNat < 50000
  · rw [decide_eq_true hv]
    exact (Nat.mod_eq_of_lt hv).symm
  · rw [decide_eq_false hv]
    show (v - 50000#32).toNat = _
    rw [BitVec.toNat_sub, show (50000#32 : BitVec 32).toNat = 50000 from rfl]
    omega

/-- The remainder of a word below 100000 by 50000, as the host computes it. -/
theorem remainder (v : BitVec 32) (h : v.toNat < 100000) : (IntOp.remsi .host v 50000#32).toNat = v.toNat % 50000 := by
  rw [IntOp.remsi_of_pos _ (by decide), BitVec.srem_eq, BitVec.msb_eq_false_iff_two_mul_lt.2 (by omega), show (50000#32 : BitVec 32).msb = false from rfl]
  exact BitVec.toNat_umod

/-- A word below 50000 is not negative. -/
theorem not_neg (v : BitVec 32) (h : v.toNat < 50000) : IntOp.cmpi .slt v 0#32 = 0#1 := by
  rw [WordCmp.cmpi_slt_of_lt (by omega) (by decide)]; rfl

/-- A word below 50000 lies between 0 and 49999. -/
theorem in_range (v : BitVec 32) (h : v.toNat < 50000) : IntOp.andi (IntOp.cmpi .sge v 0#32) (IntOp.cmpi .sle v 49999#32) = 1#1 := by
  rw [WordCmp.cmpi_sge_of_lt (by omega) (by decide), WordCmp.cmpi_sle_of_lt (by omega) (by decide),
    decide_eq_true (show (0#32 : BitVec 32).toNat ≤ v.toNat from Nat.zero_le _),
    decide_eq_true (show v.toNat ≤ (49999#32 : BitVec 32).toNat by rw [show (49999#32 : BitVec 32).toNat = 49999 from rfl]; omega)]
  rfl

/-- The precondition gives every token below 100000. -/
theorem pre_lt (t : IVec S128x200 32) (x : FVec F S50000x128 .f32) (h : Cert.Pre_in_vocabulary.fn (F := F) t x = fun _ => 1#1) (r : S128x200.Idx) :
    (t r).toNat < 100000 :=
  word_lt (t r) (congrFun h r)

/-! ## The reference's row numbers -/

/-- The divisor: 50000, or 1 if that were 0. -/
abbrev divisor : IVec S_ 32 :=
  select (cmpi .eq (id (constantI S_ 32 50000#32)) (constantI S_ 32 0#32)) (constantI S_ 32 1#32) (id (constantI S_ 32 50000#32))

/-- The remainders of the words `w` by the divisor, with the divisor's sign. -/
abbrev remainders (w : IVec S25600 32) : IVec S25600 32 :=
  select
    (andi
      (cmpi .ne (cmpi .slt (Host.remsi w (broadcastInDim S25600 ![] bcast_S_S25600 divisor)) (broadcastInDim S25600 ![] bcast_S_S25600 (constantI S_ 32 0#32)))
        (broadcastInDim S25600 ![] bcast_S_S25600 (cmpi .slt divisor (constantI S_ 32 0#32))))
      (cmpi .ne (Host.remsi w (broadcastInDim S25600 ![] bcast_S_S25600 divisor)) (broadcastInDim S25600 ![] bcast_S_S25600 (constantI S_ 32 0#32))))
    (addi (Host.remsi w (broadcastInDim S25600 ![] bcast_S_S25600 divisor)) (broadcastInDim S25600 ![] bcast_S_S25600 divisor))
    (Host.remsi w (broadcastInDim S25600 ![] bcast_S_S25600 divisor))

/-- The tokens, position by position. -/
abbrev flat (t : IVec S128x200 32) : IVec S25600 32 :=
  shapeCast S25600 (transpose S200x128 [1, 0] t transposes_S128x200_S200x128_1_0) shapeCasts_S200x128_S25600

/-- Of words below 100000, the host's remainders are the remainders modulo 50000. -/
theorem remainders_toNat (w : IVec S25600 32) (r : S25600.Idx) (h : (w r).toNat < 100000) : (remainders w r).toNat = (w r).toNat % 50000 := by
  have e := remainder (w r) h
  have hn : IntOp.cmpi .slt (IntOp.remsi .host (w r) 50000#32) 0#32 = 0#1 := not_neg _ (by omega)
  show (Scalar.select (IntOp.andi (IntOp.cmpi .ne (IntOp.cmpi .slt (IntOp.remsi .host (w r) 50000#32) 0#32) (IntOp.cmpi .slt 50000#32 0#32)) _) _
    (IntOp.remsi .host (w r) 50000#32)).toNat = _
  rw [hn, show IntOp.cmpi .ne (0#1) (IntOp.cmpi .slt (50000#32) (0#32)) = 0#1 by decide, ← e]
  have hz : ∀ b : BitVec 1, IntOp.andi (0#1) b = 0#1 := by decide
  rw [hz]
  rfl

/-! ## The reference's term -/

section Take

variable (idx : IVec S25600 32) (x : FVec F S50000x128 .f32) (h : ∀ r, (idx r).toNat < 50000)

/-- The row numbers with the negative ones wrapped. -/
abbrev wrapped : IVec S25600 32 :=
  select (cmpi .slt idx (broadcastInDim S25600 ![] bcast_S_S25600 (constantI S_ 32 0#32)))
    (addi idx (broadcastInDim S25600 ![] bcast_S_S25600 (constantI S_ 32 50000#32))) idx

/-- The wrapped row numbers as a column. -/
abbrev column : IVec S25600x1 32 := broadcastInDim S25600x1 ![0] bcast_S25600_S25600x1_0 (wrapped idx)

/-- Which row numbers name a row of the table. -/
abbrev inside : IVec S25600 1 :=
  Host.reduce IntOp.andi
    (andi (cmpi .sge (column idx) (broadcastInDim S25600x1 ![] bcast_S_S25600x1 (constantI S_ 32 0#32)))
      (cmpi .sle (column idx) (broadcastInDim S25600x1 ![0, 1] bcast_S1x1_S25600x1_0_1 (broadcastInDim S1x1 ![1] bcast_S1_S1x1_1 (constantI S1 32 49999#32)))))
    (constantI S_ 1 1#1) reducesTo_S25600x1_S25600_d1 h_S_

/-- The reference's result. -/
abbrev taken : FVec F S25600x128 .f32 :=
  select (broadcastInDim S25600x128 ![0] bcast_S25600_S25600x128_0 (inside idx))
    (Host.gather gather_S50000x128_S25600x1_S25600x128_1_0_n_n_0_1_1128 x (column idx))
    (broadcastInDim S25600x128 ![] bcast_S_S25600x128 (constant S_ .f32 0x7FC00000#32))

include h

theorem wrapped_eq : wrapped idx = idx := by
  funext r
  show Scalar.select (IntOp.cmpi .slt (idx r) 0#32) _ (idx r) = idx r
  rw [not_neg _ (h r)]; rfl

theorem inside_eq (r : S25600.Idx) : inside idx r = 1#1 := by
  refine Host.reduce_andi_one _ _ _ _ _ rfl fun z => ?_
  rw [column, wrapped_eq idx h]
  exact in_range _ (h _)

/-- Row `p` of the reference's result is the table's row that row number `p` names. -/
theorem taken_eq (p : Fin 25600) (q : Fin 128) : taken idx x (ix2 p q) = x (ix2 ⟨(idx (ix1 p)).toNat, h _⟩ q) := by
  have hm : broadcastInDim S25600x128 ![0] bcast_S25600_S25600x128_0 (inside idx) (ix2 p q) = 1#1 := inside_eq idx h _
  refine (congrArg (fun b => Scalar.select b (Host.gather gather_S50000x128_S25600x1_S25600x128_1_0_n_n_0_1_1128 x (column idx) (ix2 p q))
    (broadcastInDim S25600x128 ![] bcast_S_S25600x128 (constant S_ .f32 0x7FC00000#32) (ix2 p q))) hm).trans ?_
  refine (Routing.gather_row gather_S50000x128_S25600x1_S25600x128_1_0_n_n_0_1_1128 rfl rfl rfl rfl rfl x (column idx) p q
    ⟨(idx (ix1 p)).toNat, h _⟩ ?_ (by norm_num))
  rw [column, wrapped_eq idx h]
  show idx _ = _
  rw [BitVec.ofNat_toNat, BitVec.setWidth_eq]
  refine congrArg idx (funext fun a => ?_)
  match a with
  | 0 => rfl

end Take

end Cert.Proof.Rows

end
-- ==== Proof.FusedIdeal.Base.lean ====
/-
  What the proof of `FusedIdeal` is stated over: contents read and overwritten at a rectangle, and a rule for a stretch of
  the TensorCore's body that runs to one result (`Runs`), with a load's and a store's.
-/
module

public import proofs.«01_k».proof.Defs
public import Idealize.ShloMosaic.Lib.Pipeline.Frame
public import Idealize.ShloMosaic.Lib.Pipeline.FrameBody
public import Idealize.ShloMosaic.Lib.Memref
public import Idealize.ShloMosaic.Lib.Tactic
public import proofs.«01_k».proof.Proof.Gen.FusedIdeal

@[expose] public section

noncomputable section

namespace Cert.FusedIdeal.Base

open Cert.FusedIdeal Cert.FusedIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

universe u v

variable {F : FTy → Type}

local notation "𝕄" => MT nD τ sig Unit (Elt F) ℕ (UR sig nD τ) ℕ

/-! ## Contents read and overwritten at a rectangle -/

section Contents

variable {s : Shape} {α : Type}

/-- `X` at rectangle `r`'s indices. -/
def at_ (r : Rect s) (X : s.Idx → α) : r.shape.Idx → α := fun x => X (r.idx x)

open Classical in
/-- `X` with rectangle `r` holding `w`. -/
def over (r : Rect s) (w : r.shape.Idx → α) (X : s.Idx → α) : s.Idx → α :=
  fun y => if h : ∃ x, r.emb x = y then w h.choose else X y

theorem over_emb (r : Rect s) (w : r.shape.Idx → α) (X : s.Idx → α) (x : r.shape.Idx) : over r w X (r.emb x) = w x := by
  have h : ∃ x', r.emb x' = r.emb x := ⟨x, rfl⟩
  unfold over; rw [dif_pos h]; exact congrArg w (r.emb.injective h.choose_spec)

theorem over_of_not (r : Rect s) (w : r.shape.Idx → α) (X : s.Idx → α) (y : s.Idx) (h : ∀ x, r.emb x ≠ y) : over r w X y = X y := by
  unfold over; rw [dif_neg]; rintro ⟨x, hx⟩; exact h x hx

end Contents

/-! ## Resources listed -/

/-- All of `l`'s. -/
def sepAll : List (sProp 𝕄) → sProp 𝕄
  | [] => iprop(emp)
  | P :: l => iprop(P ∗ sepAll l)

/-- One of them taken out, to be put back as another. -/
theorem sepAll_put : ∀ (l : List (sProp 𝕄)) (i : ℕ) (hi : i < l.length) (P' : sProp 𝕄),
    sepAll l ⊢ iprop(l[i] ∗ (P' -∗ sepAll (l.set i P')))
  | P :: l, 0, _, P' => by
    show iprop(P ∗ sepAll l) ⊢ iprop(P ∗ (P' -∗ (P' ∗ sepAll l)))
    iintro ⟨HP, Hl⟩
    isplitl [HP]; · iexact HP
    iintro HP
    isplitl [HP]; · iexact HP
    iexact Hl
  | P :: l, i + 1, hi, P' => by
    show iprop(P ∗ sepAll l) ⊢ iprop(l[i]'(Nat.lt_of_succ_lt_succ hi) ∗ (P' -∗ (P ∗ sepAll (l.set i P'))))
    iintro ⟨HP, Hl⟩
    ihave H := (sepAll_put l i (Nat.lt_of_succ_lt_succ hi) P') $$ Hl
    icases H with ⟨H, Hl⟩
    isplitl [H]; · iexact H
    iintro H
    isplitl [HP]; · iexact HP
    iapply Hl; iexact H

/-! ## A stretch of the TensorCore's body that runs to one result -/

section Runs

variable [FloatOps F] (c : Dev nD)

/-- From `P`, `a` runs to the result `r` and leaves `R`. -/
structure Runs {α : Type} (P : sProp 𝕄) (a : Prog (TpuEff nD τ sig (Elt F) Λ₀ .tc) α) (R : sProp 𝕄) (r : α) : Prop where
  run : ∀ (E : Set ℕ) (Q : α → sProp 𝕄), iprop(P ∗ (R -∗ Q r)) ⊢ wp frame (wpE (defs₀ (F := F)) Variants.none c none) E a Q

variable {c}

theorem Runs.ret {α : Type} {P : sProp 𝕄} {r : α} : Runs c P (Prog.ret r) P r := ⟨fun E Q => by
  rw [wp_ret]
  iintro ⟨HP, Hk⟩
  ihave H := Hk $$ HP
  imodintro
  iexact H⟩

theorem Runs.bind {α β : Type} {P P' R : sProp 𝕄} {a : Prog (TpuEff nD τ sig (Elt F) Λ₀ .tc) α} {r : α}
    {k : α → Prog (TpuEff nD τ sig (Elt F) Λ₀ .tc) β} {s : β} (ha : Runs c P a P' r) (hk : Runs c P' (k r) R s) : Runs c P (a >>= k) R s := ⟨fun E Q => by
  rw [wp_bind]
  iintro ⟨HP, Hk⟩
  iapply (ha.run E _)
  isplitl [HP]; · iexact HP
  iintro HP'
  iapply (hk.run E Q)
  isplitl [HP']; · iexact HP'
  iexact Hk⟩

/-- A load, from resources `P` that have the buffer's in them (`R` with it gives `P`). -/
theorem Runs.load {α : Type} {P P' : sProp 𝕄} {sp : CoreSpace} {S : Shape} {e : EltTy} {m : Memref sig .tc sp S e} {r : Rect S} {hl : m.view.LoadsAt r}
    {X : S.Idx → Elt F e} {k : (r.shape.Idx → Elt F e) → Prog (TpuEff nD τ sig (Elt F) Λ₀ .tc) α} {s : α}
    (hP : P ⊢ iprop(owns (c : Thread nD τ) m fullShare X ∗ (owns (c : Thread nD τ) m fullShare X -∗ P)))
    (hk : Runs c P (k (at_ r X)) P' s) : Runs c P (.op (.load m r hl) k) P' s := ⟨fun E Q => by
  iintro ⟨HP, Hk⟩
  ihave H := hP $$ HP
  icases H with ⟨H, HP⟩
  unfold owns
  icases H with ⟨%f, %hf, H⟩
  iapply (wp_load_rect Variants.none (c : Thread nD τ) none E (m := m) (r := r) (S := m.view.set) (q := fullShare) (f := f) (View.set_slice_subset _ _)) $$ H
  iintro H
  have e : (m.access r).read (Elt F) f = at_ r X := by subst hf; rfl
  rw [e]
  iapply (hk.run E Q)
  isplitr [Hk]
  · iapply HP
    iexists f
    isplitr; · ipureintro; exact hf
    iexact H
  · iexact Hk⟩

/-- A store: `P` with the buffer's resources exchanged for the new contents' is `P'`. -/
theorem Runs.store {α : Type} {P P' R : sProp 𝕄} {sp : CoreSpace} {S : Shape} {e : EltTy} {m : Memref sig .tc sp S e} {r : Rect S} {w : r.shape.Idx → Elt F e}
    {hx : (m.access r).Stores Finset.univ} {hm : (Finset.univ : Finset r.shape.Idx) = Finset.univ ∨ ∀ a, r.stride a = 1}
    {X : S.Idx → Elt F e} {k : PUnit → Prog (TpuEff nD τ sig (Elt F) Λ₀ .tc) α} {s : α}
    (hP : P ⊢ iprop(owns (c : Thread nD τ) m fullShare X ∗ (owns (c : Thread nD τ) m fullShare (over r w X) -∗ P')))
    (hk : Runs c P' (k ⟨⟩) R s) : Runs c P (.op (.store m r w Finset.univ hx hm) k) R s := ⟨fun E Q => by
  iintro ⟨HP, Hk⟩
  ihave H := hP $$ HP
  icases H with ⟨H, HP⟩
  unfold owns
  icases H with ⟨%f, %hf, H⟩
  iapply (wp_store Variants.none (c : Thread nD τ) none E (m := m) (r := r) (Mk := Finset.univ) (S := m.view.set) (f := f)
    (by rw [View.setOn_univ]; exact View.set_slice_subset _ _)) $$ H
  iintro H
  iapply (hk.run E Q)
  isplitr [Hk]
  · iapply HP
    iexists (m.access r).write (Elt F) f w Finset.univ
    isplitr
    · ipureintro
      subst hf
      funext y
      by_cases h : ∃ x, r.emb x = y
      · obtain ⟨x, rfl⟩ := h
        rw [over_emb]
        exact View.read_slice_write_emb (v := m.view) r f w (Finset.mem_univ x)
      · rw [over_of_not r w _ y fun x hx => h ⟨x, hx⟩]
        refine View.read_slice_write_of_not_mem (v := m.view) r f w _ fun hy => h ?_
        obtain ⟨x, -, hx⟩ := Finset.mem_map.mp hy
        exact ⟨x, hx⟩
    iexact H
  · iexact Hk⟩

end Runs

end Cert.FusedIdeal.Base

end
-- ==== Proof.FusedIdeal.Scan.lean ====
/-
  The recurrence of the fused kernel: one chunk's steps on a block of thirty-two rows of states, the solver's step, the
  values a chunk's rows are picked from, and the equations under which the kernel's own operations read as these.
-/
module

public import proofs.«01_k».proof.FusedIdeal

@[expose] public section

noncomputable section

namespace Cert.FusedIdeal.Scan

open Idealize.ShloMosaic Idealize.SL.Sem
open Cert.FusedIdeal Cert.FusedIdeal.Facts₀

variable {F : FTy → Type} [FloatOps F] [Facts]

/-- The constant one half at every entry of a 32-row block. -/
def half : FVec F S32x64 .f32 := broadcast S32x64 (Scalar.ofBits .f32 0x3F000000#32)

/-- The logistic function as the kernel writes it, through the hyperbolic tangent. -/
def squash (u : FVec F S32x64 .f32) : FVec F S32x64 .f32 := addf (mulf half (tanh (mulf half u))) half

/-- A block of states against one gate's recurrent weights. -/
def across (w : FVec F S64x64 .f32) (h : FVec F S32x64 .f32) : FVec F S32x64 .f32 :=
  matmul dot_S32x64_S64x64_S32x64_1_0_0_1_n_n none h w (constant S32x64 .f32 0x00000000#32)

theorem rows_in (n : ℕ) (h : n ≤ 12768) : S12800x64.Slices ![n, 0] S32x64 := by
  refine ⟨rfl, fun k => ?_⟩
  fin_cases k <;> simp <;> omega

/-- Thirty-two rows of a gate's input part, from row `n` on. -/
def cut (g : FVec F S12800x64 .f32) (n : ℕ) (h : n ≤ 12768) : FVec F S32x64 .f32 :=
  extractStridedSlice S32x64 ![n, 0] g (rows_in n h)

/-- The gates' input parts and recurrent weights of one chunk. -/
structure Gates (F : FTy → Type) where
  gz : FVec F S12800x64 .f32
  gr : FVec F S12800x64 .f32
  gn : FVec F S12800x64 .f32
  wz : FVec F S64x64 .f32
  wr : FVec F S64x64 .f32
  wn : FVec F S64x64 .f32

/-- One step of the recurrence on a block of thirty-two rows. -/
def step (g : Gates F) (n : ℕ) (hn : n ≤ 12768) (h : FVec F S32x64 .f32) : FVec F S32x64 .f32 :=
  addf h (mulf (squash (addf (cut g.gz n hn) (across g.wz h)))
    (subf (tanh (addf (cut g.gn n hn) (mulf (squash (addf (cut g.gr n hn) (across g.wr h))) (across g.wn h)))) h))

/-- The state of row block `k` after `t` steps of a chunk. -/
def lane (g : Gates F) (k : ℕ) (hk : k ≤ 3) (h : FVec F S32x64 .f32) : (t : ℕ) → t ≤ 100 → FVec F S32x64 .f32
  | 0, _ => h
  | t + 1, ht => step g (128 * t + 32 * k) (by omega) (lane g k hk h t (by omega))

/-- The rows of one token position: two candidates side by side. -/
theorem plane_in (t : ℕ) (h : t ≤ 99) : ∀ a, (![t, 0, 0] : Fin 3 → ℕ) a + S1x128x128.size a ≤ S100x128x128.size a := by
  intro a; fin_cases a <;> simp [S1x128x128, S100x128x128] <;> omega

def plane (x : Vec F S100x128x128 .f32) (t : ℕ) (h : t ≤ 99) : FVec F S128x128 .f32 :=
  shapeCast S128x128 (fun i => x ((Rect.unit (s := S100x128x128) ![t, 0, 0] S1x128x128.size (plane_in t h)).idx i)) shapeCasts_S1x128x128_S128x128

theorem column_in (t : ℕ) (h : t ≤ 99) : S128x100.Slices ![0, t] S128x1 := by
  refine ⟨rfl, fun k => ?_⟩
  fin_cases k <;> simp <;> omega

/-- One token position's choices. -/
def column (p : FVec F S128x100 .f32) (t : ℕ) (h : t ≤ 99) : FVec F S128x1 .f32 :=
  extractStridedSlice S128x1 ![0, t] p (column_in t h)

def left (w : FVec F S128x128 .f32) : FVec F S128x64 .f32 := extractStridedSlice S128x64 ![0, 0] w slices_S128x128_o0_0_S128x64
def right (w : FVec F S128x128 .f32) : FVec F S128x64 .f32 := extractStridedSlice S128x64 ![0, 64] w slices_S128x128_o0_64_S128x64

/-- The candidate chosen at each row of one token position. -/
def pick (x : Vec F S100x128x128 .f32) (p : FVec F S128x100 .f32) (t : ℕ) (h : t ≤ 99) : FVec F S128x64 .f32 :=
  addf (left (plane x t h)) (mulf (broadcastTo S128x64 (column p t h) broadcasts_S128x1_S128x64) (subf (right (plane x t h)) (left (plane x t h))))

theorem rows_fit (f : Fin 100 → FVec F S128x64 .f32) :
    Shape.Concatenates ((List.ofFn fun t : Fin 100 => (⟨S128x64, f t⟩ : (s : Shape) × FVec F s .f32)).map (·.1)) S12800x64 0 := by
  have e : (List.ofFn fun t : Fin 100 => (⟨S128x64, f t⟩ : (s : Shape) × FVec F s .f32)).map (·.1) = List.replicate 100 S128x64 := by
    rw [List.map_ofFn]; exact List.ofFn_const 100 S128x64
  rw [e]
  decide

/-- A chunk's hundred positions, one under the other. -/
def rows (x : Vec F S100x128x128 .f32) (p : FVec F S128x100 .f32) : FVec F S12800x64 .f32 :=
  concatenate S12800x64 0 (List.ofFn fun t : Fin 100 => (⟨S128x64, pick x p t.val (by omega)⟩ : (s : Shape) × FVec F s .f32))
    (rows_fit _)

/-- One gate's input part. -/
def gate (x : FVec F S12800x64 .f32) (w : FVec F S64x64 .f32) (b : FVec F S1x64 .f32) : FVec F S12800x64 .f32 :=
  addf (matmul dot_S12800x64_S64x64_S12800x64_1_0_0_1_n_n none x w (constant S12800x64 .f32 0x00000000#32)) (broadcastTo S12800x64 b broadcasts_S1x64_S12800x64)

/-- The vector field of the solver. -/
def field (w : FVec F S64x64 .f32) (b : FVec F S1x64 .f32) (h : FVec F S128x64 .f32) : FVec F S128x64 .f32 :=
  tanh (addf (matmul dot_S128x64_S64x64_S128x64_1_0_0_1_n_n none h w (constant S128x64 .f32 0x00000000#32)) (broadcastTo S128x64 b broadcasts_S1x64_S128x64))

def push (h : FVec F S128x64 .f32) (s : F .f32) (k : FVec F S128x64 .f32) : FVec F S128x64 .f32 := addf h (mulf (broadcast S128x64 s) k)

def slope2 (w : FVec F S64x64 .f32) (b : FVec F S1x64 .f32) (dt : F .f32) (h : FVec F S128x64 .f32) : FVec F S128x64 .f32 :=
  field w b (push h (Scalar.mulf (Scalar.ofBits .f32 0x3F000000#32) dt) (field w b h))
def slope3 (w : FVec F S64x64 .f32) (b : FVec F S1x64 .f32) (dt : F .f32) (h : FVec F S128x64 .f32) : FVec F S128x64 .f32 :=
  field w b (push h (Scalar.mulf (Scalar.ofBits .f32 0x3F000000#32) dt) (slope2 w b dt h))
def slope4 (w : FVec F S64x64 .f32) (b : FVec F S1x64 .f32) (dt : F .f32) (h : FVec F S128x64 .f32) : FVec F S128x64 .f32 :=
  field w b (push h dt (slope3 w b dt h))

def double (k : FVec F S128x64 .f32) : FVec F S128x64 .f32 := mulf (broadcast S128x64 (Scalar.ofBits .f32 0x40000000#32)) k

/-- One step of the solver. -/
def rk (w : FVec F S64x64 .f32) (b : FVec F S1x64 .f32) (dt : F .f32) (h : FVec F S128x64 .f32) : FVec F S128x64 .f32 :=
  push h (Scalar.divf dt (Scalar.ofBits .f32 0x40C00000#32)) (addf (addf (addf (field w b h) (double (slope2 w b dt h))) (double (slope3 w b dt h))) (slope4 w b dt h))

theorem half_def : broadcast S32x64 (Scalar.ofBits .f32 0x3F000000#32) = (half : FVec F S32x64 .f32) := rfl

theorem squash_def (u : FVec F S32x64 .f32) : addf (mulf half (tanh (mulf half u))) half = squash u := rfl

theorem across_def (w : FVec F S64x64 .f32) (h : FVec F S32x64 .f32) :
    matmul dot_S32x64_S64x64_S32x64_1_0_0_1_n_n none h w (constant S32x64 .f32 0x00000000#32) = across w h := rfl

theorem cut_z (g : Gates F) (n : ℕ) (p) (h : n ≤ 12768) : extractStridedSlice S32x64 ![n, 0] g.gz p = cut g.gz n h := rfl
theorem cut_r (g : Gates F) (n : ℕ) (p) (h : n ≤ 12768) : extractStridedSlice S32x64 ![n, 0] g.gr p = cut g.gr n h := rfl
theorem cut_n (g : Gates F) (n : ℕ) (p) (h : n ≤ 12768) : extractStridedSlice S32x64 ![n, 0] g.gn p = cut g.gn n h := rfl

theorem step_def (g : Gates F) (n : ℕ) (hn : n ≤ 12768) (h : FVec F S32x64 .f32) :
    addf h (mulf (squash (addf (cut g.gz n hn) (across g.wz h)))
      (subf (tanh (addf (cut g.gn n hn) (mulf (squash (addf (cut g.gr n hn) (across g.wr h))) (across g.wn h)))) h)) = step g n hn h := rfl

theorem step_lane (g : Gates F) (n k : ℕ) (hk : k ≤ 3) (h : FVec F S32x64 .f32) (t : ℕ) (ht : t ≤ 100) (hn : n ≤ 12768)
    (ht' : t + 1 ≤ 100) (e : n = 128 * t + 32 * k) : step g n hn (lane g k hk h t ht) = lane g k hk h (t + 1) ht' := by
  subst e; rfl

end Cert.FusedIdeal.Scan

end
-- ==== Proof.FusedIdeal.Body.lean ====
/-
  The fused kernel's buffers, and what they hold.
-/
module

public import proofs.«01_k».proof.Proof.FusedIdeal.Base
public import proofs.«01_k».proof.Proof.FusedIdeal.Scan

@[expose] public section

noncomputable section

namespace Cert.FusedIdeal.Base

open Cert.FusedIdeal Cert.FusedIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {c : Dev nD}

local notation "𝕄" => MT nD τ sig Unit (Elt F) ℕ (UR sig nD τ) ℕ

/-- The buffers the fused kernel's body is given. -/
structure Mems where
  a1 : Memref sig .tc .vmem S100x128x128 .f32
  h1 : a1.IsWhole
  a2 : Memref sig .tc .vmem S1x128x100 .f32
  h2 : a2.IsWhole
  a3 : Memref sig .tc .vmem S64x64 .f32
  h3 : a3.IsWhole
  a4 : Memref sig .tc .vmem S64x64 .f32
  h4 : a4.IsWhole
  a5 : Memref sig .tc .vmem S64x64 .f32
  h5 : a5.IsWhole
  a6 : Memref sig .tc .vmem S64x64 .f32
  h6 : a6.IsWhole
  a7 : Memref sig .tc .vmem S64x64 .f32
  h7 : a7.IsWhole
  a8 : Memref sig .tc .vmem S64x64 .f32
  h8 : a8.IsWhole
  a9 : Memref sig .tc .vmem S1x64 .f32
  h9 : a9.IsWhole
  a10 : Memref sig .tc .vmem S1x64 .f32
  h10 : a10.IsWhole
  a11 : Memref sig .tc .vmem S1x64 .f32
  h11 : a11.IsWhole
  a12 : Memref sig .tc .vmem S64x64 .f32
  h12 : a12.IsWhole
  a13 : Memref sig .tc .vmem S1x64 .f32
  h13 : a13.IsWhole
  a14 : Memref sig .tc .smem S3 .f32
  h14 : a14.IsWhole
  a15 : Memref sig .tc .vmem S64x6144 .f32
  h15 : a15.IsWhole
  a16 : Memref sig .tc .vmem S1x6144 .f32
  h16 : a16.IsWhole
  a17 : Memref sig .tc .vmem S4x6144x128 .f32
  h17 : a17.IsWhole
  a18 : Memref sig .tc .vmem S128x64 .f32
  h18 : a18.IsWhole
  a19 : Memref sig .tc .vmem S512x64 .f32
  h19 : a19.IsWhole

/-- What they hold. -/
structure Vals (F : FTy → Type) where
  x1 : Vec F S100x128x128 .f32
  x2 : Vec F S1x128x100 .f32
  x3 : Vec F S64x64 .f32
  x4 : Vec F S64x64 .f32
  x5 : Vec F S64x64 .f32
  x6 : Vec F S64x64 .f32
  x7 : Vec F S64x64 .f32
  x8 : Vec F S64x64 .f32
  x9 : Vec F S1x64 .f32
  x10 : Vec F S1x64 .f32
  x11 : Vec F S1x64 .f32
  x12 : Vec F S64x64 .f32
  x13 : Vec F S1x64 .f32
  x14 : Vec F S3 .f32
  x15 : Vec F S64x6144 .f32
  x16 : Vec F S1x6144 .f32
  x17 : Vec F S4x6144x128 .f32
  x18 : Vec F S128x64 .f32
  x19 : Vec F S512x64 .f32

variable (c) in
/-- What is held for the buffers `M` whole, holding `X`, one by one. -/
def owned (M : Mems) (X : Vals F) : List (sProp 𝕄) :=
  [owns (c : Thread nD τ) M.a1 fullShare X.x1, owns (c : Thread nD τ) M.a2 fullShare X.x2, owns (c : Thread nD τ) M.a3 fullShare X.x3,
    owns (c : Thread nD τ) M.a4 fullShare X.x4, owns (c : Thread nD τ) M.a5 fullShare X.x5, owns (c : Thread nD τ) M.a6 fullShare X.x6,
    owns (c : Thread nD τ) M.a7 fullShare X.x7, owns (c : Thread nD τ) M.a8 fullShare X.x8, owns (c : Thread nD τ) M.a9 fullShare X.x9,
    owns (c : Thread nD τ) M.a10 fullShare X.x10, owns (c : Thread nD τ) M.a11 fullShare X.x11, owns (c : Thread nD τ) M.a12 fullShare X.x12,
    owns (c : Thread nD τ) M.a13 fullShare X.x13, owns (c : Thread nD τ) M.a14 fullShare X.x14, owns (c : Thread nD τ) M.a15 fullShare X.x15,
    owns (c : Thread nD τ) M.a16 fullShare X.x16, owns (c : Thread nD τ) M.a17 fullShare X.x17, owns (c : Thread nD τ) M.a18 fullShare X.x18,
    owns (c : Thread nD τ) M.a19 fullShare X.x19]

variable (c) in
/-- The buffers `M` whole, holding `X`. -/
def St (M : Mems) (X : Vals F) : sProp 𝕄 := sepAll (owned c M X)

variable {M : Mems} {X : Vals F}

/-- One of them, by its position, the others aside. -/
theorem St_put (i : ℕ) (hi : i < 19) (P' : sProp 𝕄) (X' : Vals F) (h : (owned c M X).set i P' = owned c M X') :
    St c M X ⊢ iprop((owned c M X)[i]'hi ∗ (P' -∗ St c M X')) := by
  have := sepAll_put (owned c M X) i hi P'
  rw [h] at this
  exact this

theorem St_get (i : ℕ) (hi : i < 19) : St c M X ⊢ iprop((owned c M X)[i]'hi ∗ ((owned c M X)[i]'hi -∗ St c M X)) :=
  St_put i hi _ X (List.set_getElem_self _)

section Loads

variable {α : Type} {s : α}

theorem load1 {P' : sProp 𝕄} {r : Rect S100x128x128} {hl : M.a1.view.LoadsAt r.toLoadRect} {k : (r.shape.Idx → Elt F .f32) → Prog (TpuEff nD τ sig (Elt F) Λ₀ .tc) α}
    (hk : Runs c (St c M X) (k (at_ r X.x1)) P' s) : Runs c (St c M X) (.op (.load M.a1 r hl) k) P' s := Runs.load (St_get 0 (by decide)) hk
theorem load2 {P' : sProp 𝕄} {r : Rect S1x128x100} {hl : M.a2.view.LoadsAt r.toLoadRect} {k : (r.shape.Idx → Elt F .f32) → Prog (TpuEff nD τ sig (Elt F) Λ₀ .tc) α}
    (hk : Runs c (St c M X) (k (at_ r X.x2)) P' s) : Runs c (St c M X) (.op (.load M.a2 r hl) k) P' s := Runs.load (St_get 1 (by decide)) hk
theorem load3 {P' : sProp 𝕄} {r : Rect S64x64} {hl : M.a3.view.LoadsAt r.toLoadRect} {k : (r.shape.Idx → Elt F .f32) → Prog (TpuEff nD τ sig (Elt F) Λ₀ .tc) α}
    (hk : Runs c (St c M X) (k (at_ r X.x3)) P' s) : Runs c (St c M X) (.op (.load M.a3 r hl) k) P' s := Runs.load (St_get 2 (by decide)) hk
theorem load4 {P' : sProp 𝕄} {r : Rect S64x64} {hl : M.a4.view.LoadsAt r.toLoadRect} {k : (r.shape.Idx → Elt F .f32) → Prog (TpuEff nD τ sig (Elt F) Λ₀ .tc) α}
    (hk : Runs c (St c M X) (k (at_ r X.x4)) P' s) : Runs c (St c M X) (.op (.load M.a4 r hl) k) P' s := Runs.load (St_get 3 (by decide)) hk
theorem load5 {P' : sProp 𝕄} {r : Rect S64x64} {hl : M.a5.view.LoadsAt r.toLoadRect} {k : (r.shape.Idx → Elt F .f32) → Prog (TpuEff nD τ sig (Elt F) Λ₀ .tc) α}
    (hk : Runs c (St c M X) (k (at_ r X.x5)) P' s) : Runs c (St c M X) (.op (.load M.a5 r hl) k) P' s := Runs.load (St_get 4 (by decide)) hk
theorem load6 {P' : sProp 𝕄} {r : Rect S64x64} {hl : M.a6.view.LoadsAt r.toLoadRect} {k : (r.shape.Idx → Elt F .f32) → Prog (TpuEff nD τ sig (Elt F) Λ₀ .tc) α}
    (hk : Runs c (St c M X) (k (at_ r X.x6)) P' s) : Runs c (St c M X) (.op (.load M.a6 r hl) k) P' s := Runs.load (St_get 5 (by decide)) hk
theorem load7 {P' : sProp 𝕄} {r : Rect S64x64} {hl : M.a7.view.LoadsAt r.toLoadRect} {k : (r.shape.Idx → Elt F .f32) → Prog (TpuEff nD τ sig (Elt F) Λ₀ .tc) α}
    (hk : Runs c (St c M X) (k (at_ r X.x7)) P' s) : Runs c (St c M X) (.op (.load M.a7 r hl) k) P' s := Runs.load (St_get 6 (by decide)) hk
theorem load8 {P' : sProp 𝕄} {r : Rect S64x64} {hl : M.a8.view.LoadsAt r.toLoadRect} {k : (r.shape.Idx → Elt F .f32) → Prog (TpuEff nD τ sig (Elt F) Λ₀ .tc) α}
    (hk : Runs c (St c M X) (k (at_ r X.x8)) P' s) : Runs c (St c M X) (.op (.load M.a8 r hl) k) P' s := Runs.load (St_get 7 (by decide)) hk
theorem load9 {P' : sProp 𝕄} {r : Rect S1x64} {hl : M.a9.view.LoadsAt r.toLoadRect} {k : (r.shape.Idx → Elt F .f32) → Prog (TpuEff nD τ sig (Elt F) Λ₀ .tc) α}
    (hk : Runs c (St c M X) (k (at_ r X.x9)) P' s) : Runs c (St c M X) (.op (.load M.a9 r hl) k) P' s := Runs.load (St_get 8 (by decide)) hk
theorem load10 {P' : sProp 𝕄} {r : Rect S1x64} {hl : M.a10.view.LoadsAt r.toLoadRect} {k : (r.shape.Idx → Elt F .f32) → Prog (TpuEff nD τ sig (Elt F) Λ₀ .tc) α}
    (hk : Runs c (St c M X) (k (at_ r X.x10)) P' s) : Runs c (St c M X) (.op (.load M.a10 r hl) k) P' s := Runs.load (St_get 9 (by decide)) hk
theorem load11 {P' : sProp 𝕄} {r : Rect S1x64} {hl : M.a11.view.LoadsAt r.toLoadRect} {k : (r.shape.Idx → Elt F .f32) → Prog (TpuEff nD τ sig (Elt F) Λ₀ .tc) α}
    (hk : Runs c (St c M X) (k (at_ r X.x11)) P' s) : Runs c (St c M X) (.op (.load M.a11 r hl) k) P' s := Runs.load (St_get 10 (by decide)) hk
theorem load12 {P' : sProp 𝕄} {r : Rect S64x64} {hl : M.a12.view.LoadsAt r.toLoadRect} {k : (r.shape.Idx → Elt F .f32) → Prog (TpuEff nD τ sig (Elt F) Λ₀ .tc) α}
    (hk : Runs c (St c M X) (k (at_ r X.x12)) P' s) : Runs c (St c M X) (.op (.load M.a12 r hl) k) P' s := Runs.load (St_get 11 (by decide)) hk
theorem load13 {P' : sProp 𝕄} {r : Rect S1x64} {hl : M.a13.view.LoadsAt r.toLoadRect} {k : (r.shape.Idx → Elt F .f32) → Prog (TpuEff nD τ sig (Elt F) Λ₀ .tc) α}
    (hk : Runs c (St c M X) (k (at_ r X.x13)) P' s) : Runs c (St c M X) (.op (.load M.a13 r hl) k) P' s := Runs.load (St_get 12 (by decide)) hk
theorem load14 {P' : sProp 𝕄} {r : Rect S3} {hl : M.a14.view.LoadsAt r.toLoadRect} {k : (r.shape.Idx → Elt F .f32) → Prog (TpuEff nD τ sig (Elt F) Λ₀ .tc) α}
    (hk : Runs c (St c M X) (k (at_ r X.x14)) P' s) : Runs c (St c M X) (.op (.load M.a14 r hl) k) P' s := Runs.load (St_get 13 (by decide)) hk
theorem load15 {P' : sProp 𝕄} {r : Rect S64x6144} {hl : M.a15.view.LoadsAt r.toLoadRect} {k : (r.shape.Idx → Elt F .f32) → Prog (TpuEff nD τ sig (Elt F) Λ₀ .tc) α}
    (hk : Runs c (St c M X) (k (at_ r X.x15)) P' s) : Runs c (St c M X) (.op (.load M.a15 r hl) k) P' s := Runs.load (St_get 14 (by decide)) hk
theorem load16 {P' : sProp 𝕄} {r : Rect S1x6144} {hl : M.a16.view.LoadsAt r.toLoadRect} {k : (r.shape.Idx → Elt F .f32) → Prog (TpuEff nD τ sig (Elt F) Λ₀ .tc) α}
    (hk : Runs c (St c M X) (k (at_ r X.x16)) P' s) : Runs c (St c M X) (.op (.load M.a16 r hl) k) P' s := Runs.load (St_get 15 (by decide)) hk
theorem load17 {P' : sProp 𝕄} {r : Rect S4x6144x128} {hl : M.a17.view.LoadsAt r.toLoadRect} {k : (r.shape.Idx → Elt F .f32) → Prog (TpuEff nD τ sig (Elt F) Λ₀ .tc) α}
    (hk : Runs c (St c M X) (k (at_ r X.x17)) P' s) : Runs c (St c M X) (.op (.load M.a17 r hl) k) P' s := Runs.load (St_get 16 (by decide)) hk
theorem load18 {P' : sProp 𝕄} {r : Rect S128x64} {hl : M.a18.view.LoadsAt r.toLoadRect} {k : (r.shape.Idx → Elt F .f32) → Prog (TpuEff nD τ sig (Elt F) Λ₀ .tc) α}
    (hk : Runs c (St c M X) (k (at_ r X.x18)) P' s) : Runs c (St c M X) (.op (.load M.a18 r hl) k) P' s := Runs.load (St_get 17 (by decide)) hk
theorem load19 {P' : sProp 𝕄} {r : Rect S512x64} {hl : M.a19.view.LoadsAt r.toLoadRect} {k : (r.shape.Idx → Elt F .f32) → Prog (TpuEff nD τ sig (Elt F) Λ₀ .tc) α}
    (hk : Runs c (St c M X) (k (at_ r X.x19)) P' s) : Runs c (St c M X) (.op (.load M.a19 r hl) k) P' s := Runs.load (St_get 18 (by decide)) hk

end Loads

theorem St_17 (Y : Vec F S4x6144x128 .f32) :
    St c M X ⊢ iprop(owns (c : Thread nD τ) M.a17 fullShare X.x17 ∗ (owns (c : Thread nD τ) M.a17 fullShare Y -∗ St c M { X with x17 := Y })) :=
  St_put 16 (by decide) _ _ rfl

theorem St_18 (Y : Vec F S128x64 .f32) :
    St c M X ⊢ iprop(owns (c : Thread nD τ) M.a18 fullShare X.x18 ∗ (owns (c : Thread nD τ) M.a18 fullShare Y -∗ St c M { X with x18 := Y })) :=
  St_put 17 (by decide) _ _ rfl

theorem St_19 (Y : Vec F S512x64 .f32) :
    St c M X ⊢ iprop(owns (c : Thread nD τ) M.a19 fullShare X.x19 ∗ (owns (c : Thread nD τ) M.a19 fullShare Y -∗ St c M { X with x19 := Y })) :=
  St_put 18 (by decide) _ _ rfl

section Stores

variable {α : Type} {s : α}

theorem store17 {P' : sProp 𝕄} {r : Rect S4x6144x128} {w : r.shape.Idx → Elt F .f32} {hx : (M.a17.access r).Stores Finset.univ} {hm} {k : PUnit → Prog (TpuEff nD τ sig (Elt F) Λ₀ .tc) α}
    (hk : Runs c (St c M { X with x17 := over r w X.x17 }) (k ⟨⟩) P' s) : Runs c (St c M X) (.op (.store M.a17 r w Finset.univ hx hm) k) P' s := Runs.store (St_17 _) hk
theorem store18 {P' : sProp 𝕄} {r : Rect S128x64} {w : r.shape.Idx → Elt F .f32} {hx : (M.a18.access r).Stores Finset.univ} {hm} {k : PUnit → Prog (TpuEff nD τ sig (Elt F) Λ₀ .tc) α}
    (hk : Runs c (St c M { X with x18 := over r w X.x18 }) (k ⟨⟩) P' s) : Runs c (St c M X) (.op (.store M.a18 r w Finset.univ hx hm) k) P' s := Runs.store (St_18 _) hk
theorem store19 {P' : sProp 𝕄} {r : Rect S512x64} {w : r.shape.Idx → Elt F .f32} {hx : (M.a19.access r).Stores Finset.univ} {hm} {k : PUnit → Prog (TpuEff nD τ sig (Elt F) Λ₀ .tc) α}
    (hk : Runs c (St c M { X with x19 := over r w X.x19 }) (k ⟨⟩) P' s) : Runs c (St c M X) (.op (.store M.a19 r w Finset.univ hx hm) k) P' s := Runs.store (St_19 _) hk

end Stores

theorem Runs.of_eq {α : Type} {P : sProp 𝕄} {a : Prog (TpuEff nD τ sig (Elt F) Λ₀ .tc) α} {r : α} (h : a = Prog.ret r) : Runs c P a P r := h ▸ Runs.ret

theorem Runs.cast {α : Type} {P P' : sProp 𝕄} {a : Prog (TpuEff nD τ sig (Elt F) Λ₀ .tc) α} {r r' : α} (h : Runs c P a P' r) (e : r = r') : Runs c P a P' r' := e ▸ h

/-- A stretch, its result read as another expression of it, then the rest. -/
theorem Runs.bind_as {α β : Type} {P P' R : sProp 𝕄} {a : Prog (TpuEff nD τ sig (Elt F) Λ₀ .tc) α} {x y : α}
    {k : α → Prog (TpuEff nD τ sig (Elt F) Λ₀ .tc) β} {s : β} (ha : Runs c P a P' x) (e : x = y) (hk : Runs c P' (k y) R s) : Runs c P (a >>= k) R s :=
  Runs.bind ha (e ▸ hk)

open Cert.FusedIdeal.Scan

theorem plane_def (x : Vec F S100x128x128 .f32) (t : ℕ) (p q) (h : t ≤ 99) :
    shapeCast S128x128 (at_ (Rect.unit (s := S100x128x128) ![t, 0, 0] S1x128x128.size p) x) q = plane x t h := rfl
theorem column_def (v : FVec F S128x100 .f32) (t : ℕ) (p) (h : t ≤ 99) : extractStridedSlice S128x1 ![0, t] v p = column v t h := rfl
theorem left_def (x : Vec F S100x128x128 .f32) (t : ℕ) (h : t ≤ 99) (p) : extractStridedSlice S128x64 ![0, 0] (plane x t h) p = left (plane x t h) := rfl
theorem right_def (x : Vec F S100x128x128 .f32) (t : ℕ) (h : t ≤ 99) (p) : extractStridedSlice S128x64 ![0, 64] (plane x t h) p = right (plane x t h) := rfl
theorem pick_def (x : Vec F S100x128x128 .f32) (v : FVec F S128x100 .f32) (t : ℕ) (h : t ≤ 99) (q) :
    addf (left (plane x t h)) (mulf (broadcastTo S128x64 (column v t h) q) (subf (right (plane x t h)) (left (plane x t h)))) = pick x v t h := rfl

/-- The choices of a chunk. -/
def choices (X : Vals F) : FVec F S128x100 .f32 :=
  shapeCast S128x100 (at_ (Rect.unit (s := S1x128x100) ![0, 0, 0] S1x128x100.size inb_S1x128x100_S1x128x100_0_0_0) X.x2) shapeCasts_S1x128x100_S128x100
theorem choices_def (X : Vals F) (p q) : shapeCast S128x100 (at_ (Rect.unit (s := S1x128x100) ![0, 0, 0] S1x128x100.size p) X.x2) q = choices X := rfl

def square (x : Vec F S64x64 .f32) : FVec F S64x64 .f32 :=
  shapeCast S64x64 (at_ (Rect.unit (s := S64x64) ![0, 0] S64x64.size inb_S64x64_S64x64_0_0) x) shapeCasts_S64x64_S64x64
def line (x : Vec F S1x64 .f32) : FVec F S1x64 .f32 :=
  shapeCast S1x64 (at_ (Rect.unit (s := S1x64) ![0, 0] S1x64.size inb_S1x64_S1x64_0_0) x) shapeCasts_S1x64_S1x64

/-- The gates of a chunk. -/
def gates (X : Vals F) : Gates F where
  gz := gate (rows X.x1 (choices X)) (square X.x3) (line X.x9)
  gr := gate (rows X.x1 (choices X)) (square X.x4) (line X.x10)
  gn := gate (rows X.x1 (choices X)) (square X.x5) (line X.x11)
  wz := square X.x6
  wr := square X.x7
  wn := square X.x8

theorem block_in (n : ℕ) (h : n ≤ 96) : ∀ a, (![n, 0] : Fin 2 → ℕ) a + S32x64.size a ≤ S128x64.size a := by
  intro a; fin_cases a <;> simp [S32x64, S128x64] <;> omega

/-- Thirty-two rows of the states, from row `n` on. -/
def block (x : Vec F S128x64 .f32) (n : ℕ) (h : n ≤ 96) : FVec F S32x64 .f32 :=
  at_ (Rect.unit (s := S128x64) ![n, 0] S32x64.size (block_in n h)) x

theorem block_def (x : Vec F S128x64 .f32) (n : ℕ) (p) (h : n ≤ 96) :
    at_ (Rect.unit (s := S128x64) ![n, 0] S32x64.size p) x = block x n h := rfl

/-- A load of thirty-two rows of the states. -/
theorem load18_rows {α : Type} {X : Vals F} {s : α} {P' : sProp 𝕄} (n : ℕ) (h : n ≤ 96) {p} {hl : M.a18.view.LoadsAt (Rect.unit (s := S128x64) ![n, 0] S32x64.size p).toLoadRect}
    {k : (Vec F S32x64 .f32) → Prog (TpuEff nD τ sig (Elt F) Λ₀ .tc) α} (hk : Runs c (St c M X) (k (block X.x18 n h)) P' s) :
    Runs c (St c M X) (.op (.load M.a18 (Rect.unit (s := S128x64) ![n, 0] S32x64.size p).toLoadRect hl) k) P' s := load18 hk

/-- A block of states put back. -/
def putBack (n : ℕ) (h : n ≤ 96) (w : FVec F S32x64 .f32) (x : Vec F S128x64 .f32) : Vec F S128x64 .f32 :=
  over (Rect.unit (s := S128x64) ![n, 0] S32x64.size (block_in n h)) (shapeCast S32x64 w shapeCasts_S32x64_S32x64) x

/-- A store of thirty-two rows of the states. -/
theorem store18_rows {α : Type} {X : Vals F} {s : α} {P' : sProp 𝕄} (n : ℕ) (h : n ≤ 96) {w : FVec F S32x64 .f32} {p q} {hx : (M.a18.access (Rect.unit (s := S128x64) ![n, 0] S32x64.size p)).Stores Finset.univ} {hm}
    {k : PUnit → Prog (TpuEff nD τ sig (Elt F) Λ₀ .tc) α} (hk : Runs c (St c M { X with x18 := putBack n h w X.x18 }) (k ⟨⟩) P' s) :
    Runs c (St c M X) (.op (.store M.a18 (Rect.unit (s := S128x64) ![n, 0] S32x64.size p) (shapeCast S32x64 w q) Finset.univ hx hm) k) P' s := store18 hk

theorem step_zero (g : Gates F) (n : ℕ) (hk : n / 32 ≤ 3) (x : Vec F S128x64 .f32) (hn : n ≤ 12768) (h : n ≤ 96) (e : 32 * (n / 32) = n) :
    step g n hn (block x n h) = lane g (n / 32) hk (block x n h) 1 (by omega) := by
  show _ = step g (128 * 0 + 32 * (n / 32)) _ (block x n h); congr 1; omega

theorem square_def (x : Vec F S64x64 .f32) (p q) : shapeCast S64x64 (at_ (Rect.unit (s := S64x64) ![0, 0] S64x64.size p) x) q = square x := rfl
theorem line_def (x : Vec F S1x64 .f32) (p q) : shapeCast S1x64 (at_ (Rect.unit (s := S1x64) ![0, 0] S1x64.size p) x) q = line x := rfl

/-- The states cleared at the first point. -/
def init (i : grid0.Coords) (X : Vals F) : Vals F :=
  if (i 0).val = 0 then
    { X with x18 := over (Rect.unit (s := S128x64) ![0, 0] S128x64.size inb_S128x64_S128x64_0_0) (shapeCast S128x64 (broadcast S128x64 (Scalar.ofBits .f32 0x00000000#32) : FVec F S128x64 .f32) shapeCasts_S128x64_S128x64) X.x18 }
  else X

/-- Row block `k` of the states after a chunk. -/
def last (X : Vals F) (k : ℕ) (hk : k ≤ 3) : FVec F S32x64 .f32 := lane (gates X) k hk (block X.x18 (32 * k) (by omega)) 100 (by omega)

/-- The states after a chunk. -/
def scanned (X : Vals F) : Vals F :=
  { X with x18 := putBack 96 (by omega) (last X 3 (by omega)) (putBack 64 (by omega) (last X 2 (by omega)) (putBack 32 (by omega) (last X 1 (by omega)) (putBack 0 (by omega) (last X 0 (by omega)) X.x18))) }

theorem page_in (n : ℕ) (h : n ≤ 384) : ∀ a, (![n, 0] : Fin 2 → ℕ) a + S128x64.size a ≤ S512x64.size a := by
  intro a; fin_cases a <;> simp [S128x64, S512x64] <;> omega

/-- The states of one time, put among those of all four. -/
def paste (n : ℕ) (h : n ≤ 384) (w : FVec F S128x64 .f32) (x : Vec F S512x64 .f32) : Vec F S512x64 .f32 :=
  over (Rect.unit (s := S512x64) ![n, 0] S128x64.size (page_in n h)) (shapeCast S128x64 w shapeCasts_S128x64_S128x64) x

def stack (a b c d : FVec F S32x64 .f32) : FVec F S128x64 .f32 :=
  concatenate S128x64 0 [⟨S32x64, a⟩, ⟨S32x64, b⟩, ⟨S32x64, c⟩, ⟨S32x64, d⟩] concatenates_S32x64_S32x64_S32x64_S32x64_S128x64_d0

def full (x : Vec F S64x64 .f32) : FVec F S64x64 .f32 := at_ (Rect.unit (s := S64x64) ![0, 0] S64x64.size inb_S64x64_S64x64_0_0) x

/-- The `k`-th time step. -/
def time (x : Vec F S3 .f32) (k : ℕ) (h : k ≤ 2) : F .f32 := x fun a => ⟨k, by fin_cases a; show k < 3; omega⟩

/-- The states at the start and after each of the solver's steps. -/
def page0 (X : Vals F) : FVec F S128x64 .f32 := stack (last X 0 (by omega)) (last X 1 (by omega)) (last X 2 (by omega)) (last X 3 (by omega))
def page1 (X : Vals F) : FVec F S128x64 .f32 := rk (full X.x12) (line X.x13) (time X.x14 0 (by omega)) (page0 X)
def page2 (X : Vals F) : FVec F S128x64 .f32 := rk (full X.x12) (line X.x13) (time X.x14 1 (by omega)) (page1 X)
def page3 (X : Vals F) : FVec F S128x64 .f32 := rk (full X.x12) (line X.x13) (time X.x14 2 (by omega)) (page2 X)

/-- The body's effect at one of the first two points, the states given. -/
def after (i : grid0.Coords) (X : Vals F) : Vals F :=
  if (i 0).val = 1 then
    { scanned X with x19 := paste 384 (by omega) (page3 X) (paste 256 (by omega) (page2 X) (paste 128 (by omega) (page1 X) (paste 0 (by omega) (page0 X) X.x19))) }
  else scanned X

/-- A store of the states of one time. -/
theorem store19_rows {α : Type} {X : Vals F} {s : α} {P' : sProp 𝕄} (n : ℕ) (h : n ≤ 384) {w : FVec F S128x64 .f32} {p q} {hx : (M.a19.access (Rect.unit (s := S512x64) ![n, 0] S128x64.size p)).Stores Finset.univ} {hm}
    {k : PUnit → Prog (TpuEff nD τ sig (Elt F) Λ₀ .tc) α} (hk : Runs c (St c M { X with x19 := paste n h w X.x19 }) (k ⟨⟩) P' s) :
    Runs c (St c M X) (.op (.store M.a19 (Rect.unit (s := S512x64) ![n, 0] S128x64.size p) (shapeCast S128x64 w q) Finset.univ hx hm) k) P' s := store19 hk

theorem word_in (n : ℕ) (h : n ≤ 2) : ∀ a, (![n] : Fin 1 → ℕ) a + S1.size a ≤ S3.size a := by
  intro a; fin_cases a; simp [S1, S3]; omega

/-- The `n`-th time step as loaded. -/
def word (x : Vec F S3 .f32) (n : ℕ) (h : n ≤ 2) : Vec F S1 .f32 := at_ (Rect.unit (s := S3) ![n] S1.size (word_in n h)) x

theorem load14_word {α : Type} {X : Vals F} {s : α} {P' : sProp 𝕄} (n : ℕ) (h : n ≤ 2) {p} {hl : M.a14.view.LoadsAt (Rect.unit (s := S3) ![n] S1.size p).toLoadRect}
    {k : (Vec F S1 .f32) → Prog (TpuEff nD τ sig (Elt F) Λ₀ .tc) α} (hk : Runs c (St c M X) (k (word X.x14 n h)) P' s) :
    Runs c (St c M X) (.op (.load M.a14 (Rect.unit (s := S3) ![n] S1.size p).toLoadRect hl) k) P' s := load14 hk

theorem word_def (x : Vec F S3 .f32) (n : ℕ) (h : n ≤ 2) (j) : word x n h j = time x n h := by
  unfold word at_ time
  congr 1
  funext a
  fin_cases a
  apply Fin.ext
  have := (j 0).isLt
  have e : (j 0).val = 0 := by simpa [S1] using this
  show n + 1 * (j 0).val = n
  omega

/-- The solver's bias as loaded. -/
def bare (x : Vec F S1x64 .f32) : Vec F S1x64 .f32 := at_ (Rect.unit (s := S1x64) ![0, 0] S1x64.size inb_S1x64_S1x64_0_0) x
theorem bare_def (x : Vec F S1x64 .f32) (q) : shapeCast S1x64 (bare x) q = line x := rfl

theorem load12_full {α : Type} {X : Vals F} {s : α} {P' : sProp 𝕄} {p} {hl : M.a12.view.LoadsAt (Rect.unit (s := S64x64) ![0, 0] S64x64.size p).toLoadRect}
    {k : (Vec F S64x64 .f32) → Prog (TpuEff nD τ sig (Elt F) Λ₀ .tc) α} (hk : Runs c (St c M X) (k (full X.x12)) P' s) :
    Runs c (St c M X) (.op (.load M.a12 (Rect.unit (s := S64x64) ![0, 0] S64x64.size p).toLoadRect hl) k) P' s := load12 hk

theorem load13_bare {α : Type} {X : Vals F} {s : α} {P' : sProp 𝕄} {p} {hl : M.a13.view.LoadsAt (Rect.unit (s := S1x64) ![0, 0] S1x64.size p).toLoadRect}
    {k : (Vec F S1x64 .f32) → Prog (TpuEff nD τ sig (Elt F) Λ₀ .tc) α} (hk : Runs c (St c M X) (k (bare X.x13)) P' s) :
    Runs c (St c M X) (.op (.load M.a13 (Rect.unit (s := S1x64) ![0, 0] S1x64.size p).toLoadRect hl) k) P' s := load13 hk

theorem full_def (x : Vec F S64x64 .f32) (p) : at_ (Rect.unit (s := S64x64) ![0, 0] S64x64.size p) x = full x := rfl
theorem stack_def (a b c d : FVec F S32x64 .f32) (p) :
    concatenate S128x64 0 [⟨S32x64, a⟩, ⟨S32x64, b⟩, ⟨S32x64, c⟩, ⟨S32x64, d⟩] p = stack a b c d := rfl
theorem field_def (w : FVec F S64x64 .f32) (b : FVec F S1x64 .f32) (h : FVec F S128x64 .f32) (p) :
    tanh (addf (matmul dot_S128x64_S64x64_S128x64_1_0_0_1_n_n none h w (constant S128x64 .f32 0x00000000#32)) (broadcastTo S128x64 b p)) = field w b h := rfl
theorem push_def (h : FVec F S128x64 .f32) (s : F .f32) (k : FVec F S128x64 .f32) : addf h (mulf (broadcast S128x64 s) k) = push h s k := rfl
theorem page0_def (X : Vals F) : stack (last X 0 (by omega)) (last X 1 (by omega)) (last X 2 (by omega)) (last X 3 (by omega)) = page0 X := rfl

theorem scanned_12 (X : Vals F) : (scanned X).x12 = X.x12 := rfl
theorem scanned_13 (X : Vals F) : (scanned X).x13 = X.x13 := rfl
theorem scanned_14 (X : Vals F) : (scanned X).x14 = X.x14 := rfl

theorem Runs.pos {α : Type} {P R : sProp 𝕄} {r : α} {p : Prop} [Decidable p] {a : p → Prog (TpuEff nD τ sig (Elt F) Λ₀ .tc) α} {b : ¬p → Prog (TpuEff nD τ sig (Elt F) Λ₀ .tc) α}
    (h : p) (ha : Runs c P (a h) R r) : Runs c P (dite p a b) R r := by rw [dif_pos h]; exact ha
theorem Runs.neg {α : Type} {P R : sProp 𝕄} {r : α} {p : Prop} [Decidable p] {a : p → Prog (TpuEff nD τ sig (Elt F) Λ₀ .tc) α} {b : ¬p → Prog (TpuEff nD τ sig (Elt F) Λ₀ .tc) α}
    (h : ¬p) (hb : Runs c P (b h) R r) : Runs c P (dite p a b) R r := by rw [dif_neg h]; exact hb

/-- A part's own parts are run one after the other. -/
theorem Runs.assoc {α β γ : Type} {P R : sProp 𝕄} {a : Prog (TpuEff nD τ sig (Elt F) Λ₀ .tc) α} {g : α → Prog (TpuEff nD τ sig (Elt F) Λ₀ .tc) β}
    {k : β → Prog (TpuEff nD τ sig (Elt F) Λ₀ .tc) γ} {s : γ} (h : Runs c P (a >>= fun x => g x >>= k) R s) : Runs c P ((a >>= g) >>= k) R s := by
  rw [bind_assoc]; exact h

theorem Runs.pure {α β : Type} {P R : sProp 𝕄} {x : α} {k : α → Prog (TpuEff nD τ sig (Elt F) Λ₀ .tc) β} {s : β} (h : Runs c P (k x) R s) :
    Runs c P ((Pure.pure x : Prog (TpuEff nD τ sig (Elt F) Λ₀ .tc) α) >>= k) R s := h

/-- A stretch common to the ends of two, run once whatever the buffers hold. -/
theorem Runs.common {α : Type} {f : Vals F → Vals F} {r : α} {J : Prog (TpuEff nD τ sig (Elt F) Λ₀ .tc) α} {G : Prop}
    (h : (∀ X, Runs c (St c M X) J (St c M (f X)) r) → G) (hJ : ∀ X, Runs c (St c M X) J (St c M (f X)) r) : G := h hJ

theorem at_zero : ∀ k : Fin 19, Scalar.cmpi .ne (Scalar.extui (Scalar.cmpi .eq (BitVec.ofNat 32 k.val) 0#32) : BitVec 32) 0#32 = 1#1 ↔ k.val = 0 := by decide
theorem at_one : ∀ k : Fin 19, Scalar.cmpi .ne (Scalar.extui (Scalar.cmpi .eq (BitVec.ofNat 32 k.val) 1#32) : BitVec 32) 0#32 = 1#1 ↔ k.val = 1 := by decide
theorem below_two : ∀ k : Fin 19, Scalar.cmpi .ne (Scalar.extui (Scalar.cmpi .slt (BitVec.ofNat 32 k.val) 2#32) : BitVec 32) 0#32 = 1#1 ↔ k.val < 2 := by decide
theorem from_two : ∀ i : grid0.Coords, k0_cond4 i = 1#1 ↔ 2 ≤ (i 0).val := by
  have h : ∀ k : Fin 19, Scalar.cmpi .ne (Scalar.extui (Scalar.cmpi .sge (BitVec.ofNat 32 k.val) 2#32) : BitVec 32) 0#32 = 1#1 ↔ 2 ≤ k.val := by decide
  exact fun i => h (i 0)

set_option maxHeartbeats 4000000 in
theorem body_scan (i : grid0.Coords) (hi : (i 0).val < 2) : Runs (F := F) c (St c M X) (cc0__fused_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19) (St c M (after i (init i X))) PUnit.unit := by
  unfold cc0__fused_body
  apply Runs.common (F := F) (f := after i)
  · intro H
    by_cases h : (i 0).val = 0
    · apply Runs.pos ((at_zero (i 0)).mpr h)
      rw [init, if_pos h]
      conv => enter [3]; whnf
      apply load18
      conv => enter [3]; whnf
      apply store18
      exact H _
    · apply Runs.neg (mt (at_zero (i 0)).mp h)
      rw [init, if_neg h]
      exact H _
  intro X
  apply Runs.pos ((below_two (i 0)).mpr hi)
  unfold k0_part273
  iterate 20
    apply Runs.assoc
    refine Runs.bind_as (by
      repeat
        conv => enter [3]; whnf
        first
          | apply load1
          | apply load2
      exact Runs.ret (F := F)) (by
      simp only [plane_def, column_def, left_def, right_def, pick_def, choices_def, Nat.reduceLeDiff]
      exact rfl) ?_
  apply Runs.assoc
  refine Runs.bind_as (y := ⟨(gates X).gz, (gates X).gr, (gates X).gn, (gates X).wz, (gates X).wr, (gates X).wn, block X.x18 0 (by omega), block X.x18 32 (by omega)⟩) (by
      conv => enter [3]; whnf
      apply load3
      conv => enter [3]; whnf
      apply load9
      conv => enter [3]; whnf
      apply load4
      conv => enter [3]; whnf
      apply load10
      conv => enter [3]; whnf
      apply load5
      conv => enter [3]; whnf
      apply load11
      conv => enter [3]; whnf
      apply load6
      conv => enter [3]; whnf
      apply load7
      conv => enter [3]; whnf
      apply load8
      conv => enter [3]; whnf
      apply load18
      conv => enter [3]; whnf
      apply load18
      exact Runs.ret (F := F)) (by
      simp only [plane_def, column_def, left_def, right_def, pick_def, square_def, line_def, Nat.reduceLeDiff]
      exact rfl) ?_
  apply Runs.assoc
  refine Runs.bind_as (by
      conv => enter [3]; whnf
      apply load18_rows 64 (by omega)
      conv => enter [3]; whnf
      apply load18_rows 96 (by omega)
      exact Runs.ret (F := F)) (by
      simp only [half_def, squash_def, across_def, cut_z, cut_r, cut_n, step_def, step_zero, block_def, step_lane, Nat.reduceLeDiff, Nat.reduceAdd, Nat.reduceMul, Nat.reduceDiv]
      exact rfl) ?_
  iterate 38
    apply Runs.assoc
    refine Runs.bind_as (Runs.of_eq (F := F) (by conv_lhs => whnf)) (by
      simp only [half_def, squash_def, across_def, cut_z, cut_r, cut_n, step_def, step_zero, step_lane, Nat.reduceLeDiff, Nat.reduceAdd, Nat.reduceMul, Nat.reduceDiv]
      exact rfl) ?_
  apply Runs.pure
  iterate 60
    apply Runs.assoc
    refine Runs.bind_as (Runs.of_eq (F := F) (by conv_lhs => whnf)) (by
      simp only [half_def, squash_def, across_def, cut_z, cut_r, cut_n, step_def, step_zero, step_lane, Nat.reduceLeDiff, Nat.reduceAdd, Nat.reduceMul, Nat.reduceDiv]
      exact rfl) ?_
  apply Runs.pure
  iterate 60
    apply Runs.assoc
    refine Runs.bind_as (Runs.of_eq (F := F) (by conv_lhs => whnf)) (by
      simp only [half_def, squash_def, across_def, cut_z, cut_r, cut_n, step_def, step_zero, step_lane, Nat.reduceLeDiff, Nat.reduceAdd, Nat.reduceMul, Nat.reduceDiv]
      exact rfl) ?_
  apply Runs.pure
  iterate 60
    apply Runs.assoc
    refine Runs.bind_as (Runs.of_eq (F := F) (by conv_lhs => whnf)) (by
      simp only [half_def, squash_def, across_def, cut_z, cut_r, cut_n, step_def, step_zero, step_lane, Nat.reduceLeDiff, Nat.reduceAdd, Nat.reduceMul, Nat.reduceDiv]
      exact rfl) ?_
  apply Runs.pure
  iterate 27
    refine Runs.bind_as (Runs.of_eq (F := F) (by conv_lhs => whnf)) (by
      simp only [half_def, squash_def, across_def, cut_z, cut_r, cut_n, step_def, step_zero, step_lane, Nat.reduceLeDiff, Nat.reduceAdd, Nat.reduceMul, Nat.reduceDiv]
      exact rfl) ?_
  refine Runs.bind_as (P' := St c M { X with x18 := putBack 32 (Nat.le_of_ble_eq_true rfl) (last X 1 (Nat.le_of_ble_eq_true rfl)) (putBack 0 (Nat.le_of_ble_eq_true rfl) (last X 0 (Nat.le_of_ble_eq_true rfl)) X.x18) }) (y := ⟨last X 2 (Nat.le_of_ble_eq_true rfl), last X 3 (Nat.le_of_ble_eq_true rfl)⟩) (by
      conv => enter [3]; whnf
      apply load18
      conv => enter [3]; whnf
      apply store18_rows 0 (by omega)
      conv => enter [3]; whnf
      apply load18
      conv => enter [3]; whnf
      apply store18_rows 32 (by omega)
      exact Runs.ret (F := F)) (by
      simp only [half_def, squash_def, across_def, cut_z, cut_r, cut_n, step_def, step_zero, step_lane, Nat.reduceLeDiff, Nat.reduceAdd, Nat.reduceMul, Nat.reduceDiv]
      exact rfl) ?_
  conv => enter [3]; whnf
  apply load18
  conv => enter [3]; whnf
  apply store18_rows 64 (by omega)
  conv => enter [3]; whnf
  apply load18
  conv => enter [3]; whnf
  apply store18_rows 96 (by omega)
  change Runs c (St c M (scanned X)) _ _ _
  by_cases h : (i 0).val = 1
  · apply Runs.pos ((at_one (i 0)).mpr h)
    rw [after, if_pos h]
    refine Runs.bind_as (P' := St c M { scanned X with x19 := (paste 0 (Nat.le_of_ble_eq_true rfl) (page0 X) (scanned X).x19) }) (y := ⟨page0 X, time X.x14 0 (Nat.le_of_ble_eq_true rfl), field (full X.x12) (line X.x13) (page0 X), slope2 (full X.x12) (line X.x13) (time X.x14 0 (Nat.le_of_ble_eq_true rfl)) (page0 X), slope3 (full X.x12) (line X.x13) (time X.x14 0 (Nat.le_of_ble_eq_true rfl)) (page0 X), push (page0 X) (time X.x14 0 (Nat.le_of_ble_eq_true rfl)) (slope3 (full X.x12) (line X.x13) (time X.x14 0 (Nat.le_of_ble_eq_true rfl)) (page0 X))⟩) (by
        conv => enter [3]; whnf
        apply load19
        conv => enter [3]; whnf
        apply store19_rows 0 (by omega)
        conv => enter [3]; whnf
        apply load14_word 0 (by omega)
        conv => enter [3]; whnf
        apply load12_full
        conv => enter [3]; whnf
        apply load13_bare
        conv => enter [3]; whnf
        apply load12_full
        conv => enter [3]; whnf
        apply load13_bare
        conv => enter [3]; whnf
        apply load12_full
        conv => enter [3]; whnf
        apply load13_bare
        exact Runs.ret (F := F)) (by
        simp only [full_def, line_def, stack_def, field_def, push_def, scanned_12, scanned_13, scanned_14, word_def, bare_def, Nat.reduceLeDiff]
        exact rfl) ?_
    refine Runs.bind_as (P' := St c M { scanned X with x19 := (paste 128 (Nat.le_of_ble_eq_true rfl) (page1 X) (paste 0 (Nat.le_of_ble_eq_true rfl) (page0 X) (scanned X).x19)) }) (y := ⟨page1 X, time X.x14 1 (Nat.le_of_ble_eq_true rfl), field (full X.x12) (line X.x13) (page1 X), addf (matmul dot_S128x64_S64x64_S128x64_1_0_0_1_n_n none (push (page1 X) (Scalar.mulf (Scalar.ofBits .f32 0x3F000000#32) (time X.x14 1 (Nat.le_of_ble_eq_true rfl))) (field (full X.x12) (line X.x13) (page1 X))) (full X.x12) (constant S128x64 .f32 0x00000000#32)) (broadcastTo S128x64 (line X.x13) broadcasts_S1x64_S128x64)⟩) (by
        conv => enter [3]; whnf
        apply load12_full
        conv => enter [3]; whnf
        apply load13_bare
        conv => enter [3]; whnf
        apply load19
        conv => enter [3]; whnf
        apply store19_rows 128 (by omega)
        conv => enter [3]; whnf
        apply load14_word 1 (by omega)
        conv => enter [3]; whnf
        apply load12_full
        conv => enter [3]; whnf
        apply load13_bare
        conv => enter [3]; whnf
        apply load12_full
        conv => enter [3]; whnf
        apply load13_bare
        exact Runs.ret (F := F)) (by
        simp only [full_def, line_def, stack_def, field_def, push_def, scanned_12, scanned_13, scanned_14, word_def, bare_def, Nat.reduceLeDiff]
        exact rfl) ?_
    refine Runs.bind_as (P' := St c M { scanned X with x19 := (paste 256 (Nat.le_of_ble_eq_true rfl) (page2 X) (paste 128 (Nat.le_of_ble_eq_true rfl) (page1 X) (paste 0 (Nat.le_of_ble_eq_true rfl) (page0 X) (scanned X).x19))) }) (y := ⟨page2 X, time X.x14 2 (Nat.le_of_ble_eq_true rfl), matmul dot_S128x64_S64x64_S128x64_1_0_0_1_n_n none (page2 X) (full X.x12) (constant S128x64 .f32 0x00000000#32)⟩) (by
        conv => enter [3]; whnf
        apply load12_full
        conv => enter [3]; whnf
        apply load13_bare
        conv => enter [3]; whnf
        apply load12_full
        conv => enter [3]; whnf
        apply load13_bare
        conv => enter [3]; whnf
        apply load19
        conv => enter [3]; whnf
        apply store19_rows 256 (by omega)
        conv => enter [3]; whnf
        apply load14_word 2 (by omega)
        conv => enter [3]; whnf
        apply load12_full
        exact Runs.ret (F := F)) (by
        simp only [full_def, line_def, stack_def, field_def, push_def, scanned_12, scanned_13, scanned_14, word_def, bare_def, Nat.reduceLeDiff]
        exact rfl) ?_
    refine Runs.bind_as (P' := St c M { scanned X with x19 := (paste 256 (Nat.le_of_ble_eq_true rfl) (page2 X) (paste 128 (Nat.le_of_ble_eq_true rfl) (page1 X) (paste 0 (Nat.le_of_ble_eq_true rfl) (page0 X) (scanned X).x19))) }) (y := ⟨field (full X.x12) (line X.x13) (page2 X), slope2 (full X.x12) (line X.x13) (time X.x14 2 (Nat.le_of_ble_eq_true rfl)) (page2 X), slope3 (full X.x12) (line X.x13) (time X.x14 2 (Nat.le_of_ble_eq_true rfl)) (page2 X), slope4 (full X.x12) (line X.x13) (time X.x14 2 (Nat.le_of_ble_eq_true rfl)) (page2 X), Scalar.divf (time X.x14 2 (Nat.le_of_ble_eq_true rfl)) (Scalar.ofBits .f32 0x40C00000#32), broadcast S128x64 (Scalar.ofBits .f32 0x40000000#32)⟩) (by
        conv => enter [3]; whnf
        apply load13_bare
        conv => enter [3]; whnf
        apply load12_full
        conv => enter [3]; whnf
        apply load13_bare
        conv => enter [3]; whnf
        apply load12_full
        conv => enter [3]; whnf
        apply load13_bare
        conv => enter [3]; whnf
        apply load12_full
        conv => enter [3]; whnf
        apply load13_bare
        exact Runs.ret (F := F)) (by
        simp only [full_def, line_def, stack_def, field_def, push_def, scanned_12, scanned_13, scanned_14, word_def, bare_def, Nat.reduceLeDiff]
        exact rfl) ?_
    conv => enter [3]; whnf
    apply load19
    conv => enter [3]; whnf
    apply store19_rows 384 (by omega)
    apply Runs.neg (mt (from_two i).mp (by omega))
    exact Runs.ret (F := F)
  · apply Runs.neg (mt (at_one (i 0)).mp h)
    rw [after, if_neg h]
    apply Runs.neg (mt (from_two i).mp (by omega))
    exact Runs.ret (F := F)

end Cert.FusedIdeal.Base

end
-- ==== Proof.FusedIdeal.Proj.lean ====
/-
  The fused kernel's body at the points of the output blocks.
-/
module

public import proofs.«01_k».proof.Proof.FusedIdeal.Body

@[expose] public section

noncomputable section

namespace Cert.FusedIdeal.Base

open Cert.FusedIdeal Cert.FusedIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {c : Dev nD}

local notation "𝕄" => MT nD τ sig Unit (Elt F) ℕ (UR sig nD τ) ℕ

open Cert.FusedIdeal.Scan

variable {M : Mems} {X : Vals F}

/-- The states of one time, among those of all four. -/
def page (x : Vec F S512x64 .f32) (n : ℕ) (h : n ≤ 384) : FVec F S128x64 .f32 :=
  at_ (Rect.unit (s := S512x64) ![n, 0] S128x64.size (page_in n h)) x

theorem load19_rows {α : Type} {X : Vals F} {s : α} {P' : sProp 𝕄} (n : ℕ) (h : n ≤ 384) {p} {hl : M.a19.view.LoadsAt (Rect.unit (s := S512x64) ![n, 0] S128x64.size p).toLoadRect}
    {k : (Vec F S128x64 .f32) → Prog (TpuEff nD τ sig (Elt F) Λ₀ .tc) α} (hk : Runs c (St c M X) (k (page X.x19 n h)) P' s) :
    Runs c (St c M X) (.op (.load M.a19 (Rect.unit (s := S512x64) ![n, 0] S128x64.size p).toLoadRect hl) k) P' s := load19 hk

theorem sheet_in (n : ℕ) (h : n ≤ 3) : ∀ a, (![n, 0, 0] : Fin 3 → ℕ) a + S1x6144x128.size a ≤ S4x6144x128.size a := by
  intro a; fin_cases a <;> simp [S1x6144x128, S4x6144x128] <;> omega

/-- One time's block of outputs, put among those of all four. -/
def put (n : ℕ) (h : n ≤ 3) (w : FVec F S6144x128 .f32) (x : Vec F S4x6144x128 .f32) : Vec F S4x6144x128 .f32 :=
  over (Rect.unit (s := S4x6144x128) ![n, 0, 0] S1x6144x128.size (sheet_in n h)) (shapeCast S1x6144x128 w shapeCasts_S6144x128_S1x6144x128) x

theorem store17_rows {α : Type} {X : Vals F} {s : α} {P' : sProp 𝕄} (n : ℕ) (h : n ≤ 3) {w : FVec F S6144x128 .f32} {p q} {hx : (M.a17.access (Rect.unit (s := S4x6144x128) ![n, 0, 0] S1x6144x128.size p)).Stores Finset.univ} {hm}
    {k : PUnit → Prog (TpuEff nD τ sig (Elt F) Λ₀ .tc) α} (hk : Runs c (St c M { X with x17 := put n h w X.x17 }) (k ⟨⟩) P' s) :
    Runs c (St c M X) (.op (.store M.a17 (Rect.unit (s := S4x6144x128) ![n, 0, 0] S1x6144x128.size p) (shapeCast S1x6144x128 w q) Finset.univ hx hm) k) P' s := store17 hk

/-- A block of the output weights, and of its bias, as loaded. -/
def wide (x : Vec F S64x6144 .f32) : FVec F S64x6144 .f32 := at_ (Rect.unit (s := S64x6144) ![0, 0] S64x6144.size inb_S64x6144_S64x6144_0_0) x
def strip (x : Vec F S1x6144 .f32) : FVec F S1x6144 .f32 := at_ (Rect.unit (s := S1x6144) ![0, 0] S1x6144.size inb_S1x6144_S1x6144_0_0) x

theorem load15_wide {α : Type} {X : Vals F} {s : α} {P' : sProp 𝕄} {p} {hl : M.a15.view.LoadsAt (Rect.unit (s := S64x6144) ![0, 0] S64x6144.size p).toLoadRect}
    {k : (Vec F S64x6144 .f32) → Prog (TpuEff nD τ sig (Elt F) Λ₀ .tc) α} (hk : Runs c (St c M X) (k (wide X.x15)) P' s) :
    Runs c (St c M X) (.op (.load M.a15 (Rect.unit (s := S64x6144) ![0, 0] S64x6144.size p).toLoadRect hl) k) P' s := load15 hk

theorem load16_strip {α : Type} {X : Vals F} {s : α} {P' : sProp 𝕄} {p} {hl : M.a16.view.LoadsAt (Rect.unit (s := S1x6144) ![0, 0] S1x6144.size p).toLoadRect}
    {k : (Vec F S1x6144 .f32) → Prog (TpuEff nD τ sig (Elt F) Λ₀ .tc) α} (hk : Runs c (St c M X) (k (strip X.x16)) P' s) :
    Runs c (St c M X) (.op (.load M.a16 (Rect.unit (s := S1x6144) ![0, 0] S1x6144.size p).toLoadRect hl) k) P' s := load16 hk

/-- A block of the output weights with its bias, on one time's states. -/
def project (w : Vec F S64x6144 .f32) (b : Vec F S1x6144 .f32) (h : FVec F S128x64 .f32) : FVec F S6144x128 .f32 :=
  addf (matmul dot_S64x6144_S128x64_S6144x128_0_1_1_0_n_n none (wide w) h (constant S6144x128 .f32 0x00000000#32))
    (matmul dot_S1x6144_S128x1_S6144x128_0_1_1_0_n_n none (shapeCast S1x6144 (strip b) shapeCasts_S1x6144_S1x6144)
      (broadcast S128x1 (Scalar.ofBits .f32 0x3F800000#32)) (constant S6144x128 .f32 0x00000000#32))

def projected (X : Vals F) (k : ℕ) (h : k ≤ 384) : FVec F S6144x128 .f32 := project X.x15 X.x16 (page X.x19 k h)
theorem projected_def (X : Vals F) (k : ℕ) (h : k ≤ 384) (r) :
    addf (matmul dot_S64x6144_S128x64_S6144x128_0_1_1_0_n_n none (wide X.x15) (page X.x19 k h) (constant S6144x128 .f32 0x00000000#32))
    (matmul dot_S1x6144_S128x1_S6144x128_0_1_1_0_n_n none (shapeCast S1x6144 (strip X.x16) r)
      (broadcast S128x1 (Scalar.ofBits .f32 0x3F800000#32)) (constant S6144x128 .f32 0x00000000#32)) = projected X k h := rfl

/-- The body's effect at a later point. -/
def project_after (X : Vals F) : Vals F :=
  { X with x17 := (put 3 (by omega) (projected X 384 (by omega)) (put 2 (by omega) (projected X 256 (by omega)) (put 1 (by omega) (projected X 128 (by omega)) (put 0 (by omega) (projected X 0 (by omega)) X.x17)))) }

set_option maxHeartbeats 4000000 in
theorem body_proj (i : grid0.Coords) (hi : 2 ≤ (i 0).val) : Runs (F := F) c (St c M X) (cc0__fused_body i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19) (St c M (project_after X)) PUnit.unit := by
  unfold cc0__fused_body
  apply Runs.neg (mt (at_zero (i 0)).mp (by omega))
  apply Runs.neg (mt (below_two (i 0)).mp (by omega))
  apply Runs.pos ((from_two i).mpr hi)
  refine Runs.bind_as (P' := St c M { X with x17 := (put 2 (Nat.le_of_ble_eq_true rfl) (projected X 256 (Nat.le_of_ble_eq_true rfl)) (put 1 (Nat.le_of_ble_eq_true rfl) (projected X 128 (Nat.le_of_ble_eq_true rfl)) (put 0 (Nat.le_of_ble_eq_true rfl) (projected X 0 (Nat.le_of_ble_eq_true rfl)) X.x17))) }) (y := ⟨projected X 384 (Nat.le_of_ble_eq_true rfl), at_ (Rect.unit (s := S4x6144x128) ![3, 0, 0] S1x6144x128.size inb_S4x6144x128_S1x6144x128_3_0_0) (put 2 (Nat.le_of_ble_eq_true rfl) (projected X 256 (Nat.le_of_ble_eq_true rfl)) (put 1 (Nat.le_of_ble_eq_true rfl) (projected X 128 (Nat.le_of_ble_eq_true rfl)) (put 0 (Nat.le_of_ble_eq_true rfl) (projected X 0 (Nat.le_of_ble_eq_true rfl)) X.x17)))⟩) (by
    conv => enter [3]; whnf
    apply load15_wide
    conv => enter [3]; whnf
    apply load16_strip
    conv => enter [3]; whnf
    apply load19_rows 0 (by omega)
    conv => enter [3]; whnf
    apply load17
    conv => enter [3]; whnf
    apply store17_rows 0 (by omega)
    conv => enter [2]; simp only [projected_def]
    conv => enter [3]; whnf
    apply load19_rows 128 (by omega)
    conv => enter [3]; whnf
    apply load17
    conv => enter [3]; whnf
    apply store17_rows 1 (by omega)
    conv => enter [2]; simp only [projected_def]
    conv => enter [3]; whnf
    apply load19_rows 256 (by omega)
    conv => enter [3]; whnf
    apply load17
    conv => enter [3]; whnf
    apply store17_rows 2 (by omega)
    conv => enter [2]; simp only [projected_def]
    conv => enter [3]; whnf
    apply load19_rows 384 (by omega)
    conv => enter [3]; whnf
    apply load17
    exact Runs.ret (F := F)) (by
    simp only [projected_def]) ?_

  conv => enter [3]; whnf
  apply store17_rows 3 (by omega)
  unfold project_after
  dsimp only
  exact Runs.ret (F := F)

end Cert.FusedIdeal.Base

end
-- ==== Proof.FusedIdeal.Region.lean ====
/-
  The one TensorCore call of `FusedIdeal`, from the region's entry to the end of the program: at every point of its grid the
  body terminates with its buffers whole again, so the program runs to its end, leaves its arguments as they were and
  ends with every semaphore at zero. What the call leaves in the windows is not named here.
-/
module

public import proofs.«01_k».proof.Proof.FusedIdeal.Body
public import proofs.«01_k».proof.Proof.FusedIdeal.Proj
public import proofs.«01_k».proof.Proof.Gen.FusedIdeal.Frame
public import proofs.«01_k».proof.Proof.Gen.FusedIdeal.Points

@[expose] public section

set_option maxRecDepth 16384

noncomputable section

namespace Cert.FusedIdeal.Base

open Cert.FusedIdeal Cert.FusedIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ (UR sig nD τ) ℕ

/-- The buffers the body is called with at point `t`. -/
def mems (t : Fin cfg0.N) : Mems :=
  { a1 := win0_0.stage (cfg0.slots t 0), h1 := hstage0_0 ((cfg0.slots t 0).cast nbuf0_0),
    a2 := win0_1.stage (cfg0.slots t 1), h2 := hstage0_1 ((cfg0.slots t 1).cast nbuf0_1),
    a3 := win0_2.stage (cfg0.slots t 2), h3 := hstage0_2 ((cfg0.slots t 2).cast nbuf0_2),
    a4 := win0_3.stage (cfg0.slots t 3), h4 := hstage0_3 ((cfg0.slots t 3).cast nbuf0_3),
    a5 := win0_4.stage (cfg0.slots t 4), h5 := hstage0_4 ((cfg0.slots t 4).cast nbuf0_4),
    a6 := win0_5.stage (cfg0.slots t 5), h6 := hstage0_5 ((cfg0.slots t 5).cast nbuf0_5),
    a7 := win0_6.stage (cfg0.slots t 6), h7 := hstage0_6 ((cfg0.slots t 6).cast nbuf0_6),
    a8 := win0_7.stage (cfg0.slots t 7), h8 := hstage0_7 ((cfg0.slots t 7).cast nbuf0_7),
    a9 := win0_8.stage (cfg0.slots t 8), h9 := hstage0_8 ((cfg0.slots t 8).cast nbuf0_8),
    a10 := win0_9.stage (cfg0.slots t 9), h10 := hstage0_9 ((cfg0.slots t 9).cast nbuf0_9),
    a11 := win0_10.stage (cfg0.slots t 10), h11 := hstage0_10 ((cfg0.slots t 10).cast nbuf0_10),
    a12 := win0_11.stage (cfg0.slots t 11), h12 := hstage0_11 ((cfg0.slots t 11).cast nbuf0_11),
    a13 := win0_12.stage (cfg0.slots t 12), h13 := hstage0_12 ((cfg0.slots t 12).cast nbuf0_12),
    a14 := win0_13.stage (cfg0.slots t 13), h14 := hstage0_13 ((cfg0.slots t 13).cast nbuf0_13),
    a15 := win0_14.stage (cfg0.slots t 14), h15 := hstage0_14 ((cfg0.slots t 14).cast nbuf0_14),
    a16 := win0_15.stage (cfg0.slots t 15), h16 := hstage0_15 ((cfg0.slots t 15).cast nbuf0_15),
    a17 := win0_16.stage (cfg0.slots t 16), h17 := hstage0_16 ((cfg0.slots t 16).cast nbuf0_16),
    a18 := Memref.whole cc0_scratch0, h18 := Memref.isWhole_whole _, a19 := Memref.whole cc0_scratch1, h19 := Memref.isWhole_whole _ }

/-- What the buffers hold after the body at grid coordinates `i`, from what they held before. -/
def next (i : grid0.Coords) (X : Vals F) : Vals F :=
  if (i 0).val < 2 then after i (init i X) else project_after X

theorem body_run (c : Dev nD) (t : Fin cfg0.N) (X : Vals F) :
    Runs c (St c (mems t) X) (bodyAt0 t) (St c (mems t) (next (grid0.coords t) X)) PUnit.unit := by
  unfold next
  split
  · rename_i h
    exact body_scan (M := mems t) (grid0.coords t) h
  · rename_i h
    exact body_proj (M := mems t) (grid0.coords t) (Nat.le_of_not_lt h)

/-- The body table's row at point `t`'s slots is the body as `bodyAt0` spells it. -/
theorem defs₀_row (t : Fin cfg0.N) : (defs₀ (F := F)) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- Every window is forgotten. -/
def forgets : Fin 17 → Bool := fun _ => true

def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d))

theorem sound_body (c : Dev nD) (t : Fin cfg0.N) :
    bodyPre m c t ⊢ wp frame (wpE (defs₀ (F := F)) Variants.none c none) Set.univ (bodyAt0 t) (fun _ => bodyPre m c t) := by
  have hs : (dats m 0 c).Φ t.castSucc = iprop(((∃ f, owns (c : Thread nD τ) (Memref.whole cc0_scratch0) fullShare f)
      ∗ (∃ f, owns (c : Thread nD τ) (Memref.whole cc0_scratch1) fullShare f)) ∗ ∃ r, prngReg c r) := by
    show Pipeline.ΦA spec0 c = _
    unfold Pipeline.ΦA
    rw [scopedRest0_eq]
    simp only [owns_whole]
  unfold bodyPre
  rw [hs]
  iintro ⟨⟨⟨⟨%d17, H17⟩, ⟨%d18, H18⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((body_run c t ⟨d0, d1, d2, d3, d4, d5, d6, d7, d8, d9, d10, d11, d12, d13, d14, d15, d16, d17, d18⟩).run Set.univ _)
  isplitl [H0 H1 H2 H3 H4 H5 H6 H7 H8 H9 H10 H11 H12 H13 H14 H15 H16 H17 H18]
  · unfold St owned mems
    simp only [sepAll]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iempintro
  iintro H
  unfold St owned mems
  simp only [sepAll]
  icases H with ⟨H0, H1, H2, H3, H4, H5, H6, H7, H8, H9, H10, H11, H12, H13, H14, H15, H16, H17, H18, -⟩
  isplitl [H17 H18 Hr]
  · isplitl [H17 H18]
    · isplitl [H17]
      · iexists _; iexact H17
      · iexists _; iexact H18
    iexact Hr
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- Every weakly fair execution of the program terminates, with every input window's array and every buffer that is no
    window's at its contents at the region's entry, and every semaphore at zero. -/
theorem run_main : θ_run (defs (F := F)) (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME of `FusedIdeal`, at any values. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ ⟨h, hz⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 11 rfl).trans ((A_eq m c 11).trans (V_main_arg6 m c)),
      ((h c).2 main_arg7 (Pipeline.mem_restRefs_of main_arg7 (by decide) (by decide))).trans (V_main_arg7 m c),
      (Pipeline.RDat.FramePost.arr_in h c 14 rfl).trans ((A_eq m c 14).trans (V_main_arg8 m c)),
      ((h c).2 main_arg9 (Pipeline.mem_restRefs_of main_arg9 (by decide) (by decide))).trans (V_main_arg9 m c)⟩, hz⟩) (run_main m ρ)

end Cert.FusedIdeal.Base

end
-- ==== Proof.FusedReference.Stretch.lean ====
/-
  The operations of `FusedReferenceIdeal` after its loop, in four parts: the solver's three steps, and the projection.
  What each part leaves, and that no part writes an argument.
-/
module

public import proofs.«01_k».proof.Proof.Gen.FusedReferenceIdeal.Run
public import Idealize.ShloMosaic.Lib.StableHlo.RunClose
public import Idealize.ShloMosaic.Lib.ValueIdx
public import Idealize.ShloMosaic.Lib.MatmulPlain
public import Idealize.ShloMosaic.Lib.Pipeline.Value

@[expose] public section

set_option maxRecDepth 16384

noncomputable section

namespace Cert.FusedReferenceIdeal.Stretch

open Cert.FusedReferenceIdeal Cert.FusedReferenceIdeal.Gen Cert.FusedReferenceIdeal.Value
open Idealize.ShloMosaic Idealize.ShloMosaic.TcCoe Idealize.ShloMosaic.ValueIdx
open Idealize.ShloMosaic.StableHlo

variable {F : FTy → Type} [FloatOps F]

/-! ## The parts -/

/-- The first step of the solver. -/
abbrev stepOps0 : List (HloOp τ sig (Elt F)) := hostOps0_3.take 49
/-- The second step. -/
abbrev stepOps1 : List (HloOp τ sig (Elt F)) := (hostOps0_3.drop 49).take 49
/-- The third step. -/
abbrev stepOps2 : List (HloOp τ sig (Elt F)) := (hostOps0_3.drop 98).take 49
/-- The projection. -/
abbrev lastOps : List (HloOp τ sig (Elt F)) := hostOps0_3.drop 147

theorem parts : (hostOps0_3 : List (HloOp τ sig (Elt F))) = stepOps0 ++ (stepOps1 ++ (stepOps2 ++ lastOps)) := rfl

/-- What the operations after the loop write, in order. -/
abbrev postW : List (Ref sig .tc) :=
  [main_v13, main_v14, main_v15, main_v16, main_v17, main_v18, main_v19, main_cst_1, main_v20, main_v21, main_v22, main_v23, main_v24, main_v25,
   main_v26, main_v27, main_v28, main_cst_2, main_v29, main_v30, main_v31, main_v32, main_v33, main_v34, main_v35, main_v36, main_v37, main_v38,
   main_v39, main_v40, main_v41, main_v42, main_v43, main_v44, main_v45, main_cst_3, main_v46, main_cst_4, main_v47, main_v48, main_v49, main_cst_5,
   main_v50, main_v51, main_v52, main_v53, main_v54, main_v55, main_v56, main_v57, main_v58, main_v59, main_v60, main_v61, main_v62, main_v63,
   main_cst_6, main_v64, main_v65, main_v66, main_v67, main_v68, main_v69, main_v70, main_v71, main_v72, main_cst_7, main_v73, main_v74, main_v75,
   main_v76, main_v77, main_v78, main_v79, main_v80, main_v81, main_v82, main_v83, main_v84, main_v85, main_v86, main_v87, main_v88, main_v89,
   main_cst_8, main_v90, main_cst_9, main_v91, main_v92, main_v93, main_cst_10, main_v94, main_v95, main_v96, main_v97, main_v98, main_v99, main_v100,
   main_v101, main_v102, main_v103, main_v104, main_v105, main_v106, main_v107, main_cst_11, main_v108, main_v109, main_v110, main_v111, main_v112,
   main_v113, main_v114, main_v115, main_v116, main_cst_12, main_v117, main_v118, main_v119, main_v120, main_v121, main_v122, main_v123, main_v124,
   main_v125, main_v126, main_v127, main_v128, main_v129, main_v130, main_v131, main_v132, main_v133, main_cst_13, main_v134, main_cst_14, main_v135,
   main_v136, main_v137, main_cst_15, main_v138, main_v139, main_v140, main_v141, main_v142, main_v143, main_v144, main_v145, main_v146, main_v147,
   main_v148, main_v149, main_v150, main_v151, main_v152, main_v153, main_v154]

theorem writes : (hostOps0_3 : List (HloOp τ sig (Elt F))).Forall fun op => op.writes ⊆ (postW.map (Proc.devRef (τ := τ) .tc)).toFinset :=
  forall_writes_sub_of_map rfl
theorem writes0 : (stepOps0 : List (HloOp τ sig (Elt F))).Forall fun op => op.writes ⊆ ((postW.take 49).map (Proc.devRef (τ := τ) .tc)).toFinset :=
  forall_writes_sub_of_map rfl
theorem writes1 : (stepOps1 : List (HloOp τ sig (Elt F))).Forall fun op => op.writes ⊆ (((postW.drop 49).take 49).map (Proc.devRef (τ := τ) .tc)).toFinset :=
  forall_writes_sub_of_map rfl
theorem writes2 : (stepOps2 : List (HloOp τ sig (Elt F))).Forall fun op => op.writes ⊆ (((postW.drop 98).take 49).map (Proc.devRef (τ := τ) .tc)).toFinset :=
  forall_writes_sub_of_map rfl

theorem keep0 (X : Valuation τ sig (Elt F)) (r : Ref sig .tc) (h : r ∉ postW.take 49) : after stepOps0 X (Proc.devRef .tc r) = X (Proc.devRef .tc r) :=
  after_of_writes_sub stepOps0 _ writes0 h
theorem keep1 (X : Valuation τ sig (Elt F)) (r : Ref sig .tc) (h : r ∉ (postW.drop 49).take 49) : after stepOps1 X (Proc.devRef .tc r) = X (Proc.devRef .tc r) :=
  after_of_writes_sub stepOps1 _ writes1 h
theorem keep2 (X : Valuation τ sig (Elt F)) (r : Ref sig .tc) (h : r ∉ (postW.drop 98).take 49) : after stepOps2 X (Proc.devRef .tc r) = X (Proc.devRef .tc r) :=
  after_of_writes_sub stepOps2 _ writes2 h

/-! ## One step of the solver as the reference writes it -/

/-- The vector field on all rows. -/
def fieldT (w : FVec F S64x64 .f32) (b : FVec F S64 .f32) (h : FVec F S128x64 .f32) : FVec F S128x64 .f32 :=
  Host.tanh (addf (Host.dotGeneral dot_S128x64_S64x64_S128x64_1_0_0_1_n_n none h w)
    (broadcastInDim S128x64 ![0, 1] bcast_S1x64_S128x64_0_1 (broadcastInDim S1x64 ![1] bcast_S64_S1x64_1 b)))

/-- A number at every entry. -/
def everywhere (d : FVec F S_ .f32) : FVec F S128x64 .f32 := broadcastInDim S128x64 ![] bcast_S_S128x64 d

/-- The rows half a step along a slope. -/
def halfway (d : FVec F S_ .f32) (h k : FVec F S128x64 .f32) : FVec F S128x64 .f32 :=
  addf h (mulf (everywhere (mulf (constant S_ .f32 0x3F000000#32) d)) k)

/-- The rows a whole step along a slope. -/
def along (d : FVec F S_ .f32) (h k : FVec F S128x64 .f32) : FVec F S128x64 .f32 := addf h (mulf (everywhere d) k)

/-- The four slopes. -/
def slope2 (w : FVec F S64x64 .f32) (b : FVec F S64 .f32) (d : FVec F S_ .f32) (h : FVec F S128x64 .f32) : FVec F S128x64 .f32 :=
  fieldT w b (halfway d h (fieldT w b h))
def slope3 (w : FVec F S64x64 .f32) (b : FVec F S64 .f32) (d : FVec F S_ .f32) (h : FVec F S128x64 .f32) : FVec F S128x64 .f32 :=
  fieldT w b (halfway d h (slope2 w b d h))
def slope4 (w : FVec F S64x64 .f32) (b : FVec F S64 .f32) (d : FVec F S_ .f32) (h : FVec F S128x64 .f32) : FVec F S128x64 .f32 :=
  fieldT w b (along d h (slope3 w b d h))

/-- The step. -/
def stepT (w : FVec F S64x64 .f32) (b : FVec F S64 .f32) (d : FVec F S_ .f32) (h : FVec F S128x64 .f32) : FVec F S128x64 .f32 :=
  addf h (mulf (everywhere (Host.divf d (constant S_ .f32 0x40C00000#32)))
    (addf (addf (addf (fieldT w b h) (mulf (everywhere (constant S_ .f32 0x40000000#32)) (slope2 w b d h)))
      (mulf (everywhere (constant S_ .f32 0x40000000#32)) (slope3 w b d h))) (slope4 w b d h)))

/-- The outputs from the rows at the four times. -/
def outT (h0 h1 h2 h3 : FVec F S128x64 .f32) (wo : FVec F S64x100000 .f32) (bo : FVec F S100000 .f32) : FVec F S4x100000x128 .f32 :=
  transpose S4x100000x128 [0, 2, 1] (addf (Host.dotGeneral dot_S4x128x64_S64x100000_S4x128x100000_2_0_01_1_n_n none
    (concatenate S4x128x64 0 [⟨S1x128x64, broadcastInDim S1x128x64 ![1, 2] bcast_S128x64_S1x128x64_1_2 h0⟩, ⟨S1x128x64, broadcastInDim S1x128x64 ![1, 2] bcast_S128x64_S1x128x64_1_2 h1⟩, ⟨S1x128x64, broadcastInDim S1x128x64 ![1, 2] bcast_S128x64_S1x128x64_1_2 h2⟩, ⟨S1x128x64, broadcastInDim S1x128x64 ![1, 2] bcast_S128x64_S1x128x64_1_2 h3⟩]
      concatenates_S1x128x64_S1x128x64_S1x128x64_S1x128x64_S4x128x64_d0) wo)
    (broadcastInDim S4x128x100000 ![0, 1, 2] bcast_S1x1x100000_S4x128x100000_0_1_2 (broadcastInDim S1x1x100000 ![2] bcast_S100000_S1x1x100000_2 bo)))
    transposes_S4x128x100000_S4x100000x128_0_2_1

variable (X : Valuation τ sig (Elt F))

set_option maxHeartbeats 4000000 in
theorem left0 : after stepOps0 X (Proc.devRef .tc main_v56) = stepT (X (Proc.devRef .tc main_arg6)) (X (Proc.devRef .tc main_arg7))
    (shapeCast S_ (extractStridedSlice S1 ![0] (X (Proc.devRef .tc main_v10)) slices_S3_S1_0) shapeCasts_S1_S_) (X (Proc.devRef .tc main_v12_5)) := by
  simp only [stepOps0, hostOps0_3, List.take_succ_cons, List.take_zero]
  after_results_entrywise []

set_option maxHeartbeats 4000000 in
theorem left1 : after stepOps1 X (Proc.devRef .tc main_v100) = stepT (X (Proc.devRef .tc main_arg6)) (X (Proc.devRef .tc main_arg7))
    (shapeCast S_ (extractStridedSlice S1 ![1] (X (Proc.devRef .tc main_v10)) slices_S3_S1_1) shapeCasts_S1_S_) (X (Proc.devRef .tc main_v56)) := by
  simp only [stepOps1, hostOps0_3, List.take_succ_cons, List.take_zero, List.drop_succ_cons, List.drop_zero]
  after_results_entrywise []

set_option maxHeartbeats 4000000 in
theorem left2 : after stepOps2 X (Proc.devRef .tc main_v144) = stepT (X (Proc.devRef .tc main_arg6)) (X (Proc.devRef .tc main_arg7))
    (shapeCast S_ (extractStridedSlice S1 ![2] (X (Proc.devRef .tc main_v10)) slices_S3_S1_2) shapeCasts_S1_S_) (X (Proc.devRef .tc main_v100)) := by
  simp only [stepOps2, hostOps0_3, List.take_succ_cons, List.take_zero, List.drop_succ_cons, List.drop_zero]
  after_results_entrywise []

set_option maxHeartbeats 4000000 in
theorem leftLast : after lastOps X (Proc.devRef .tc main_v154) = outT (X (Proc.devRef .tc main_v12_5)) (X (Proc.devRef .tc main_v56))
    (X (Proc.devRef .tc main_v100)) (X (Proc.devRef .tc main_v144)) (X (Proc.devRef .tc main_arg8)) (X (Proc.devRef .tc main_arg9)) := by
  simp only [lastOps, hostOps0_3, List.drop_succ_cons, List.drop_zero]
  after_results_entrywise (rounds := 1) []

/-- The step's length, of the three. -/
def lengthOf (dts : FVec F S3 .f32) (k : Fin 3) : FVec F S_ .f32 := fun _ => dts (ix1 k)

theorem length0 (dts : FVec F S3 .f32) : shapeCast S_ (extractStridedSlice S1 ![0] dts slices_S3_S1_0) shapeCasts_S1_S_ = lengthOf dts 0 := by
  funext y
  exact congrArg dts (funext fun a => Fin.ext (by fin_cases a; exact congrArg (0 + ·) (Nat.lt_one_iff.1 (Fin.isLt _))))
theorem length1 (dts : FVec F S3 .f32) : shapeCast S_ (extractStridedSlice S1 ![1] dts slices_S3_S1_1) shapeCasts_S1_S_ = lengthOf dts 1 := by
  funext y
  exact congrArg dts (funext fun a => Fin.ext (by fin_cases a; exact congrArg (1 + ·) (Nat.lt_one_iff.1 (Fin.isLt _))))
theorem length2 (dts : FVec F S3 .f32) : shapeCast S_ (extractStridedSlice S1 ![2] dts slices_S3_S1_2) shapeCasts_S1_S_ = lengthOf dts 2 := by
  funext y
  exact congrArg dts (funext fun a => Fin.ext (by fin_cases a; exact congrArg (2 + ·) (Nat.lt_one_iff.1 (Fin.isLt _))))

/-- What the operations after the loop leave at the result. -/
theorem result : after hostOps0_3 X (Proc.devRef .tc main_v154) =
    (let w : FVec F S64x64 .f32 := X (Proc.devRef .tc main_arg6)
     let b : FVec F S64 .f32 := X (Proc.devRef .tc main_arg7)
     let d : FVec F S3 .f32 := X (Proc.devRef .tc main_v10)
     let h0 : FVec F S128x64 .f32 := X (Proc.devRef .tc main_v12_5)
     let h1 := stepT w b (lengthOf d 0) h0
     let h2 := stepT w b (lengthOf d 1) h1
     let h3 := stepT w b (lengthOf d 2) h2
     outT h0 h1 h2 h3 (X (Proc.devRef .tc main_arg8)) (X (Proc.devRef .tc main_arg9))) := by
  dsimp only
  rw [parts, after_append, after_append, after_append, leftLast, left2, keep2 _ main_v100 (by decide), keep2 _ main_v56 (by decide),
    keep2 _ main_v12_5 (by decide), keep2 _ main_arg8 (by decide), keep2 _ main_arg9 (by decide), left1,
    keep1 _ main_v56 (by decide), keep1 _ main_v12_5 (by decide), keep1 _ main_arg6 (by decide), keep1 _ main_arg7 (by decide),
    keep1 _ main_arg8 (by decide), keep1 _ main_arg9 (by decide), keep1 _ main_v10 (by decide), left0,
    keep0 _ main_v12_5 (by decide), keep0 _ main_arg6 (by decide), keep0 _ main_arg7 (by decide),
    keep0 _ main_arg8 (by decide), keep0 _ main_arg9 (by decide), keep0 _ main_v10 (by decide), length0, length1, length2]

/-! ## What the loop starts from, and what no operation changes -/

section Whole

variable (m : (ℓ : Loc nD τ sig) → Buf (Elt F) ℓ) (c : Dev nD)

/-- A buffer that neither the loop nor the operations before it write keeps its contents to the loop's end. -/
theorem atTrip_keep (r : Ref sig .tc) (h0 : r ∉ hostOps0_W) (h1 : r ∉ hostOps0_1_W) (h2 : r ∉ hostOps0_2_W) (hc : r ∉ condOps_W)
    (hb : r ∉ while0Ops0_W) (hb' : r ∉ while0Ops0_1_W) : ∀ k, atK m k c (Proc.devRef .tc r) = launchContents m c (Proc.devRef .tc r)
  | 0 => by
    show after hostOps0_2 (after hostOps0_1 (after hostOps0 (launchContents m c))) (Proc.devRef .tc r) = _
    rw [after_of_writes_sub hostOps0_2 _ hostOps0_2_writes h2, after_of_writes_sub hostOps0_1 _ hostOps0_1_writes h1,
      after_of_writes_sub hostOps0 _ hostOps0_writes h0]
  | k + 1 => by
    show after while0Ops0_1 (after while0Ops0 (after condOps (atK m k c))) (Proc.devRef .tc r) = _
    rw [after_of_writes_sub while0Ops0_1 _ while0Ops0_1_writes hb', after_of_writes_sub while0Ops0 _ while0Ops0_writes hb,
      after_of_writes_sub condOps _ condOps_writes hc]
    exact atTrip_keep r h0 h1 h2 hc hb hb' k

/-- A buffer no operation of the program writes keeps its contents to the end. -/
theorem final_keep (r : Ref sig .tc) (h0 : r ∉ hostOps0_W) (h1 : r ∉ hostOps0_1_W) (h2 : r ∉ hostOps0_2_W) (hc : r ∉ condOps_W)
    (hb : r ∉ while0Ops0_W) (hb' : r ∉ while0Ops0_1_W) (hp : r ∉ postW) :
    finalContents condOps preI bodyI postI 200 m c (Proc.devRef .tc r) = m ((c.tc : Thread nD τ).loc r) := by
  show after hostOps0_3 (after condOps (atK m 200 c)) (Proc.devRef .tc r) = _
  rw [after_of_writes_sub hostOps0_3 _ writes hp, after_of_writes_sub condOps _ condOps_writes hc]
  exact atTrip_keep m c r h0 h1 h2 hc hb hb' 200

/-- The inputs of all rows at all times. -/
def inputs (x0 : IVec S128x200 32) (x2 : FVec F S25600x128 .f32) : FVec F S200x128x64 .f32 :=
  select (broadcastInDim S200x128x64 ![0, 1, 2] bcast_S200x128x1_S200x128x64_0_1_2 (broadcastInDim S200x128x1 ![0, 1] bcast_S200x128_S200x128x1_0_1
      (transpose S200x128 [1, 0] (cmpi .sge x0 (broadcastInDim S128x200 ![] bcast_S_S128x200 (constantI S_ 32 50000#32))) transposes_S128x200_S200x128_1_0)))
    (extractStridedSlice S200x128x64 ![0, 0, 64] (shapeCast S200x128x128 x2 shapeCasts_S25600x128_S200x128x128) slices_S200x128x128_S200x128x64_0_0_64)
    (extractStridedSlice S200x128x64 ![0, 0, 0] (shapeCast S200x128x128 x2 shapeCasts_S25600x128_S200x128x128) slices_S200x128x128_S200x128x64_0_0_0)

variable (Y : Valuation τ sig (Elt F))

theorem entry_inputs : afterL preI Y (Proc.devRef .tc main_v12_0) = inputs (Y (Proc.devRef .tc main_arg0)) (Y (Proc.devRef .tc main_arg2)) := by
  simp only [preI, afterL_cons, afterL_nil, hostOps0, hostOps0_1, hostOps0_2]
  after_results_entrywise []
theorem entry_wx : afterL preI Y (Proc.devRef .tc main_v12_1) = Y (Proc.devRef .tc main_arg3) := by
  simp only [preI, afterL_cons, afterL_nil, hostOps0, hostOps0_1, hostOps0_2]
  after_results_entrywise []
theorem entry_b : afterL preI Y (Proc.devRef .tc main_v12_2) = Y (Proc.devRef .tc main_arg5) := by
  simp only [preI, afterL_cons, afterL_nil, hostOps0, hostOps0_1, hostOps0_2]
  after_results_entrywise []
theorem entry_wh : afterL preI Y (Proc.devRef .tc main_v12_3) = Y (Proc.devRef .tc main_arg4) := by
  simp only [preI, afterL_cons, afterL_nil, hostOps0, hostOps0_1, hostOps0_2]
  after_results_entrywise []
theorem entry_state : afterL preI Y (Proc.devRef .tc main_v12_5) = broadcastInDim S128x64 ![] bcast_S_S128x64 (constant S_ .f32 0x00000000#32) := by
  simp only [preI, afterL_cons, afterL_nil, hostOps0, hostOps0_1, hostOps0_2]
  after_results_entrywise []
theorem entry_lengths : afterL preI Y (Proc.devRef .tc main_v10) =
    subf (extractStridedSlice S3 ![1] (Y (Proc.devRef .tc main_arg1)) slices_S4_S3_1) (extractStridedSlice S3 ![0] (Y (Proc.devRef .tc main_arg1)) slices_S4_S3_0) := by
  simp only [preI, afterL_cons, afterL_nil, hostOps0, hostOps0_1, hostOps0_2]
  after_results_entrywise []

end Whole

end Cert.FusedReferenceIdeal.Stretch

end
-- ==== Proof.FusedIdeal.Model.lean ====
/-
  The mathematics of the recurrence on extended reals, one row of the batch at a time: the two ways of writing the
  logistic function, the update, and the choice between two candidates; and the recurrence itself.
-/
module

public import Idealize.ShloMosaic.PureOps.Ideal.Laws

@[expose] public section

noncomputable section

namespace Cert.FusedIdeal.Model

open Idealize.ShloMosaic

/-- The logistic function as the reference writes it. -/
def sigm (u : EReal) : EReal := Ideal.div 1 (1 + Ideal.exp (-u))

theorem one_word : Ideal.ofBits .f32 0x3F800000#32 = (1 : EReal) := by
  simp only [Ideal.ofBits, Ideal.ieee]
  simp
  rw [← EReal.coe_one, ← EReal.coe_mul, EReal.coe_eq_coe_iff]; norm_num

theorem half_word : Ideal.ofBits .f32 0x3F000000#32 = ((1 / 2 : ℝ) : EReal) := by
  simp only [Ideal.ofBits, Ideal.ieee]
  simp
  rw [← EReal.coe_mul, EReal.coe_eq_coe_iff]; norm_num

theorem sigm_coe (r : ℝ) : sigm (r : EReal) = ((1 / (1 + Real.exp (-r)) : ℝ) : EReal) := by
  have h : (1 : EReal) + Ideal.exp (-(r : EReal)) = ((1 + Real.exp (-r) : ℝ) : EReal) := by
    rw [← EReal.coe_neg]; show (1 : EReal) + ((Real.exp (-r) : ℝ) : EReal) = _; push_cast; rfl
  unfold sigm
  rw [h]
  unfold Ideal.div
  have h0 : (1 + Real.exp (-r) : ℝ) ≠ 0 := by positivity
  rw [if_neg (by exact_mod_cast h0), ← EReal.coe_inv, one_mul, one_div]

theorem sigm_top : sigm ⊤ = 1 := by
  unfold sigm
  rw [EReal.neg_top]
  show Ideal.div 1 (1 + 0) = 1
  rw [add_zero]; unfold Ideal.div
  rw [if_neg one_ne_zero]
  rw [one_mul, ← EReal.coe_one, ← EReal.coe_inv, inv_one]

theorem sigm_bot : sigm ⊥ = 0 := by
  unfold sigm
  rw [EReal.neg_bot]
  show Ideal.div 1 (1 + ⊤) = 0
  rw [EReal.add_top_of_ne_bot (by rw [← EReal.coe_one]; exact EReal.coe_ne_bot 1)]
  unfold Ideal.div
  rw [if_neg (by simp), EReal.inv_top, mul_zero]

/-- A real number, as an extended one. -/
def Fin' (x : EReal) : Prop := ∃ r : ℝ, x = (r : EReal)

theorem sigm_fin (u : EReal) : Fin' (sigm u) := by
  induction u using EReal.rec with
  | bot => exact ⟨0, by rw [sigm_bot]; rfl⟩
  | top => exact ⟨1, by rw [sigm_top]; rfl⟩
  | coe r => exact ⟨_, sigm_coe r⟩

theorem tanh_fin (u : EReal) : Fin' (Ideal.tanh u) := by
  induction u using EReal.rec with
  | bot => exact ⟨-1, by simp⟩
  | top => exact ⟨1, by simp⟩
  | coe r => exact ⟨_, rfl⟩

/-- The logistic function through the hyperbolic tangent. -/
theorem squash_eq (u : EReal) : ((1 / 2 : ℝ) : EReal) * Ideal.tanh (((1 / 2 : ℝ) : EReal) * u) + ((1 / 2 : ℝ) : EReal) = sigm u := by
  induction u using EReal.rec with
  | bot =>
    rw [EReal.coe_mul_bot_of_pos (by norm_num), sigm_bot]
    show ((1 / 2 : ℝ) : EReal) * ((-1 : ℝ) : EReal) + ((1 / 2 : ℝ) : EReal) = 0
    rw [← EReal.coe_mul, ← EReal.coe_add, ← EReal.coe_zero]; norm_num
  | top =>
    rw [EReal.coe_mul_top_of_pos (by norm_num), sigm_top]
    show ((1 / 2 : ℝ) : EReal) * ((1 : ℝ) : EReal) + ((1 / 2 : ℝ) : EReal) = 1
    rw [← EReal.coe_mul, ← EReal.coe_add, ← EReal.coe_one]; norm_num
  | coe r =>
    rw [sigm_coe, ← EReal.coe_mul]
    show ((1 / 2 : ℝ) : EReal) * ((Real.tanh (1 / 2 * r) : ℝ) : EReal) + ((1 / 2 : ℝ) : EReal) = _
    rw [← EReal.coe_mul, ← EReal.coe_add, EReal.coe_eq_coe_iff, Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    have hp := Real.exp_pos (1 / 2 * r)
    have hq := Real.exp_pos (-(1 / 2 * r))
    generalize Real.exp (1 / 2 * r) = p at *
    generalize Real.exp (-(1 / 2 * r)) = q at *
    have h1 : p + q ≠ 0 := by positivity
    have h2 : 1 + q * q ≠ 0 := by positivity
    have e3 : 1 / 2 * ((p - q) / 2 / ((p + q) / 2)) + 1 / 2 = p / (p + q) := by field_simp; ring
    rw [e3, div_eq_div_iff h1 h2]
    linear_combination q * e2

/-- The update of a state, in its two forms. -/
theorem blend_eq {h z n : EReal} (hh : Fin' h) (hz : Fin' z) (hn : Fin' n) : h + z * (n - h) = (1 - z) * h + z * n := by
  obtain ⟨a, rfl⟩ := hh; obtain ⟨b, rfl⟩ := hz; obtain ⟨c, rfl⟩ := hn
  rw [← EReal.coe_sub, ← EReal.coe_mul, ← EReal.coe_add, ← EReal.coe_one, ← EReal.coe_sub, ← EReal.coe_mul, ← EReal.coe_mul,
    ← EReal.coe_add, EReal.coe_eq_coe_iff]
  ring

theorem blend_fin {h z n : EReal} (hh : Fin' h) (hz : Fin' z) (hn : Fin' n) : Fin' ((1 - z) * h + z * n) := by
  obtain ⟨a, rfl⟩ := hh; obtain ⟨b, rfl⟩ := hz; obtain ⟨c, rfl⟩ := hn
  exact ⟨(1 - b) * a + b * c, by push_cast; rfl⟩

theorem choose_right {a b : EReal} (ha : Fin' a) (hb : Fin' b) : a + 1 * (b - a) = b := by
  obtain ⟨x, rfl⟩ := ha; obtain ⟨y, rfl⟩ := hb
  rw [one_mul, ← EReal.coe_sub, ← EReal.coe_add, EReal.coe_eq_coe_iff]; ring

theorem choose_left {a b : EReal} (ha : Fin' a) (hb : Fin' b) : a + 0 * (b - a) = a := by
  rw [zero_mul, add_zero]

/-- A row against the columns of a matrix. -/
def dots {n : ℕ} (w : Fin 64 → Fin n → EReal) (x : Fin 64 → EReal) (q : Fin n) : EReal := ∑ k, x k * w k q

/-- The weights of the recurrence. -/
structure Weights where
  wx : Fin 64 → Fin 192 → EReal
  wh : Fin 64 → Fin 192 → EReal
  b : Fin 192 → EReal

/-- Column `j` of gate `g` among all the gates' columns. -/
def col (g : Fin 3) (j : Fin 64) : Fin 192 := ⟨64 * g.val + j.val, by omega⟩

/-- One step of the recurrence on one row. -/
def gru (W : Weights) (x h : Fin 64 → EReal) (j : Fin 64) : EReal :=
  (1 - sigm (dots W.wx x (col 0 j) + W.b (col 0 j) + dots W.wh h (col 0 j))) * h j
    + sigm (dots W.wx x (col 0 j) + W.b (col 0 j) + dots W.wh h (col 0 j))
      * Ideal.tanh (dots W.wx x (col 2 j) + W.b (col 2 j)
          + sigm (dots W.wx x (col 1 j) + W.b (col 1 j) + dots W.wh h (col 1 j)) * dots W.wh h (col 2 j))

/-- The same step as the kernel writes it. -/
def gru' (W : Weights) (x h : Fin 64 → EReal) (j : Fin 64) : EReal :=
  h j + sigm (dots W.wx x (col 0 j) + W.b (col 0 j) + dots W.wh h (col 0 j))
      * (Ideal.tanh (dots W.wx x (col 2 j) + W.b (col 2 j)
          + sigm (dots W.wx x (col 1 j) + W.b (col 1 j) + dots W.wh h (col 1 j)) * dots W.wh h (col 2 j)) - h j)

theorem gru'_eq (W : Weights) (x h : Fin 64 → EReal) (j : Fin 64) (hh : Fin' (h j)) : gru' W x h j = gru W x h j :=
  blend_eq hh (sigm_fin _) (tanh_fin _)

/-- The state of one row after `t` steps, its inputs given by their time. -/
def state (W : Weights) (x : ℕ → Fin 64 → EReal) : ℕ → Fin 64 → EReal
  | 0 => fun _ => 0
  | t + 1 => gru W (x t) (state W x t)

theorem state_fin (W : Weights) (x : ℕ → Fin 64 → EReal) : ∀ t j, Fin' (state W x t j)
  | 0, _ => ⟨0, rfl⟩
  | t + 1, j => blend_fin (state_fin W x t j) (sigm_fin _) (tanh_fin _)

theorem state_succ' (W : Weights) (x : ℕ → Fin 64 → EReal) (t : ℕ) : state W x (t + 1) = gru' W (x t) (state W x t) := by
  funext j; exact (gru'_eq W (x t) _ j (state_fin W x t j)).symm

/-- The vector field of the solver, on one row. -/
def fieldRow (w : Fin 64 → Fin 64 → EReal) (b h : Fin 64 → EReal) (j : Fin 64) : EReal := Ideal.tanh (dots w h j + b j)

/-- The constants of the solver's step. -/
def half' : EReal := Ideal.ofBits .f32 0x3F000000#32
def two' : EReal := Ideal.ofBits .f32 0x40000000#32
def six' : EReal := Ideal.ofBits .f32 0x40C00000#32

def slopeRow2 (w : Fin 64 → Fin 64 → EReal) (b : Fin 64 → EReal) (dt : EReal) (h : Fin 64 → EReal) : Fin 64 → EReal :=
  fieldRow w b fun j => h j + half' * dt * fieldRow w b h j
def slopeRow3 (w : Fin 64 → Fin 64 → EReal) (b : Fin 64 → EReal) (dt : EReal) (h : Fin 64 → EReal) : Fin 64 → EReal :=
  fieldRow w b fun j => h j + half' * dt * slopeRow2 w b dt h j
def slopeRow4 (w : Fin 64 → Fin 64 → EReal) (b : Fin 64 → EReal) (dt : EReal) (h : Fin 64 → EReal) : Fin 64 → EReal :=
  fieldRow w b fun j => h j + dt * slopeRow3 w b dt h j

/-- One step of the solver on one row. -/
def rkRow (w : Fin 64 → Fin 64 → EReal) (b : Fin 64 → EReal) (dt : EReal) (h : Fin 64 → EReal) (j : Fin 64) : EReal :=
  h j + Ideal.div dt six' * (fieldRow w b h j + two' * slopeRow2 w b dt h j + two' * slopeRow3 w b dt h j + slopeRow4 w b dt h j)

/-- One row at each of the four times. -/
def timeRow (w : Fin 64 → Fin 64 → EReal) (b : Fin 64 → EReal) (dt : ℕ → EReal) (h : Fin 64 → EReal) : ℕ → Fin 64 → EReal
  | 0 => h
  | k + 1 => rkRow w b (dt k) (timeRow w b dt h k)

end Cert.FusedIdeal.Model

end
-- ==== Proof.FusedReference.Rows.lean ====
/-
  `FusedReferenceIdeal` row by row: the state after each trip of its loop, the rows at the four times, and the outputs,
  as the same functions of one row that the kernel's values are given by (Proof/FusedIdeal/Model.lean).
-/
module

public import proofs.«01_k».proof.Proof.FusedReference.Stretch
public import proofs.«01_k».proof.Proof.FusedIdeal.Model
public import Idealize.ShloMosaic.Lib.StackMember
public import Idealize.ShloMosaic.Lib.DynamicIndex

@[expose] public section

set_option maxRecDepth 16384

noncomputable section

namespace Cert.FusedReferenceIdeal.Rows

open Cert.FusedReferenceIdeal Cert.FusedReferenceIdeal.Gen Cert.FusedReferenceIdeal.Value Cert.FusedReferenceIdeal.Stretch
open Cert.FusedIdeal.Model
open Idealize.ShloMosaic Idealize.ShloMosaic.TcCoe Idealize.ShloMosaic.ValueIdx
open Idealize.ShloMosaic.StableHlo

/-! ## The solver -/

section Solver

variable (w : FVec Ideal S64x64 .f32) (v : FVec Ideal S64 .f32) (dts : FVec Ideal S3 .f32) (k : Fin 3)

/-- The solver's weights and bias by their entries. -/
abbrev wOf (k j : Fin 64) : EReal := w (ix2 k j)
abbrev vOf (j : Fin 64) : EReal := v (ix1 j)

theorem product_apply (h : FVec Ideal S128x64 .f32) (b : Fin 128) (j : Fin 64) :
    (Host.dotGeneral dot_S128x64_S64x64_S128x64_1_0_0_1_n_n none h w (ix2 b j) : EReal) = ∑ k : Fin 64, (h (ix2 b k) : EReal) * w (ix2 k j) :=
  StackMember.dotGeneral_plain_apply (m := 128) (k := 64) (n := 64) none h w b j

theorem bias_apply (b : Fin 128) (j : Fin 64) :
    broadcastInDim S128x64 ![0, 1] bcast_S1x64_S128x64_0_1 (broadcastInDim S1x64 ![1] bcast_S64_S1x64_1 v) (ix2 b j) = v (ix1 j) := by
  refine (broadcastInDim_apply _ _ _ (ix2 b j) (ix2 (0 : Fin 1) j) fun a => ?_).trans (broadcastInDim_apply _ _ _ (ix2 (0 : Fin 1) j) (ix1 j) fun a => ?_)
  · fin_cases a <;> rfl
  · fin_cases a; rfl

variable {w v dts k}

theorem field_apply {h : FVec Ideal S128x64 .f32} {r : Fin 128 → Fin 64 → EReal} (hh : ∀ b j, (h (ix2 b j) : EReal) = r b j) (b : Fin 128) (j : Fin 64) :
    (fieldT w v h (ix2 b j) : EReal) = fieldRow (wOf w) (vOf v) (r b) j := by
  refine congrArg Ideal.tanh (congrArg₂ (fun x y : EReal => x + y) ((product_apply w h b j).trans ?_) (bias_apply v b j))
  exact Finset.sum_congr rfl fun k _ => congrArg (fun x : EReal => x * w (ix2 k j)) (hh b k)

theorem slope2_apply {h : FVec Ideal S128x64 .f32} {r : Fin 128 → Fin 64 → EReal} (hh : ∀ b j, (h (ix2 b j) : EReal) = r b j) (b : Fin 128) (j : Fin 64) :
    (slope2 w v (lengthOf dts k) h (ix2 b j) : EReal) = slopeRow2 (wOf w) (vOf v) (dts (ix1 k)) (r b) j :=
  field_apply (r := fun b j => r b j + half' * dts (ix1 k) * fieldRow (wOf w) (vOf v) (r b) j)
    (fun b j => congrArg₂ (fun x y : EReal => x + half' * dts (ix1 k) * y) (hh b j) (field_apply hh b j)) b j

theorem slope3_apply {h : FVec Ideal S128x64 .f32} {r : Fin 128 → Fin 64 → EReal} (hh : ∀ b j, (h (ix2 b j) : EReal) = r b j) (b : Fin 128) (j : Fin 64) :
    (slope3 w v (lengthOf dts k) h (ix2 b j) : EReal) = slopeRow3 (wOf w) (vOf v) (dts (ix1 k)) (r b) j :=
  field_apply (r := fun b j => r b j + half' * dts (ix1 k) * slopeRow2 (wOf w) (vOf v) (dts (ix1 k)) (r b) j)
    (fun b j => congrArg₂ (fun x y : EReal => x + half' * dts (ix1 k) * y) (hh b j) (slope2_apply hh b j)) b j

theorem slope4_apply {h : FVec Ideal S128x64 .f32} {r : Fin 128 → Fin 64 → EReal} (hh : ∀ b j, (h (ix2 b j) : EReal) = r b j) (b : Fin 128) (j : Fin 64) :
    (slope4 w v (lengthOf dts k) h (ix2 b j) : EReal) = slopeRow4 (wOf w) (vOf v) (dts (ix1 k)) (r b) j :=
  field_apply (r := fun b j => r b j + dts (ix1 k) * slopeRow3 (wOf w) (vOf v) (dts (ix1 k)) (r b) j)
    (fun b j => congrArg₂ (fun x y : EReal => x + dts (ix1 k) * y) (hh b j) (slope3_apply hh b j)) b j

theorem step_apply {h : FVec Ideal S128x64 .f32} {r : Fin 128 → Fin 64 → EReal} (hh : ∀ b j, (h (ix2 b j) : EReal) = r b j) (b : Fin 128) (j : Fin 64) :
    (stepT w v (lengthOf dts k) h (ix2 b j) : EReal) = rkRow (wOf w) (vOf v) (dts (ix1 k)) (r b) j := by
  have e1 := field_apply (w := w) (v := v) hh b j
  have e2 := slope2_apply (w := w) (v := v) (dts := dts) (k := k) hh b j
  have e3 := slope3_apply (w := w) (v := v) (dts := dts) (k := k) hh b j
  have e4 := slope4_apply (w := w) (v := v) (dts := dts) (k := k) hh b j
  unfold rkRow
  rw [← hh b j, ← e1, ← e2, ← e3, ← e4]
  rfl

end Solver

/-! ## The outputs -/

section Outputs

variable (wo : FVec Ideal S64x100000 .f32) (bo : FVec Ideal S100000 .f32)

theorem project_apply (h : FVec Ideal S4x128x64 .f32) (k : Fin 4) (b : Fin 128) (n : Fin 100000) :
    (Host.dotGeneral dot_S4x128x64_S64x100000_S4x128x100000_2_0_01_1_n_n none h wo (ix3 k b n) : EReal)
      = ∑ j : Fin 64, (h (ix3 k b j) : EReal) * wo (ix2 j n) := by
  show FloatOps.dotGeneral _ none _ h wo (ix3 k b n) = _
  rw [Ideal.dotGeneral_apply, ← Equiv.sum_comp (contrEquiv1 dot_S4x128x64_S64x100000_S4x128x100000_2_0_01_1_n_n 64 rfl rfl).symm]
  refine Finset.sum_congr rfl fun j _ => ?_
  have hj := contrEquiv1_symm_val dot_S4x128x64_S64x100000_S4x128x100000_2_0_01_1_n_n 64 rfl rfl j
  refine congrArg₂ (fun x y : EReal => x * y) (congrArg h (funext fun a => Fin.ext ?_)) (congrArg wo (funext fun a => Fin.ext ?_))
  · match a with
    | ⟨0, _⟩ => rfl
    | ⟨1, _⟩ => rfl
    | ⟨2, _⟩ => exact hj
  · match a with
    | ⟨0, _⟩ => exact hj
    | ⟨1, _⟩ => rfl

/-- One time's rows as a stack of one. -/
theorem single_apply (h : FVec Ideal S128x64 .f32) (z : Fin 1) (b : Fin 128) (j : Fin 64) :
    broadcastInDim S1x128x64 ![1, 2] bcast_S128x64_S1x128x64_1_2 h (ix3 z b j) = h (ix2 b j) :=
  broadcastInDim_apply _ _ _ (ix3 z b j) (ix2 b j) fun a => by fin_cases a <;> rfl

/-- The four times' rows, stacked. -/
abbrev stacked (h0 h1 h2 h3 : FVec Ideal S128x64 .f32) : FVec Ideal S4x128x64 .f32 :=
  concatenate S4x128x64 0 [⟨S1x128x64, broadcastInDim S1x128x64 ![1, 2] bcast_S128x64_S1x128x64_1_2 h0⟩, ⟨S1x128x64, broadcastInDim S1x128x64 ![1, 2] bcast_S128x64_S1x128x64_1_2 h1⟩, ⟨S1x128x64, broadcastInDim S1x128x64 ![1, 2] bcast_S128x64_S1x128x64_1_2 h2⟩, ⟨S1x128x64, broadcastInDim S1x128x64 ![1, 2] bcast_S128x64_S1x128x64_1_2 h3⟩]
    concatenates_S1x128x64_S1x128x64_S1x128x64_S1x128x64_S4x128x64_d0

theorem stacked_apply (h0 h1 h2 h3 : FVec Ideal S128x64 .f32) (k : Fin 4) (b : Fin 128) (j : Fin 64) :
    stacked h0 h1 h2 h3 (ix3 k b j) = (![h0, h1, h2, h3] : Fin 4 → FVec Ideal S128x64 .f32) k (ix2 b j) := by
  refine (concatenate_ofFn_apply (t := S4x128x64) (s₁ := S1x128x64) (0 : Fin 3)
    (fun k : Fin 4 => broadcastInDim S1x128x64 ![1, 2] bcast_S128x64_S1x128x64_1_2 ((![h0, h1, h2, h3] : Fin 4 → FVec Ideal S128x64 .f32) k))
    concatenates_S1x128x64_S1x128x64_S1x128x64_S1x128x64_S4x128x64_d0 rfl 1 rfl (ix3 k b j) k (by show k.val / 1 = k.val; omega) (ix3 (0 : Fin 1) b j)
    (by show 0 = k.val % 1; omega) (fun a ha => match a, ha with | ⟨0, _⟩, ha => absurd rfl ha | ⟨1, _⟩, _ => rfl | ⟨2, _⟩, _ => rfl)).trans (single_apply _ 0 b j)

theorem spread_apply (k : Fin 4) (b : Fin 128) (n : Fin 100000) :
    broadcastInDim S4x128x100000 ![0, 1, 2] bcast_S1x1x100000_S4x128x100000_0_1_2 (broadcastInDim S1x1x100000 ![2] bcast_S100000_S1x1x100000_2 bo) (ix3 k b n)
      = bo (ix1 n) := by
  refine (broadcastInDim_apply _ _ _ (ix3 k b n) (ix3 (0 : Fin 1) (0 : Fin 1) n) fun a => ?_).trans
    (broadcastInDim_apply _ _ _ (ix3 (0 : Fin 1) (0 : Fin 1) n) (ix1 n) fun a => ?_)
  · fin_cases a <;> rfl
  · fin_cases a; rfl

theorem out_apply (h0 h1 h2 h3 : FVec Ideal S128x64 .f32) (k : Fin 4) (n : Fin 100000) (b : Fin 128) :
    (outT h0 h1 h2 h3 wo bo (ix3 k n b) : EReal)
      = (∑ j : Fin 64, ((![h0, h1, h2, h3] : Fin 4 → FVec Ideal S128x64 .f32) k (ix2 b j) : EReal) * wo (ix2 j n)) + bo (ix1 n) := by
  refine (transpose_apply _ _ _ (ix3 k n b) (ix3 k b n) fun a => by fin_cases a <;> rfl).trans ?_
  refine congrArg₂ (fun x y : EReal => x + y) ((project_apply wo _ k b n).trans ?_) (spread_apply bo k b n)
  exact Finset.sum_congr rfl fun j _ => congrArg (fun x : EReal => x * wo (ix2 j n)) (stacked_apply h0 h1 h2 h3 k b j)

end Outputs

/-! ## The recurrence -/

section Recurrence

variable (wx wh : FVec Ideal S64x192 .f32) (bias : FVec Ideal S192 .f32)

/-- The recurrence's weights by their entries. -/
abbrev weights : Weights where
  wx k q := wx (ix2 k q)
  wh k q := wh (ix2 k q)
  b q := bias (ix1 q)

theorem gates_apply (w : FVec Ideal S64x192 .f32) (h : FVec Ideal S128x64 .f32) (b : Fin 128) (q : Fin 192) :
    (Host.dotGeneral dot_S128x64_S64x192_S128x192_1_0_0_1_n_n none h w (ix2 b q) : EReal) = ∑ k : Fin 64, (h (ix2 b k) : EReal) * w (ix2 k q) :=
  StackMember.dotGeneral_plain_apply (m := 128) (k := 64) (n := 192) none h w b q

theorem gateBias_apply (b : Fin 128) (q : Fin 192) :
    broadcastInDim S128x192 ![0, 1] bcast_S1x192_S128x192_0_1 (broadcastInDim S1x192 ![1] bcast_S192_S1x192_1 bias) (ix2 b q) = bias (ix1 q) := by
  refine (broadcastInDim_apply _ _ _ (ix2 b q) (ix2 (0 : Fin 1) q) fun a => ?_).trans (broadcastInDim_apply _ _ _ (ix2 (0 : Fin 1) q) (ix1 q) fun a => ?_)
  · fin_cases a <;> rfl
  · fin_cases a; rfl

/-- One gate's columns. -/
theorem gate_apply (g : FVec Ideal S128x192 .f32) (i : Fin 3) (o : ℕ) (ho : o = 64 * i.val) (h : S128x192.Slices ![0, o] S128x64) (b : Fin 128) (j : Fin 64) :
    (extractStridedSlice S128x64 ![0, o] g h (ix2 b j) : EReal) = g (ix2 b (col i j)) := by
  subst ho
  refine extractStridedSlice_apply _ _ h (ix2 b j) (ix2 b (col i j)) fun a => ?_
  fin_cases a
  · exact (Nat.zero_add _).symm
  · rfl

/-- The logistic function as the reference writes it. -/
abbrev logistic (u : FVec Ideal S128x64 .f32) : FVec Ideal S128x64 .f32 :=
  Host.divf (broadcastInDim S128x64 ![] bcast_S_S128x64 (constant S_ .f32 0x3F800000#32)) (addf (broadcastInDim S128x64 ![] bcast_S_S128x64 (constant S_ .f32 0x3F800000#32)) (Host.exp (Host.negf u)))

theorem logistic_apply (u : FVec Ideal S128x64 .f32) (y : S128x64.Idx) : (logistic u y : EReal) = sigm (u y) := by
  show Ideal.div (Ideal.ofBits .f32 0x3F800000#32) (Ideal.ofBits .f32 0x3F800000#32 + Ideal.exp (-(u y))) = _
  rw [one_word]; rfl

/-- One step of all states, from the two products. -/
abbrev cell (gx gh : FVec Ideal S128x192 .f32) (h : FVec Ideal S128x64 .f32) : FVec Ideal S128x64 .f32 :=
  addf (mulf (subf (broadcastInDim S128x64 ![] bcast_S_S128x64 (constant S_ .f32 0x3F800000#32)) (logistic (addf (extractStridedSlice S128x64 ![0, 0] gx slices_S128x192_S128x64_0_0) (extractStridedSlice S128x64 ![0, 0] gh slices_S128x192_S128x64_0_0)))) h)
    (mulf (logistic (addf (extractStridedSlice S128x64 ![0, 0] gx slices_S128x192_S128x64_0_0) (extractStridedSlice S128x64 ![0, 0] gh slices_S128x192_S128x64_0_0)))
      (Host.tanh (addf (extractStridedSlice S128x64 ![0, 128] gx slices_S128x192_S128x64_0_128)
        (mulf (logistic (addf (extractStridedSlice S128x64 ![0, 64] gx slices_S128x192_S128x64_0_64) (extractStridedSlice S128x64 ![0, 64] gh slices_S128x192_S128x64_0_64)))
          (extractStridedSlice S128x64 ![0, 128] gh slices_S128x192_S128x64_0_128)))))

theorem cell_apply (gx gh : FVec Ideal S128x192 .f32) (h : FVec Ideal S128x64 .f32) (b : Fin 128) (j : Fin 64) :
    (cell gx gh h (ix2 b j) : EReal) = (1 - sigm (gx (ix2 b (col 0 j)) + gh (ix2 b (col 0 j)))) * h (ix2 b j)
      + sigm (gx (ix2 b (col 0 j)) + gh (ix2 b (col 0 j)))
        * Ideal.tanh (gx (ix2 b (col 2 j)) + sigm (gx (ix2 b (col 1 j)) + gh (ix2 b (col 1 j))) * gh (ix2 b (col 2 j))) := by
  have x0 := gate_apply gx 0 0 rfl slices_S128x192_S128x64_0_0 b j
  have x1 := gate_apply gx 1 64 rfl slices_S128x192_S128x64_0_64 b j
  have x2 := gate_apply gx 2 128 rfl slices_S128x192_S128x64_0_128 b j
  have h0 := gate_apply gh 0 0 rfl slices_S128x192_S128x64_0_0 b j
  have h1 := gate_apply gh 1 64 rfl slices_S128x192_S128x64_0_64 b j
  have h2 := gate_apply gh 2 128 rfl slices_S128x192_S128x64_0_128 b j
  have z := (logistic_apply (addf (extractStridedSlice S128x64 ![0, 0] gx slices_S128x192_S128x64_0_0) (extractStridedSlice S128x64 ![0, 0] gh slices_S128x192_S128x64_0_0)) (ix2 b j)).trans
    (congrArg₂ (fun x y : EReal => sigm (x + y)) x0 h0)
  have r := (logistic_apply (addf (extractStridedSlice S128x64 ![0, 64] gx slices_S128x192_S128x64_0_64) (extractStridedSlice S128x64 ![0, 64] gh slices_S128x192_S128x64_0_64)) (ix2 b j)).trans
    (congrArg₂ (fun x y : EReal => sigm (x + y)) x1 h1)
  have n := congrArg Ideal.tanh (congrArg₂ (fun x y : EReal => x + y) x2 (congrArg₂ (fun x y : EReal => x * y) r h2))
  refine congrArg₂ (fun x y : EReal => x + y) (congrArg (fun x : EReal => x * h (ix2 b j)) ?_) (congrArg₂ (fun x y : EReal => x * y) z n)
  exact congrArg₂ (fun x y : EReal => x - y) one_word z

/-- The counter before trip `k`. -/
theorem counter_int (k : ℕ) (hk : k < 200) : (Scf.iv 0#32 1#32 k).toInt = (k : ℤ) := by
  have e : (Scf.iv 0#32 1#32 k).toNat = k := by
    simp only [Scf.iv, BitVec.mul_one, BitVec.zero_add, BitVec.toNat_ofNat]
    omega
  rw [BitVec.toInt_eq_toNat_of_lt (by rw [e]; omega), e]

/-- The inputs at time `k`. -/
theorem slice_apply (x : FVec Ideal S200x128x64 .f32) (k : ℕ) (hk : k < 200) (n : IVec S_ 32) (hn : n = fun _ => Scf.iv 0#32 1#32 k) (b : Fin 128) (j : Fin 64) :
    (shapeCast S128x64 (Host.dynamicSlice S1x128x64 x (fun k => (((![n, constantI S_ 32 0#32, constantI S_ 32 0#32] : Fin 3 → (⟨S_, .i32⟩ : BufTy).Contents (Elt Ideal))) k (Shape.Idx.first h_S_)).toInt) sliceFits_S200x128x64_S1x128x64) shapeCasts_S1x128x64_S128x64 (ix2 b j) : EReal)
      = x (ix3 (⟨k, hk⟩ : Fin 200) b j) := by
  subst hn
  refine (shapeCast_apply _ _ (ix2 b j) (ix3 (0 : Fin 1) b j) (by rw [Shape.rowMajor_val_two, Shape.rowMajor_val_three]; simp)).trans ?_
  have hs : S200x128x64.Slices ![k, 0, 0] S1x128x64 := ⟨rfl, fun a => by
    fin_cases a
    · show k + 1 ≤ 200; omega
    · show 0 + 128 ≤ 128; omega
    · show 0 + 64 ≤ 64; omega⟩
  rw [Host.dynamicSlice_eq_extractStridedSlice _ _ _ ![k, 0, 0] _ hs (fun a => by
    fin_cases a
    · exact counter_int k hk
    · rfl
    · rfl)]
  exact extractStridedSlice_apply _ _ hs (ix3 (0 : Fin 1) b j) (ix3 (⟨k, hk⟩ : Fin 200) b j) fun a => by
    fin_cases a
    · rfl
    · exact (Nat.zero_add _).symm
    · exact (Nat.zero_add _).symm

end Recurrence

/-! ## The whole program -/

section Whole

variable (m : (ℓ : Loc nD τ sig) → Buf (Elt Ideal) ℓ) (c : Dev nD)

/-- The arguments, each with its type. -/
abbrev r0 : IVec S128x200 32 := m ((c.tc : Thread nD τ).loc main_arg0)
abbrev r1 : FVec Ideal S4 .f32 := m ((c.tc : Thread nD τ).loc main_arg1)
abbrev r2 : FVec Ideal S25600x128 .f32 := m ((c.tc : Thread nD τ).loc main_arg2)
abbrev r3 : FVec Ideal S64x192 .f32 := m ((c.tc : Thread nD τ).loc main_arg3)
abbrev r4 : FVec Ideal S64x192 .f32 := m ((c.tc : Thread nD τ).loc main_arg4)
abbrev r5 : FVec Ideal S192 .f32 := m ((c.tc : Thread nD τ).loc main_arg5)
abbrev r6 : FVec Ideal S64x64 .f32 := m ((c.tc : Thread nD τ).loc main_arg6)
abbrev r7 : FVec Ideal S64 .f32 := m ((c.tc : Thread nD τ).loc main_arg7)
abbrev r8 : FVec Ideal S64x100000 .f32 := m ((c.tc : Thread nD τ).loc main_arg8)
abbrev r9 : FVec Ideal S100000 .f32 := m ((c.tc : Thread nD τ).loc main_arg9)

/-- One trip from contents that hold the inputs, the weights, the counter and the states. -/
theorem trip_state (Y : Valuation τ sig (Elt Ideal)) (k : ℕ) (hk : k < 200) (xs : FVec Ideal S200x128x64 .f32) (wx wh : FVec Ideal S64x192 .f32)
    (bias : FVec Ideal S192 .f32) (h : FVec Ideal S128x64 .f32) (x : Fin 128 → ℕ → Fin 64 → EReal)
    (e0 : Y (Proc.devRef .tc main_v12_0) = xs) (e1 : Y (Proc.devRef .tc main_v12_1) = wx) (e2 : Y (Proc.devRef .tc main_v12_2) = bias)
    (e3 : Y (Proc.devRef .tc main_v12_3) = wh) (e4 : Y (Proc.devRef .tc main_v12_4) = fun _ => Scf.iv 0#32 1#32 k) (e5 : Y (Proc.devRef .tc main_v12_5) = h)
    (hx : ∀ b j, (xs (ix3 (⟨k, hk⟩ : Fin 200) b j) : EReal) = x b k j) (hh : ∀ b j, (h (ix2 b j) : EReal) = state (weights wx wh bias) (x b) k j)
    (b : Fin 128) (j : Fin 64) :
    ((step_main_v12_5 Y : FVec Ideal S128x64 .f32) (ix2 b j) : EReal) = state (weights wx wh bias) (x b) (k + 1) j := by
  have gx : ∀ q : Fin 192, ((res_main_while0b_v159 Y : FVec Ideal S128x192 .f32) (ix2 b q) : EReal) = dots (weights wx wh bias).wx (x b k) q + (weights wx wh bias).b q := fun q => by
    unfold res_main_while0b_v159
    rw [e0, e1, e2]
    refine congrArg₂ (fun x y : EReal => x + y) ((gates_apply wx _ b q).trans ?_) (gateBias_apply bias b q)
    exact Finset.sum_congr rfl fun i _ => congrArg (fun x : EReal => x * wx (ix2 i q)) ((slice_apply xs k hk _ e4 b i).trans (hx b i))
  have gh : ∀ q : Fin 192, ((res_main_while0b_v160 Y : FVec Ideal S128x192 .f32) (ix2 b q) : EReal) = dots (weights wx wh bias).wh (state (weights wx wh bias) (x b) k) q := fun q => by
    unfold res_main_while0b_v160
    rw [e3, e5]
    refine (gates_apply wh h b q).trans ?_
    exact Finset.sum_congr rfl fun i _ => congrArg (fun x : EReal => x * wh (ix2 i q)) (hh b i)
  have e : (step_main_v12_5 Y : FVec Ideal S128x64 .f32) = cell (res_main_while0b_v159 Y) (res_main_while0b_v160 Y) h := by
    rw [← e5]; rfl
  refine (congrFun e (ix2 b j)).trans ((cell_apply _ _ h b j).trans ?_)
  rw [gx, gx, gx, gh, gh, gh, hh]
  rfl

/-- Before trip `k` the loop holds the inputs, the weights, and the states after `k` steps. -/
theorem trips (x : Fin 128 → ℕ → Fin 64 → EReal)
    (hx : ∀ (k : ℕ) (hk : k < 200) (b : Fin 128) (j : Fin 64), (inputs (r0 m c) (r2 m c) (ix3 (⟨k, hk⟩ : Fin 200) b j) : EReal) = x b k j) :
    ∀ k : ℕ, k ≤ 200 → atK m k c (Proc.devRef .tc main_v12_0) = inputs (r0 m c) (r2 m c) ∧ atK m k c (Proc.devRef .tc main_v12_1) = r3 m c
      ∧ atK m k c (Proc.devRef .tc main_v12_2) = r5 m c ∧ atK m k c (Proc.devRef .tc main_v12_3) = r4 m c
      ∧ ∀ b j, ((atK m k c (Proc.devRef .tc main_v12_5) : FVec Ideal S128x64 .f32) (ix2 b j) : EReal) = state (weights (r3 m c) (r4 m c) (r5 m c)) (x b) k j
  | 0, _ => ⟨entry_inputs _, entry_wx _, entry_b _, entry_wh _, fun b j => (congrFun (entry_state (launchContents m c)) (ix2 b j)).trans Ideal.ofBits_zero_f32⟩
  | k + 1, hk => by
    obtain ⟨e0, e1, e2, e3, e5⟩ := trips x hx k (by omega)
    have ag := trip_agree (atK m k c)
    refine ⟨(ag main_v12_0 (by decide)).trans ((STEP_main_v12_0 _).trans e0), (ag main_v12_1 (by decide)).trans ((STEP_main_v12_1 _).trans e1),
      (ag main_v12_2 (by decide)).trans ((STEP_main_v12_2 _).trans e2), (ag main_v12_3 (by decide)).trans ((STEP_main_v12_3 _).trans e3), fun b j => ?_⟩
    refine (congrFun ((ag main_v12_5 (by decide)).trans (STEP_main_v12_5 _)) (ix2 b j)).trans ?_
    exact trip_state (atK m k c) k (by omega) _ _ _ _ _ x e0 e1 e2 e3 (atK_ctr m c k) rfl (hx k (by omega)) e5 b j

/-- The steps' lengths stay through the loop. -/
theorem lengths_kept : ∀ k, atK m k c (Proc.devRef .tc main_v10) = afterL preI (launchContents m c) (Proc.devRef .tc main_v10)
  | 0 => rfl
  | k + 1 => by
    show after while0Ops0_1 (after while0Ops0 (after condOps (atK m k c))) (Proc.devRef .tc main_v10) = _
    rw [after_of_writes_sub while0Ops0_1 _ while0Ops0_1_writes (by decide), after_of_writes_sub while0Ops0 _ while0Ops0_writes (by decide),
      after_of_writes_sub condOps _ condOps_writes (by decide)]
    exact lengths_kept k

/-- The three lengths. -/
abbrev lengths (x1 : FVec Ideal S4 .f32) : FVec Ideal S3 .f32 :=
  subf (extractStridedSlice S3 ![1] x1 slices_S4_S3_1) (extractStridedSlice S3 ![0] x1 slices_S4_S3_0)

/-- What the projection reads off the loop's end. -/
theorem final_result : ∃ h : FVec Ideal S128x64 .f32, h = atK m 200 c (Proc.devRef .tc main_v12_5)
    ∧ finalContents condOps preI bodyI postI 200 m c (Proc.devRef .tc main_v154) =
      outT h (stepT (r6 m c) (r7 m c) (lengthOf (lengths (r1 m c)) 0) h)
        (stepT (r6 m c) (r7 m c) (lengthOf (lengths (r1 m c)) 1) (stepT (r6 m c) (r7 m c) (lengthOf (lengths (r1 m c)) 0) h))
        (stepT (r6 m c) (r7 m c) (lengthOf (lengths (r1 m c)) 2) (stepT (r6 m c) (r7 m c) (lengthOf (lengths (r1 m c)) 1)
          (stepT (r6 m c) (r7 m c) (lengthOf (lengths (r1 m c)) 0) h))) (r8 m c) (r9 m c) := by
  have ec : ∀ r : Ref sig .tc, r ∉ condOps_W → after condOps (atK m 200 c) (Proc.devRef .tc r) = atK m 200 c (Proc.devRef .tc r) :=
    fun r h => after_of_writes_sub condOps _ condOps_writes h
  have ek : ∀ r : Ref sig .tc, r ∉ hostOps0_W → r ∉ hostOps0_1_W → r ∉ hostOps0_2_W → r ∉ condOps_W → r ∉ while0Ops0_W → r ∉ while0Ops0_1_W →
      after condOps (atK m 200 c) (Proc.devRef .tc r) = launchContents m c (Proc.devRef .tc r) :=
    fun r h0 h1 h2 hc hb hb' => (ec r hc).trans (atTrip_keep m c r h0 h1 h2 hc hb hb' 200)
  refine ⟨_, rfl, ?_⟩
  show after hostOps0_3 (after condOps (atK m 200 c)) (Proc.devRef .tc main_v154) = _
  have e := result (after condOps (atK m 200 c))
  dsimp only at e
  rw [ek main_arg6 (by decide) (by decide) (by decide) (by decide) (by decide) (by decide),
    ek main_arg7 (by decide) (by decide) (by decide) (by decide) (by decide) (by decide),
    ek main_arg8 (by decide) (by decide) (by decide) (by decide) (by decide) (by decide),
    ek main_arg9 (by decide) (by decide) (by decide) (by decide) (by decide) (by decide),
    ec main_v12_5 (by decide), ec main_v10 (by decide), lengths_kept, entry_lengths] at e
  exact e

/-- One entry of the result. -/
theorem final_apply (x : Fin 128 → ℕ → Fin 64 → EReal)
    (hx : ∀ (k : ℕ) (hk : k < 200) (b : Fin 128) (j : Fin 64), (inputs (r0 m c) (r2 m c) (ix3 (⟨k, hk⟩ : Fin 200) b j) : EReal) = x b k j)
    (dt : ℕ → EReal) (hd : ∀ k : Fin 3, (lengths (r1 m c) (ix1 k) : EReal) = dt k.val) (k : Fin 4) (n : Fin 100000) (b : Fin 128) :
    ((finalContents condOps preI bodyI postI 200 m c (Proc.devRef .tc main_v154) : FVec Ideal S4x100000x128 .f32) (ix3 k n b) : EReal)
      = (∑ j : Fin 64, timeRow (wOf (r6 m c)) (vOf (r7 m c)) dt (state (weights (r3 m c) (r4 m c) (r5 m c)) (x b) 200) k.val j * r8 m c (ix2 j n)) + r9 m c (ix1 n) := by
  obtain ⟨h, eh, e⟩ := final_result m c
  have p0 : ∀ b j, (h (ix2 b j) : EReal) = timeRow (wOf (r6 m c)) (vOf (r7 m c)) dt (state (weights (r3 m c) (r4 m c) (r5 m c)) (x b) 200) 0 j := fun b j => by
    rw [eh]; exact (trips m c x hx 200 le_rfl).2.2.2.2 b j
  have p1 : ∀ b j, (stepT (r6 m c) (r7 m c) (lengthOf (lengths (r1 m c)) 0) h (ix2 b j) : EReal)
      = timeRow (wOf (r6 m c)) (vOf (r7 m c)) dt (state (weights (r3 m c) (r4 m c) (r5 m c)) (x b) 200) 1 j := fun b j => by
    refine (step_apply p0 b j).trans ?_
    rw [hd 0]; rfl
  have p2 : ∀ b j, (stepT (r6 m c) (r7 m c) (lengthOf (lengths (r1 m c)) 1) (stepT (r6 m c) (r7 m c) (lengthOf (lengths (r1 m c)) 0) h) (ix2 b j) : EReal)
      = timeRow (wOf (r6 m c)) (vOf (r7 m c)) dt (state (weights (r3 m c) (r4 m c) (r5 m c)) (x b) 200) 2 j := fun b j => by
    refine (step_apply p1 b j).trans ?_
    rw [hd 1]; rfl
  have p3 : ∀ b j, (stepT (r6 m c) (r7 m c) (lengthOf (lengths (r1 m c)) 2) (stepT (r6 m c) (r7 m c) (lengthOf (lengths (r1 m c)) 1)
        (stepT (r6 m c) (r7 m c) (lengthOf (lengths (r1 m c)) 0) h)) (ix2 b j) : EReal)
      = timeRow (wOf (r6 m c)) (vOf (r7 m c)) dt (state (weights (r3 m c) (r4 m c) (r5 m c)) (x b) 200) 3 j := fun b j => by
    refine (step_apply p2 b j).trans ?_
    rw [hd 2]; rfl
  refine (congrFun e (ix3 k n b)).trans ((out_apply _ _ _ _ _ _ k n b).trans ?_)
  refine congrArg (fun y : EReal => y + r9 m c (ix1 n)) (Finset.sum_congr rfl fun j _ => congrArg (fun y : EReal => y * r8 m c (ix2 j n)) ?_)
  match k with
  | ⟨0, _⟩ => exact p0 b j
  | ⟨1, _⟩ => exact p1 b j
  | ⟨2, _⟩ => exact p2 b j
  | ⟨3, _⟩ => exact p3 b j

end Whole

end Cert.FusedReferenceIdeal.Rows

end
-- ==== Proof.FusedIdeal.Read.lean ====
/-
  What the body's terms are at an index, on extended reals: products as sums, slices, casts and broadcasts at the
  operand's index, one step of the recurrence on one row, and a chunk of a hundred of them.
-/
module

public import proofs.«01_k».proof.Proof.FusedIdeal.Body
public import proofs.«01_k».proof.Proof.FusedIdeal.Model
public import Idealize.ShloMosaic.Lib.MatmulPlain
public import Idealize.ShloMosaic.Lib.ValueIdx
public import Idealize.ShloMosaic.Lib.Pipeline.Value

@[expose] public section

set_option maxRecDepth 16384

noncomputable section

namespace Cert.FusedIdeal.Read

open Cert.FusedIdeal Cert.FusedIdeal.Gen Cert.FusedIdeal.Scan Cert.FusedIdeal.Base Cert.FusedIdeal.Model
open Idealize.ShloMosaic Idealize.ShloMosaic.ValueIdx

/-- A product with no accumulator, at an index. -/
theorem product_apply {M K N : ℕ} (lhs : FVec Ideal ⟨2, ![M, K]⟩ .f32) (rhs : FVec Ideal ⟨2, ![K, N]⟩ .f32) (r : Fin M) (c : Fin N) :
    matmul (DotDims.plain M K N) none lhs rhs (constant ⟨2, ![M, N]⟩ .f32 0x00000000#32) (ix2 r c) = ∑ k : Fin K, lhs (ix2 r k) * rhs (ix2 k c) := by
  refine (Ideal.matmul_plain_apply none lhs rhs _ r c).trans ?_
  show Ideal.ofBits .f32 0x00000000#32 + _ = _
  rw [Ideal.ofBits_zero_f32, zero_add]

theorem across_apply (w : FVec Ideal S64x64 .f32) (h : FVec Ideal S32x64 .f32) (r : Fin 32) (j : Fin 64) :
    across w h (ix2 r j) = ∑ k : Fin 64, h (ix2 r k) * w (ix2 k j) := product_apply h w r j

theorem bias_apply {n : ℕ} (b : FVec Ideal S1x64 .f32) (p : S1x64.Broadcasts ⟨2, ![n, 64]⟩) (r : Fin n) (j : Fin 64) :
    broadcastTo ⟨2, ![n, 64]⟩ b p (ix2 r j) = b (ix2 0 j) :=
  broadcastTo_apply b p _ _ fun a => match a with | ⟨0, _⟩ => rfl | ⟨1, _⟩ => rfl

theorem gate_apply (x : FVec Ideal S12800x64 .f32) (w : FVec Ideal S64x64 .f32) (b : FVec Ideal S1x64 .f32) (n : Fin 12800) (j : Fin 64) :
    gate x w b (ix2 n j) = (∑ k : Fin 64, x (ix2 n k) * w (ix2 k j)) + b (ix2 0 j) := by
  show matmul _ none x w _ (ix2 n j) + broadcastTo S12800x64 b _ (ix2 n j) = _
  exact congrArg₂ (· + ·) (product_apply x w n j) (bias_apply b _ n j)

theorem cut_apply (g : FVec Ideal S12800x64 .f32) (n : ℕ) (h : n ≤ 12768) (r : Fin 32) (j : Fin 64) :
    cut g n h (ix2 r j) = g (ix2 ⟨n + r.val, by omega⟩ j) :=
  extractStridedSlice_apply _ g _ _ _ fun a => match a with | ⟨0, _⟩ => rfl | ⟨1, _⟩ => (Nat.zero_add _).symm

theorem plane_apply (x : Vec Ideal S100x128x128 .f32) (t : ℕ) (h : t ≤ 99) (b q : Fin 128) :
    plane x t h (ix2 b q) = x (ix3 ⟨t, by omega⟩ b q) := by
  unfold plane
  rw [shapeCast_apply _ _ (ix2 b q) (ix3 (0 : Fin 1) b q) (by
    rw [Shape.rowMajor_val_two, Shape.rowMajor_val_three]; simp)]
  refine congrArg x (funext fun a => Fin.ext ?_)
  match a with
  | ⟨0, _⟩ => rfl
  | ⟨1, _⟩ => show 0 + 1 * b.val = b.val; omega
  | ⟨2, _⟩ => show 0 + 1 * q.val = q.val; omega

theorem left_apply (w : FVec Ideal S128x128 .f32) (b : Fin 128) (j : Fin 64) : left w (ix2 b j) = w (ix2 b ⟨j.val, by omega⟩) :=
  extractStridedSlice_apply _ w _ _ _ fun a => match a with | ⟨0, _⟩ => (Nat.zero_add _).symm | ⟨1, _⟩ => (Nat.zero_add _).symm
theorem right_apply (w : FVec Ideal S128x128 .f32) (b : Fin 128) (j : Fin 64) : right w (ix2 b j) = w (ix2 b ⟨64 + j.val, by omega⟩) :=
  extractStridedSlice_apply _ w _ _ _ fun a => match a with | ⟨0, _⟩ => (Nat.zero_add _).symm | ⟨1, _⟩ => rfl

theorem column_apply (p : FVec Ideal S128x100 .f32) (t : ℕ) (h : t ≤ 99) (b : Fin 128) (q : Fin 1) :
    column p t h (ix2 b q) = p (ix2 b ⟨t, by omega⟩) :=
  extractStridedSlice_apply _ p _ _ _ fun a => match a with | ⟨0, _⟩ => (Nat.zero_add _).symm | ⟨1, _⟩ => show t = t + q.val by omega

theorem pick_apply (x : Vec Ideal S100x128x128 .f32) (p : FVec Ideal S128x100 .f32) (t : ℕ) (h : t ≤ 99) (b : Fin 128) (j : Fin 64) :
    pick x p t h (ix2 b j) = (x (ix3 ⟨t, by omega⟩ b ⟨j.val, by omega⟩) : EReal)
      + p (ix2 b ⟨t, by omega⟩) * ((x (ix3 ⟨t, by omega⟩ b ⟨64 + j.val, by omega⟩) : EReal) - x (ix3 ⟨t, by omega⟩ b ⟨j.val, by omega⟩)) := by
  show (left (plane x t h) (ix2 b j) : EReal) + broadcastTo S128x64 (column p t h) _ (ix2 b j) * (right (plane x t h) (ix2 b j) - left (plane x t h) (ix2 b j)) = _
  rw [left_apply, right_apply, plane_apply, plane_apply,
    broadcastTo_apply (column p t h) _ (ix2 b j) (ix2 b (0 : Fin 1)) (fun a => match a with | ⟨0, _⟩ => rfl | ⟨1, _⟩ => rfl), column_apply]

theorem rows_apply (x : Vec Ideal S100x128x128 .f32) (p : FVec Ideal S128x100 .f32) (t : ℕ) (h : t ≤ 99) (b : Fin 128) (j : Fin 64) :
    rows x p (ix2 ⟨128 * t + b.val, by omega⟩ j) = pick x p t h (ix2 b j) :=
  concatenate_ofFn_apply (t := S12800x64) (s₁ := S128x64) (0 : Fin 2) (fun t : Fin 100 => pick x p t.val (by omega)) (rows_fit _) rfl 128 rfl _
    ⟨t, by omega⟩ (by show (128 * t + b.val) / 128 = t; omega) (ix2 b j) (by show b.val = (128 * t + b.val) % 128; omega)
    (fun a ha => match a, ha with | ⟨0, _⟩, ha => absurd rfl ha | ⟨1, _⟩, _ => rfl)

theorem half_apply (i : S32x64.Idx) : (half : FVec Ideal S32x64 .f32) i = ((1 / 2 : ℝ) : EReal) := half_word

theorem squash_apply (u : FVec Ideal S32x64 .f32) (i : S32x64.Idx) : squash u i = sigm (u i) := by
  show ((half : FVec Ideal S32x64 .f32) i : EReal) * Ideal.tanh ((half : FVec Ideal S32x64 .f32) i * u i) + (half : FVec Ideal S32x64 .f32) i = _
  rw [half_apply]; exact squash_eq (u i)

/-- One step of the recurrence, at a row and a column. -/
theorem step_apply (g : Gates Ideal) (n : ℕ) (hn : n ≤ 12768) (h : FVec Ideal S32x64 .f32) (r : Fin 32) (j : Fin 64) :
    step g n hn h (ix2 r j) = (h (ix2 r j) : EReal)
      + sigm (g.gz (ix2 ⟨n + r.val, by omega⟩ j) + ∑ k : Fin 64, h (ix2 r k) * g.wz (ix2 k j))
        * (Ideal.tanh (g.gn (ix2 ⟨n + r.val, by omega⟩ j)
            + sigm (g.gr (ix2 ⟨n + r.val, by omega⟩ j) + ∑ k : Fin 64, h (ix2 r k) * g.wr (ix2 k j)) * ∑ k : Fin 64, h (ix2 r k) * g.wn (ix2 k j)) - h (ix2 r j)) := by
  show (h (ix2 r j) : EReal) + squash (addf (cut g.gz n hn) (across g.wz h)) (ix2 r j)
    * (Ideal.tanh ((cut g.gn n hn (ix2 r j) : EReal) + squash (addf (cut g.gr n hn) (across g.wr h)) (ix2 r j) * across g.wn h (ix2 r j)) - h (ix2 r j)) = _
  rw [squash_apply, squash_apply]
  show (h (ix2 r j) : EReal) + sigm ((cut g.gz n hn (ix2 r j) : EReal) + across g.wz h (ix2 r j))
    * (Ideal.tanh ((cut g.gn n hn (ix2 r j) : EReal) + sigm ((cut g.gr n hn (ix2 r j) : EReal) + across g.wr h (ix2 r j)) * across g.wn h (ix2 r j)) - h (ix2 r j)) = _
  simp only [cut_apply, across_apply]

/-- The gates' input parts and recurrent weights are those of the weights `W`, the inputs of batch row `b` at time `t` being `x b t`. -/
structure Holds (W : Weights) (x : Fin 128 → ℕ → Fin 64 → EReal) (s : ℕ) (g : Gates Ideal) : Prop where
  gz : ∀ t (ht : t ≤ 99) (b : Fin 128) j, g.gz (ix2 ⟨128 * t + b.val, by omega⟩ j) = dots W.wx (x b (s + t)) (col 0 j) + W.b (col 0 j)
  gr : ∀ t (ht : t ≤ 99) (b : Fin 128) j, g.gr (ix2 ⟨128 * t + b.val, by omega⟩ j) = dots W.wx (x b (s + t)) (col 1 j) + W.b (col 1 j)
  gn : ∀ t (ht : t ≤ 99) (b : Fin 128) j, g.gn (ix2 ⟨128 * t + b.val, by omega⟩ j) = dots W.wx (x b (s + t)) (col 2 j) + W.b (col 2 j)
  wz : ∀ k j, g.wz (ix2 k j) = W.wh k (col 0 j)
  wr : ∀ k j, g.wr (ix2 k j) = W.wh k (col 1 j)
  wn : ∀ k j, g.wn (ix2 k j) = W.wh k (col 2 j)

/-- A block of thirty-two rows goes through a chunk as the rows do. -/
theorem lane_apply {W : Weights} {x : Fin 128 → ℕ → Fin 64 → EReal} {s : ℕ} {g : Gates Ideal} (hg : Holds W x s g)
    (k : ℕ) (hk : k ≤ 3) (h : FVec Ideal S32x64 .f32)
    (h0 : ∀ (r : Fin 32) j, h (ix2 r j) = state W (x ⟨32 * k + r.val, by omega⟩) s j) :
    ∀ (t : ℕ) (ht : t ≤ 100) (r : Fin 32) (j : Fin 64),
      lane g k hk h t ht (ix2 r j) = state W (x ⟨32 * k + r.val, by omega⟩) (s + t) j
  | 0, _, r, j => h0 r j
  | t + 1, ht, r, j => by
    have ih := lane_apply hg k hk h h0 t (by omega)
    have e : (⟨128 * t + 32 * k + r.val, by omega⟩ : Fin 12800) = ⟨128 * t + (⟨32 * k + r.val, by omega⟩ : Fin 128).val, by show _ < _; dsimp only; omega⟩ :=
      Fin.ext (by show _ = _; dsimp only; omega)
    show step g (128 * t + 32 * k) _ (lane g k hk h t _) (ix2 r j) = state W _ (s + t + 1) j
    rw [step_apply, state_succ', e, hg.gz t (by omega), hg.gr t (by omega), hg.gn t (by omega)]
    simp only [ih, hg.wz, hg.wr, hg.wn]
    rfl

end Cert.FusedIdeal.Read

end
-- ==== Proof.FusedIdeal.Tiles.lean ====
/-
  Where the blocks of the windows lie in their arrays.
-/
module

public import proofs.«01_k».proof.Proof.FusedIdeal.Region
public import proofs.«01_k».proof.Proof.FusedIdeal.Read
public import Idealize.ShloMosaic.Lib.Pipeline.Value

@[expose] public section

set_option maxRecDepth 16384

noncomputable section

namespace Cert.FusedIdeal.Tiles

open Cert.FusedIdeal Cert.FusedIdeal.Gen
open Idealize.ShloMosaic Idealize.ShloMosaic.TcCoe Idealize.ShloMosaic.ValueIdx
open Idealize.ShloMosaic.Pipeline (Window)

variable {F : FTy → Type} [FloatOps F] (m : (ℓ : Loc nD τ sig) → Buf (Elt F) ℓ) (c : Dev nD)

theorem coords_val : ∀ t : Fin grid0.N, (grid0.coords t 0).val = t.val := by decide

theorem index0_0 : ∀ t : Fin grid0.N, t.val < 2 → win0_0.index t 0 = t.val := by decide
theorem index0_1 : ∀ t : Fin grid0.N, t.val < 2 → win0_1.index t 0 = t.val := by decide
theorem index0_14 : ∀ t : Fin grid0.N, 2 ≤ t.val → win0_14.index t 1 = t.val - 2 := by decide
theorem index0_15 : ∀ t : Fin grid0.N, 2 ≤ t.val → win0_15.index t 1 = t.val - 2 := by decide
theorem index0_16 : ∀ t : Fin grid0.N, 2 ≤ t.val → win0_16.index t 1 = t.val - 2 := by decide
theorem flush0_16 : ∀ t : Fin grid0.N, win0_16.flush t = true ↔ 2 ≤ t.val := by decide
theorem idle0_16 : ∀ t : Fin grid0.N, idle0 16 (grid0.coords t) = true ↔ t.val < 2 := by decide
theorem extent0_14 : ∀ t : Fin grid0.N, win0_14.xsize (grid0.coords t) 1 = min 6144 (100000 - 6144 * (t.val - 2)) := by decide
theorem extent0_15 : ∀ t : Fin grid0.N, win0_15.xsize (grid0.coords t) 1 = min 6144 (100000 - 6144 * (t.val - 2)) := by decide
theorem extent0_16 : ∀ t : Fin grid0.N, win0_16.xsize (grid0.coords t) 1 = min 6144 (100000 - 6144 * (t.val - 2)) := by decide

/-- The windows that are whole arrays. -/
theorem block2 (t : Fin cfg0.N) : iblk m c 2 t = V m c main_v12 :=
  funext fun y => congrArg (V m c main_v12) (funext fun a => Fin.ext (Window.rect_emb_val_of_index_zero win0_2 t a (match a with | ⟨0, _⟩ => rfl | ⟨1, _⟩ => rfl) y))
theorem block3 (t : Fin cfg0.N) : iblk m c 3 t = V m c main_v15 :=
  funext fun y => congrArg (V m c main_v15) (funext fun a => Fin.ext (Window.rect_emb_val_of_index_zero win0_3 t a (match a with | ⟨0, _⟩ => rfl | ⟨1, _⟩ => rfl) y))
theorem block4 (t : Fin cfg0.N) : iblk m c 4 t = V m c main_v18 :=
  funext fun y => congrArg (V m c main_v18) (funext fun a => Fin.ext (Window.rect_emb_val_of_index_zero win0_4 t a (match a with | ⟨0, _⟩ => rfl | ⟨1, _⟩ => rfl) y))
theorem block5 (t : Fin cfg0.N) : iblk m c 5 t = V m c main_v13 :=
  funext fun y => congrArg (V m c main_v13) (funext fun a => Fin.ext (Window.rect_emb_val_of_index_zero win0_5 t a (match a with | ⟨0, _⟩ => rfl | ⟨1, _⟩ => rfl) y))
theorem block6 (t : Fin cfg0.N) : iblk m c 6 t = V m c main_v16 :=
  funext fun y => congrArg (V m c main_v16) (funext fun a => Fin.ext (Window.rect_emb_val_of_index_zero win0_6 t a (match a with | ⟨0, _⟩ => rfl | ⟨1, _⟩ => rfl) y))
theorem block7 (t : Fin cfg0.N) : iblk m c 7 t = V m c main_v19 :=
  funext fun y => congrArg (V m c main_v19) (funext fun a => Fin.ext (Window.rect_emb_val_of_index_zero win0_7 t a (match a with | ⟨0, _⟩ => rfl | ⟨1, _⟩ => rfl) y))
theorem block8 (t : Fin cfg0.N) : iblk m c 8 t = V m c main_v14 :=
  funext fun y => congrArg (V m c main_v14) (funext fun a => Fin.ext (Window.rect_emb_val_of_index_zero win0_8 t a (match a with | ⟨0, _⟩ => rfl | ⟨1, _⟩ => rfl) y))
theorem block9 (t : Fin cfg0.N) : iblk m c 9 t = V m c main_v17 :=
  funext fun y => congrArg (V m c main_v17) (funext fun a => Fin.ext (Window.rect_emb_val_of_index_zero win0_9 t a (match a with | ⟨0, _⟩ => rfl | ⟨1, _⟩ => rfl) y))
theorem block10 (t : Fin cfg0.N) : iblk m c 10 t = V m c main_v20 :=
  funext fun y => congrArg (V m c main_v20) (funext fun a => Fin.ext (Window.rect_emb_val_of_index_zero win0_10 t a (match a with | ⟨0, _⟩ => rfl | ⟨1, _⟩ => rfl) y))
theorem block11 (t : Fin cfg0.N) : iblk m c 11 t = V m c main_arg6 :=
  funext fun y => congrArg (V m c main_arg6) (funext fun a => Fin.ext (Window.rect_emb_val_of_index_zero win0_11 t a (match a with | ⟨0, _⟩ => rfl | ⟨1, _⟩ => rfl) y))
theorem block12 (t : Fin cfg0.N) : iblk m c 12 t = V m c main_v9 :=
  funext fun y => congrArg (V m c main_v9) (funext fun a => Fin.ext (Window.rect_emb_val_of_index_zero win0_12 t a (match a with | ⟨0, _⟩ => rfl | ⟨1, _⟩ => rfl) y))
theorem block13 (t : Fin cfg0.N) : iblk m c 13 t = V m c main_v7 :=
  funext fun y => congrArg (V m c main_v7) (funext fun a => Fin.ext (Window.rect_emb_val_of_index_zero win0_13 t a (match a with | ⟨0, _⟩ => rfl) y))

/-- The windows of a chunk of the inputs. -/
theorem block0 (t : Fin cfg0.N) (ht : t.val < 2) (q : Fin 100) (b j : Fin 128) :
    (iblk m c 0 t : Vec F S100x128x128 .f32) (ix3 q b j) = V m c main_v8 (ix3 (⟨100 * t.val + q.val, by omega⟩ : Fin 200) b j) :=
  congrArg (V m c main_v8) (funext fun a => Fin.ext (match a with
    | ⟨0, _⟩ => (Window.rect_emb_val win0_0 t (ix3 q b j) 0).trans (by rw [index0_0 t ht]; show t.val * 100 + q.val = 100 * t.val + q.val; omega)
    | ⟨1, _⟩ => Window.rect_emb_val_of_index_zero win0_0 t 1 rfl (ix3 q b j)
    | ⟨2, _⟩ => Window.rect_emb_val_of_index_zero win0_0 t 2 rfl (ix3 q b j)))

theorem block1 (t : Fin cfg0.N) (ht : t.val < 2) (b : Fin 128) (q : Fin 100) :
    (iblk m c 1 t : Vec F S1x128x100 .f32) (ix3 0 b q) = V m c main_v4 (ix3 (⟨t.val, ht⟩ : Fin 2) b q) :=
  congrArg (V m c main_v4) (funext fun a => Fin.ext (match a with
    | ⟨0, _⟩ => (Window.rect_emb_val win0_1 t (ix3 0 b q) 0).trans (by rw [index0_1 t ht]; show t.val * 1 + 0 = t.val; omega)
    | ⟨1, _⟩ => Window.rect_emb_val_of_index_zero win0_1 t 1 rfl (ix3 0 b q)
    | ⟨2, _⟩ => Window.rect_emb_val_of_index_zero win0_1 t 2 rfl (ix3 0 b q)))

/-- A block of the output weights, at a column the array has. -/
theorem block14 (t : Fin cfg0.N) (ht : 2 ≤ t.val) (d : S64x6144.Idx → Elt F .f32) (k : Fin 64) (v : Fin 6144) (hv : 6144 * (t.val - 2) + v.val < 100000) :
    (win0_14.fill (grid0.coords t) d (iblk m c 14 t) : Vec F S64x6144 .f32) (ix2 k v)
      = V m c main_arg8 (ix2 k (⟨6144 * (t.val - 2) + v.val, hv⟩ : Fin 100000)) := by
  have h : win0_14.moved (grid0.coords t) (ix2 k v) = true := (win0_14.moved_iff _ _).mpr fun a => match a with
    | ⟨0, _⟩ => k.isLt
    | ⟨1, _⟩ => by have := extent0_14 t; show v.val < win0_14.xsize (grid0.coords t) 1; omega
  unfold Window.fill
  rw [dif_pos h]
  exact congrArg (V m c main_arg8) (funext fun a => Fin.ext (match a with
    | ⟨0, _⟩ => Window.rect_emb_val_of_index_zero win0_14 t 0 rfl _
    | ⟨1, _⟩ => (Window.rect_emb_val win0_14 t _ 1).trans (by rw [index0_14 t ht]; show (t.val - 2) * 6144 + v.val = 6144 * (t.val - 2) + v.val; omega)))

theorem block15 (t : Fin cfg0.N) (ht : 2 ≤ t.val) (d : S1x6144.Idx → Elt F .f32) (v : Fin 6144) (hv : 6144 * (t.val - 2) + v.val < 100000) :
    (win0_15.fill (grid0.coords t) d (iblk m c 15 t) : Vec F S1x6144 .f32) (ix2 0 v)
      = V m c main_v10 (ix2 0 (⟨6144 * (t.val - 2) + v.val, hv⟩ : Fin 100000)) := by
  have h : win0_15.moved (grid0.coords t) (ix2 0 v) = true := (win0_15.moved_iff _ _).mpr fun a => match a with
    | ⟨0, _⟩ => Nat.one_pos
    | ⟨1, _⟩ => by have := extent0_15 t; show v.val < win0_15.xsize (grid0.coords t) 1; omega
  unfold Window.fill
  rw [dif_pos h]
  exact congrArg (V m c main_v10) (funext fun a => Fin.ext (match a with
    | ⟨0, _⟩ => Window.rect_emb_val_of_index_zero win0_15 t 0 rfl _
    | ⟨1, _⟩ => (Window.rect_emb_val win0_15 t _ 1).trans (by rw [index0_15 t ht]; show (t.val - 2) * 6144 + v.val = 6144 * (t.val - 2) + v.val; omega)))

/-- An element of a block of outputs that is written back lies in the array. -/
theorem moved16 (t : Fin cfg0.N) (y : S4x6144x128.Idx) (h : win0_16.moved (grid0.coords t) y = true) : 6144 * (t.val - 2) + (y 1).val < 100000 := by
  have h1 := (win0_16.moved_iff _ _).mp h 1
  have := extent0_16 t
  have : (y 1).val < win0_16.xsize (grid0.coords t) 1 := h1
  omega

end Cert.FusedIdeal.Tiles

end
-- ==== Proof.FusedIdeal.Chunk.lean ====
/-
  What one chunk of the recurrence leaves in the states, and what the solver leaves in the pages, row by row.
-/
module

public import proofs.«01_k».proof.Proof.FusedIdeal.Read
public import proofs.«01_k».proof.Proof.FusedIdeal.Proj

@[expose] public section

set_option maxRecDepth 16384

noncomputable section

namespace Cert.FusedIdeal.Read

open Cert.FusedIdeal Cert.FusedIdeal.Gen Cert.FusedIdeal.Scan Cert.FusedIdeal.Base Cert.FusedIdeal.Model
open Idealize.ShloMosaic Idealize.ShloMosaic.ValueIdx

section Rects

variable {s : Shape} {α : Type} {off size : Fin s.rank → ℕ} {inb : ∀ a, off a + size a ≤ s.size a}

theorem at_apply (X : s.Idx → α) (i : (Rect.unit (s := s) off size inb).shape.Idx) (y : s.Idx) (h : ∀ a, (y a).val = off a + (i a).val) :
    at_ (Rect.unit off size inb) X i = X y :=
  congrArg X (funext fun a => Fin.ext ((by show off a + 1 * (i a).val = _; rw [one_mul, h a])))

theorem over_in (w : (Rect.unit (s := s) off size inb).shape.Idx → α) (X : s.Idx → α) (y : s.Idx)
    (i : (Rect.unit (s := s) off size inb).shape.Idx) (h : ∀ a, (y a).val = off a + (i a).val) : over (Rect.unit off size inb) w X y = w i := by
  have e : (Rect.unit off size inb).emb i = y := funext fun a => Fin.ext (by show off a + 1 * (i a).val = _; rw [one_mul, h a])
  rw [← e, over_emb]

theorem over_out (w : (Rect.unit (s := s) off size inb).shape.Idx → α) (X : s.Idx → α) (y : s.Idx) (a : Fin s.rank)
    (h : (y a).val < off a ∨ off a + size a ≤ (y a).val) : over (Rect.unit off size inb) w X y = X y :=
  over_of_not _ _ _ _ fun i e => by
    have e' : off a + 1 * (i a).val = (y a).val := by rw [← e]; rfl
    have : (i a).val < size a := (i a).isLt
    omega

end Rects

theorem square_apply (x : Vec Ideal S64x64 .f32) (k j : Fin 64) : square x (ix2 k j) = x (ix2 k j) := by
  refine (congrFun (shapeCast_self (s := S64x64) _ _) _).trans ?_
  exact at_apply x _ _ fun a => match a with | ⟨0, _⟩ => (Nat.zero_add _).symm | ⟨1, _⟩ => (Nat.zero_add _).symm

theorem full_apply (x : Vec Ideal S64x64 .f32) (k j : Fin 64) : full x (ix2 k j) = x (ix2 k j) :=
  at_apply x _ _ fun a => match a with | ⟨0, _⟩ => (Nat.zero_add _).symm | ⟨1, _⟩ => (Nat.zero_add _).symm

theorem line_apply (x : Vec Ideal S1x64 .f32) (j : Fin 64) : line x (ix2 0 j) = x (ix2 0 j) := by
  refine (congrFun (shapeCast_self (s := S1x64) _ _) _).trans ?_
  exact at_apply x _ _ fun a => match a with | ⟨0, _⟩ => rfl | ⟨1, _⟩ => (Nat.zero_add _).symm

theorem choices_apply (X : Vals Ideal) (b : Fin 128) (t : Fin 100) : choices X (ix2 b t) = X.x2 (ix3 0 b t) := by
  unfold choices
  rw [shapeCast_apply _ _ (ix2 b t) (ix3 (0 : Fin 1) b t) (by rw [Shape.rowMajor_val_two, Shape.rowMajor_val_three]; simp)]
  exact at_apply X.x2 _ _ fun a => match a with | ⟨0, _⟩ => rfl | ⟨1, _⟩ => (Nat.zero_add _).symm | ⟨2, _⟩ => (Nat.zero_add _).symm

theorem block_apply (x : Vec Ideal S128x64 .f32) (n : ℕ) (h : n ≤ 96) (r : Fin 32) (j : Fin 64) :
    block x n h (ix2 r j) = x (ix2 ⟨n + r.val, by omega⟩ j) :=
  at_apply x _ _ fun a => match a with | ⟨0, _⟩ => rfl | ⟨1, _⟩ => (Nat.zero_add _).symm

theorem putBack_in (n : ℕ) (h : n ≤ 96) (w : FVec Ideal S32x64 .f32) (x : Vec Ideal S128x64 .f32) (b : Fin 128) (j : Fin 64)
    (hb : n ≤ b.val) (hb' : b.val < n + 32) : putBack n h w x (ix2 b j) = w (ix2 ⟨b.val - n, by omega⟩ j) := by
  unfold putBack
  rw [shapeCast_self]
  exact over_in _ _ _ _ fun a => match a with | ⟨0, _⟩ => (show b.val = n + (b.val - n) by omega) | ⟨1, _⟩ => (Nat.zero_add _).symm

theorem putBack_out (n : ℕ) (h : n ≤ 96) (w : FVec Ideal S32x64 .f32) (x : Vec Ideal S128x64 .f32) (b : Fin 128) (j : Fin 64)
    (hb : b.val < n ∨ n + 32 ≤ b.val) : putBack n h w x (ix2 b j) = x (ix2 b j) := over_out _ _ _ (0 : Fin 2) hb

theorem paste_in (n : ℕ) (h : n ≤ 384) (w : FVec Ideal S128x64 .f32) (x : Vec Ideal S512x64 .f32) (b : Fin 512) (j : Fin 64)
    (hb : n ≤ b.val) (hb' : b.val < n + 128) : paste n h w x (ix2 b j) = w (ix2 ⟨b.val - n, by omega⟩ j) := by
  unfold paste
  rw [shapeCast_self]
  exact over_in _ _ _ _ fun a => match a with | ⟨0, _⟩ => (show b.val = n + (b.val - n) by omega) | ⟨1, _⟩ => (Nat.zero_add _).symm

theorem paste_out (n : ℕ) (h : n ≤ 384) (w : FVec Ideal S128x64 .f32) (x : Vec Ideal S512x64 .f32) (b : Fin 512) (j : Fin 64)
    (hb : b.val < n ∨ n + 128 ≤ b.val) : paste n h w x (ix2 b j) = x (ix2 b j) := over_out _ _ _ (0 : Fin 2) hb

/-- The windows of a chunk that starts at time `s` hold the weights `W` and the inputs `x`. -/
structure Fits (W : Weights) (x : Fin 128 → ℕ → Fin 64 → EReal) (s : ℕ) (X : Vals Ideal) : Prop where
  x1 : ∀ t (h : t ≤ 99) (b : Fin 128) (j : Fin 64), pick X.x1 (choices X) t h (ix2 b j) = x b (s + t) j
  x3 : ∀ k j, X.x3 (ix2 k j) = W.wx k (col 0 j)
  x4 : ∀ k j, X.x4 (ix2 k j) = W.wx k (col 1 j)
  x5 : ∀ k j, X.x5 (ix2 k j) = W.wx k (col 2 j)
  x6 : ∀ k j, X.x6 (ix2 k j) = W.wh k (col 0 j)
  x7 : ∀ k j, X.x7 (ix2 k j) = W.wh k (col 1 j)
  x8 : ∀ k j, X.x8 (ix2 k j) = W.wh k (col 2 j)
  x9 : ∀ j, X.x9 (ix2 0 j) = W.b (col 0 j)
  x10 : ∀ j, X.x10 (ix2 0 j) = W.b (col 1 j)
  x11 : ∀ j, X.x11 (ix2 0 j) = W.b (col 2 j)

variable {W : Weights} {x : Fin 128 → ℕ → Fin 64 → EReal} {s : ℕ} {X : Vals Ideal}

theorem Fits.gate (hx : ∀ t (h : t ≤ 99) (b : Fin 128) (j : Fin 64), pick X.x1 (choices X) t h (ix2 b j) = x b (s + t) j)
    (w : Vec Ideal S64x64 .f32) (v : Vec Ideal S1x64 .f32) (g : Fin 3) (hw : ∀ k j, w (ix2 k j) = W.wx k (col g j)) (hv : ∀ j, v (ix2 0 j) = W.b (col g j))
    (t : ℕ) (ht : t ≤ 99) (b : Fin 128) (j : Fin 64) :
    Scan.gate (rows X.x1 (choices X)) (square w) (line v) (ix2 ⟨128 * t + b.val, by omega⟩ j) = dots W.wx (x b (s + t)) (col g j) + W.b (col g j) := by
  rw [gate_apply, line_apply, hv]
  simp only [rows_apply _ _ t ht, hx, square_apply, hw]
  rfl

theorem Fits.holds (h : Fits W x s X) : Holds W x s (gates X) where
  gz t ht b j := Fits.gate h.x1 _ _ 0 h.x3 h.x9 t ht b j
  gr t ht b j := Fits.gate h.x1 _ _ 1 h.x4 h.x10 t ht b j
  gn t ht b j := Fits.gate h.x1 _ _ 2 h.x5 h.x11 t ht b j
  wz k j := (square_apply _ k j).trans (h.x6 k j)
  wr k j := (square_apply _ k j).trans (h.x7 k j)
  wn k j := (square_apply _ k j).trans (h.x8 k j)

/-- The states of all rows at time `s`. -/
def AtTime (W : Weights) (x : Fin 128 → ℕ → Fin 64 → EReal) (s : ℕ) (h : Vec Ideal S128x64 .f32) : Prop :=
  ∀ (b : Fin 128) (j : Fin 64), h (ix2 b j) = state W (x b) s j

theorem last_apply (h : Fits W x s X) (h18 : AtTime W x s X.x18) (k : ℕ) (hk : k ≤ 3) (r : Fin 32) (j : Fin 64) :
    last X k hk (ix2 r j) = state W (x ⟨32 * k + r.val, by omega⟩) (s + 100) j :=
  lane_apply h.holds k hk _ (fun r j => (block_apply _ _ _ r j).trans (h18 _ j)) 100 _ r j

theorem scanned_apply (h : Fits W x s X) (h18 : AtTime W x s X.x18) : AtTime W x (s + 100) (scanned X).x18 := by
  have e : ∀ (k : ℕ) (hk : k ≤ 3) (b : Fin 128) (j : Fin 64) (hb : b.val - 32 * k < 32), 32 * k ≤ b.val →
      last X k hk (ix2 ⟨b.val - 32 * k, hb⟩ j) = state W (x b) (s + 100) j := fun k hk b j hb hb' => by
    rw [last_apply h h18]; congr 2; exact Fin.ext (by show 32 * k + (b.val - 32 * k) = b.val; omega)
  intro b j
  show putBack 96 (by omega) _ (putBack 64 (by omega) _ (putBack 32 (by omega) _ (putBack 0 (by omega) _ X.x18))) (ix2 b j) = _
  have hb := b.isLt
  by_cases h3 : 96 ≤ b.val
  · rw [putBack_in _ _ _ _ _ _ h3 (by omega)]; exact e 3 _ b j _ h3
  rw [putBack_out _ _ _ _ _ _ (.inl (by omega))]
  by_cases h2 : 64 ≤ b.val
  · rw [putBack_in _ _ _ _ _ _ h2 (by omega)]; exact e 2 _ b j _ h2
  rw [putBack_out _ _ _ _ _ _ (.inl (by omega))]
  by_cases h1 : 32 ≤ b.val
  · rw [putBack_in _ _ _ _ _ _ h1 (by omega)]; exact e 1 _ b j _ h1
  rw [putBack_out _ _ _ _ _ _ (.inl (by omega)), putBack_in _ _ _ _ _ _ (by omega) (by omega)]
  exact e 0 _ b j _ (by omega)

theorem stack_apply (a b c d : FVec Ideal S32x64 .f32) (n : Fin 128) (j : Fin 64) :
    stack a b c d (ix2 n j) = (![a, b, c, d] : Fin 4 → FVec Ideal S32x64 .f32) ⟨n.val / 32, by omega⟩ (ix2 ⟨n.val % 32, by omega⟩ j) :=
  concatenate_ofFn_apply (t := S128x64) (s₁ := S32x64) (0 : Fin 2) (![a, b, c, d]) concatenates_S32x64_S32x64_S32x64_S32x64_S128x64_d0 rfl 32 rfl _
    ⟨n.val / 32, by omega⟩ rfl (ix2 ⟨n.val % 32, by omega⟩ j) rfl (fun a ha => match a, ha with | ⟨0, _⟩, ha => absurd rfl ha | ⟨1, _⟩, _ => rfl)

theorem page0_apply (h : Fits W x s X) (h18 : AtTime W x s X.x18) : AtTime W x (s + 100) (page0 X) := by
  intro b j
  unfold page0
  rw [stack_apply]
  have hb : b.val / 32 < 4 := by omega
  have e : ∀ (k : ℕ) (hk : k ≤ 3), b.val / 32 = k → last X k hk (ix2 ⟨b.val % 32, by omega⟩ j) = state W (x b) (s + 100) j := fun k hk hq => by
    rw [last_apply h h18]; congr 2; exact Fin.ext (by show 32 * k + b.val % 32 = b.val; omega)
  rcases (by omega : b.val / 32 = 0 ∨ b.val / 32 = 1 ∨ b.val / 32 = 2 ∨ b.val / 32 = 3) with q | q | q | q
  · rw [show (⟨b.val / 32, hb⟩ : Fin 4) = 0 from Fin.ext q]; exact e 0 _ q
  · rw [show (⟨b.val / 32, hb⟩ : Fin 4) = 1 from Fin.ext q]; exact e 1 _ q
  · rw [show (⟨b.val / 32, hb⟩ : Fin 4) = 2 from Fin.ext q]; exact e 2 _ q
  · rw [show (⟨b.val / 32, hb⟩ : Fin 4) = 3 from Fin.ext q]; exact e 3 _ q

theorem init_apply (i : grid0.Coords) (hi : (i 0).val = 0) : AtTime W x 0 (init i X).x18 := by
  intro b j
  unfold init
  rw [if_pos hi]
  dsimp only
  rw [shapeCast_self, over_in _ _ _ (ix2 b j) (fun a => match a with | ⟨0, _⟩ => (Nat.zero_add _).symm | ⟨1, _⟩ => (Nat.zero_add _).symm)]
  exact Ideal.ofBits_zero_f32

/-! ## The solver -/

theorem field_apply (w : FVec Ideal S64x64 .f32) (b : FVec Ideal S1x64 .f32) (h : FVec Ideal S128x64 .f32) (r : Fin 128) (j : Fin 64) :
    field w b h (ix2 r j) = fieldRow (fun k j => w (ix2 k j)) (fun j => b (ix2 0 j)) (fun j => h (ix2 r j)) j := by
  show Ideal.tanh ((matmul _ none h w _ (ix2 r j) : EReal) + broadcastTo S128x64 b _ (ix2 r j)) = _
  unfold fieldRow dots
  refine congrArg Ideal.tanh (congrArg₂ (· + ·) (product_apply h w r j) (bias_apply b _ r j))

theorem slope2_apply (w : FVec Ideal S64x64 .f32) (b : FVec Ideal S1x64 .f32) (dt : EReal) (h : FVec Ideal S128x64 .f32) (r : Fin 128) (j : Fin 64) :
    slope2 w b dt h (ix2 r j) = slopeRow2 (fun k j => w (ix2 k j)) (fun j => b (ix2 0 j)) dt (fun j => h (ix2 r j)) j := by
  unfold slope2 slopeRow2
  rw [field_apply]
  refine congrArg (fun f => fieldRow _ _ f j) (funext fun k => ?_)
  show (h (ix2 r k) : EReal) + half' * dt * field w b h (ix2 r k) = _
  rw [field_apply]

theorem slope3_apply (w : FVec Ideal S64x64 .f32) (b : FVec Ideal S1x64 .f32) (dt : EReal) (h : FVec Ideal S128x64 .f32) (r : Fin 128) (j : Fin 64) :
    slope3 w b dt h (ix2 r j) = slopeRow3 (fun k j => w (ix2 k j)) (fun j => b (ix2 0 j)) dt (fun j => h (ix2 r j)) j := by
  unfold slope3 slopeRow3
  rw [field_apply]
  refine congrArg (fun f => fieldRow _ _ f j) (funext fun k => ?_)
  show (h (ix2 r k) : EReal) + half' * dt * slope2 w b dt h (ix2 r k) = _
  rw [slope2_apply]

theorem slope4_apply (w : FVec Ideal S64x64 .f32) (b : FVec Ideal S1x64 .f32) (dt : EReal) (h : FVec Ideal S128x64 .f32) (r : Fin 128) (j : Fin 64) :
    slope4 w b dt h (ix2 r j) = slopeRow4 (fun k j => w (ix2 k j)) (fun j => b (ix2 0 j)) dt (fun j => h (ix2 r j)) j := by
  unfold slope4 slopeRow4
  rw [field_apply]
  refine congrArg (fun f => fieldRow _ _ f j) (funext fun k => ?_)
  show (h (ix2 r k) : EReal) + dt * slope3 w b dt h (ix2 r k) = _
  rw [slope3_apply]

theorem rk_apply (w : FVec Ideal S64x64 .f32) (b : FVec Ideal S1x64 .f32) (dt : EReal) (h : FVec Ideal S128x64 .f32) (r : Fin 128) (j : Fin 64) :
    rk w b dt h (ix2 r j) = rkRow (fun k j => w (ix2 k j)) (fun j => b (ix2 0 j)) dt (fun j => h (ix2 r j)) j := by
  unfold rkRow
  rw [← field_apply, ← slope2_apply, ← slope3_apply, ← slope4_apply]
  rfl

/-- The solver's weights and time steps among the windows. -/
structure Solves (w : Fin 64 → Fin 64 → EReal) (b : Fin 64 → EReal) (dt : ℕ → EReal) (X : Vals Ideal) : Prop where
  x12 : ∀ k j, X.x12 (ix2 k j) = w k j
  x13 : ∀ j, X.x13 (ix2 0 j) = b j
  x14 : ∀ k (h : k ≤ 2), time X.x14 k h = dt k

/-- The pages hold every row at each of the four times. -/
def AllTimes (W : Weights) (x : Fin 128 → ℕ → Fin 64 → EReal) (w : Fin 64 → Fin 64 → EReal) (v : Fin 64 → EReal) (dt : ℕ → EReal) (h : Vec Ideal S512x64 .f32) : Prop :=
  ∀ (k : Fin 4) (b : Fin 128) (j : Fin 64), h (ix2 ⟨128 * k.val + b.val, by omega⟩ j) = timeRow w v dt (state W (x b) 200) k.val j

variable {w : Fin 64 → Fin 64 → EReal} {v : Fin 64 → EReal} {dt : ℕ → EReal}

theorem rk_step (hs : Solves w v dt X) (k : ℕ) (hk : k ≤ 2) (h : FVec Ideal S128x64 .f32)
    (hh : ∀ (b : Fin 128) (j : Fin 64), h (ix2 b j) = timeRow w v dt (state W (x b) 200) k j) (b : Fin 128) (j : Fin 64) :
    rk (full X.x12) (line X.x13) (time X.x14 k hk) h (ix2 b j) = timeRow w v dt (state W (x b) 200) (k + 1) j := by
  rw [rk_apply, hs.x14]
  simp only [full_apply, line_apply, hs.x12, hs.x13, hh]
  rfl

theorem pages_apply (i : grid0.Coords) (hi : (i 0).val = 1) (h : Fits W x 100 X) (h18 : AtTime W x 100 X.x18) (hs : Solves w v dt X) :
    AllTimes W x w v dt (after i X).x19 := by
  have p0 : ∀ (b : Fin 128) (j : Fin 64), page0 X (ix2 b j) = timeRow w v dt (state W (x b) 200) 0 j := page0_apply h h18
  have p1 : ∀ (b : Fin 128) (j : Fin 64), page1 X (ix2 b j) = timeRow w v dt (state W (x b) 200) 1 j := rk_step hs 0 (by omega) _ p0
  have p2 : ∀ (b : Fin 128) (j : Fin 64), page2 X (ix2 b j) = timeRow w v dt (state W (x b) 200) 2 j := rk_step hs 1 (by omega) _ p1
  have p3 : ∀ (b : Fin 128) (j : Fin 64), page3 X (ix2 b j) = timeRow w v dt (state W (x b) 200) 3 j := rk_step hs 2 (by omega) _ p2
  intro k b j
  unfold after
  rw [if_pos hi]
  dsimp only
  have hb := b.isLt
  have e : ∀ (n : ℕ) (q : n < 128), n = b.val → (ix2 (⟨n, q⟩ : Fin 128) j : S128x64.Idx) = ix2 b j := fun n q e => by subst e; rfl
  match k with
  | ⟨0, _⟩ =>
    rw [paste_out _ _ _ _ _ _ (.inl (by dsimp only; omega)), paste_out _ _ _ _ _ _ (.inl (by dsimp only; omega)), paste_out _ _ _ _ _ _ (.inl (by dsimp only; omega)),
      paste_in _ _ _ _ _ _ (by dsimp only; omega) (by dsimp only; omega), e _ _ (by dsimp only; omega)]
    exact p0 b j
  | ⟨1, _⟩ =>
    rw [paste_out _ _ _ _ _ _ (.inl (by dsimp only; omega)), paste_out _ _ _ _ _ _ (.inl (by dsimp only; omega)),
      paste_in _ _ _ _ _ _ (by dsimp only; omega) (by dsimp only; omega), e _ _ (by dsimp only; omega)]
    exact p1 b j
  | ⟨2, _⟩ =>
    rw [paste_out _ _ _ _ _ _ (.inl (by dsimp only; omega)),
      paste_in _ _ _ _ _ _ (by dsimp only; omega) (by dsimp only; omega), e _ _ (by dsimp only; omega)]
    exact p2 b j
  | ⟨3, _⟩ =>
    rw [paste_in _ _ _ _ _ _ (by dsimp only; omega) (by dsimp only; omega), e _ _ (by dsimp only; omega)]
    exact p3 b j

end Cert.FusedIdeal.Read

end
-- ==== Proof.FusedIdeal.Project.lean ====
/-
  One block of outputs, element by element.
-/
module

public import proofs.«01_k».proof.Proof.FusedIdeal.Chunk

@[expose] public section

set_option maxRecDepth 16384

noncomputable section

namespace Cert.FusedIdeal.Read

open Cert.FusedIdeal Cert.FusedIdeal.Gen Cert.FusedIdeal.Scan Cert.FusedIdeal.Base Cert.FusedIdeal.Model
open Idealize.ShloMosaic Idealize.ShloMosaic.ValueIdx

/-- A product that contracts the left operand's rows with the right operand's columns. -/
theorem outputs_apply (w : FVec Ideal S64x6144 .f32) (h : FVec Ideal S128x64 .f32) (v : Fin 6144) (b : Fin 128) :
    matmul dot_S64x6144_S128x64_S6144x128_0_1_1_0_n_n none w h (constant S6144x128 .f32 0x00000000#32) (ix2 v b) = ∑ k : Fin 64, w (ix2 k v) * h (ix2 b k) := by
  refine (Ideal.matmul_constant_zero_apply _ none w h (ix2 v b)).trans ?_
  rw [← Equiv.sum_comp (contrEquiv1 dot_S64x6144_S128x64_S6144x128_0_1_1_0_n_n 64 rfl rfl).symm]
  refine Finset.sum_congr rfl fun k _ => ?_
  have hk := contrEquiv1_symm_val dot_S64x6144_S128x64_S6144x128_0_1_1_0_n_n 64 rfl rfl k
  refine congrArg₂ (· * ·) (congrArg w (funext fun a => Fin.ext ?_)) (congrArg h (funext fun a => Fin.ext ?_))
  · match a with
    | ⟨0, _⟩ => exact hk
    | ⟨1, _⟩ => rfl
  · match a with
    | ⟨0, _⟩ => rfl
    | ⟨1, _⟩ => exact hk

theorem spread_apply (w : FVec Ideal S1x6144 .f32) (h : FVec Ideal S128x1 .f32) (v : Fin 6144) (b : Fin 128) :
    matmul dot_S1x6144_S128x1_S6144x128_0_1_1_0_n_n none w h (constant S6144x128 .f32 0x00000000#32) (ix2 v b) = ∑ k : Fin 1, w (ix2 k v) * h (ix2 b k) := by
  refine (Ideal.matmul_constant_zero_apply _ none w h (ix2 v b)).trans ?_
  rw [← Equiv.sum_comp (contrEquiv1 dot_S1x6144_S128x1_S6144x128_0_1_1_0_n_n 1 rfl rfl).symm]
  refine Finset.sum_congr rfl fun k _ => ?_
  have hk := contrEquiv1_symm_val dot_S1x6144_S128x1_S6144x128_0_1_1_0_n_n 1 rfl rfl k
  refine congrArg₂ (· * ·) (congrArg w (funext fun a => Fin.ext ?_)) (congrArg h (funext fun a => Fin.ext ?_))
  · match a with
    | ⟨0, _⟩ => exact hk
    | ⟨1, _⟩ => rfl
  · match a with
    | ⟨0, _⟩ => rfl
    | ⟨1, _⟩ => exact hk

theorem wide_apply (x : Vec Ideal S64x6144 .f32) (k : Fin 64) (v : Fin 6144) : wide x (ix2 k v) = x (ix2 k v) :=
  at_apply x _ _ fun a => match a with | ⟨0, _⟩ => (Nat.zero_add _).symm | ⟨1, _⟩ => (Nat.zero_add _).symm

theorem strip_apply (x : Vec Ideal S1x6144 .f32) (v : Fin 6144) : strip x (ix2 0 v) = x (ix2 0 v) :=
  at_apply x _ _ fun a => match a with | ⟨0, _⟩ => rfl | ⟨1, _⟩ => (Nat.zero_add _).symm

theorem rowsOf_apply (x : Vec Ideal S512x64 .f32) (n : ℕ) (h : n ≤ 384) (b : Fin 128) (j : Fin 64) :
    page x n h (ix2 b j) = x (ix2 ⟨n + b.val, by omega⟩ j) :=
  at_apply x _ _ fun a => match a with | ⟨0, _⟩ => rfl | ⟨1, _⟩ => (Nat.zero_add _).symm

theorem project_apply (w : Vec Ideal S64x6144 .f32) (s : Vec Ideal S1x6144 .f32) (h : FVec Ideal S128x64 .f32) (v : Fin 6144) (b : Fin 128) :
    project w s h (ix2 v b) = (∑ k : Fin 64, w (ix2 k v) * h (ix2 b k) : EReal) + s (ix2 0 v) := by
  refine congrArg₂ (· + ·) ((outputs_apply _ h v b).trans ?_) ((spread_apply _ _ v b).trans ?_)
  · simp only [wide_apply]
  · rw [Fin.sum_univ_one, shapeCast_self, strip_apply]
    show (s (ix2 0 v) : EReal) * Ideal.ofBits .f32 0x3F800000#32 = _
    rw [one_word, mul_one]

theorem put_in (n : ℕ) (h : n ≤ 3) (w : FVec Ideal S6144x128 .f32) (x : Vec Ideal S4x6144x128 .f32) (k : Fin 4) (v : Fin 6144) (b : Fin 128) (hk : k.val = n) :
    put n h w x (ix3 k v b) = w (ix2 v b) := by
  unfold put
  rw [over_in _ _ _ (ix3 (0 : Fin 1) v b) (fun a => match a with | ⟨0, _⟩ => hk | ⟨1, _⟩ => (Nat.zero_add _).symm | ⟨2, _⟩ => (Nat.zero_add _).symm)]
  exact shapeCast_apply _ _ (ix3 (0 : Fin 1) v b) (ix2 v b) (by rw [Shape.rowMajor_val_two, Shape.rowMajor_val_three]; simp)

theorem put_out (n : ℕ) (h : n ≤ 3) (w : FVec Ideal S6144x128 .f32) (x : Vec Ideal S4x6144x128 .f32) (k : Fin 4) (v : Fin 6144) (b : Fin 128) (hk : k.val ≠ n) :
    put n h w x (ix3 k v b) = x (ix3 k v b) := over_out _ _ _ (0 : Fin 3) (by show k.val < n ∨ n + 1 ≤ k.val; omega)

theorem blockOut_apply (X : Vals Ideal) (k : Fin 4) (v : Fin 6144) (b : Fin 128) :
    (project_after X).x17 (ix3 k v b) = (∑ j : Fin 64, X.x15 (ix2 j v) * X.x19 (ix2 ⟨128 * k.val + b.val, by omega⟩ j) : EReal) + X.x16 (ix2 0 v) := by
  have e : ∀ (n : ℕ) (h : n ≤ 384), n = 128 * k.val → projected X n h (ix2 v b)
      = (∑ j : Fin 64, X.x15 (ix2 j v) * X.x19 (ix2 ⟨128 * k.val + b.val, by omega⟩ j) : EReal) + X.x16 (ix2 0 v) := fun n h q => by
    subst q
    unfold projected
    rw [project_apply]
    simp only [rowsOf_apply]
  unfold project_after
  dsimp only
  match k, e with
  | ⟨0, _⟩, e => rw [put_out _ _ _ _ _ _ _ (by simp), put_out _ _ _ _ _ _ _ (by simp), put_out _ _ _ _ _ _ _ (by simp), put_in 0 _ _ _ ⟨0, _⟩ _ _ rfl]; exact e 0 _ rfl
  | ⟨1, _⟩, e => rw [put_out _ _ _ _ _ _ _ (by simp), put_out _ _ _ _ _ _ _ (by simp), put_in 1 _ _ _ ⟨1, _⟩ _ _ rfl]; exact e 128 _ rfl
  | ⟨2, _⟩, e => rw [put_out _ _ _ _ _ _ _ (by simp), put_in 2 _ _ _ ⟨2, _⟩ _ _ rfl]; exact e 256 _ rfl
  | ⟨3, _⟩, e => rw [put_in 3 _ _ _ ⟨3, _⟩ _ _ rfl]; exact e 384 _ rfl

end Cert.FusedIdeal.Read

end
-- ==== Proof.FusedIdeal.Track.lean ====
/-
  The one TensorCore call of `FusedIdeal` with what it carries from point to point: the states after the first chunk, then the
  rows at all four times, and from these the blocks of outputs.
-/
module

public import proofs.«01_k».proof.Proof.FusedIdeal.Tiles
public import proofs.«01_k».proof.Proof.FusedIdeal.Project

@[expose] public section

set_option maxRecDepth 16384

noncomputable section

namespace Cert.FusedIdeal.Track

open Cert.FusedIdeal Cert.FusedIdeal.Gen Cert.FusedIdeal.Scan Cert.FusedIdeal.Base Cert.FusedIdeal.Model Cert.FusedIdeal.Read Cert.FusedIdeal.Tiles
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose cellOf)

local notation "𝕄" => MT nD τ sig Unit (Elt Ideal) ℕ (UR sig nD τ) ℕ

/-- What the call computes with: the recurrence's weights and inputs, the solver's weights and steps, the outputs' weights
    and their bias. -/
structure Problem where
  W : Weights
  x : Fin 128 → ℕ → Fin 64 → EReal
  w : Fin 64 → Fin 64 → EReal
  v : Fin 64 → EReal
  dt : ℕ → EReal
  wo : Fin 64 → ℕ → EReal
  bo : ℕ → EReal

/-- One output: at time `k`, for row `b`, of column `n`. -/
def Problem.out (P : Problem) (k : ℕ) (n : ℕ) (b : Fin 128) : EReal :=
  (∑ j : Fin 64, P.wo j n * timeRow P.w P.v P.dt (state P.W (P.x b) 200) k j) + P.bo n

variable (m : (ℓ : Loc nD τ sig) → Buf (Elt Ideal) ℓ) (ρ : Dev nD → PrngReg)

/-- One input: the left half of its pair of rows plus, of the right half's excess over it, the share `p` names. -/
def pairOf (x : FVec Ideal S200x128x128 .f32) (p : FVec Ideal S2x128x100 .f32) (s : ℕ) (hs : s < 2) (t : ℕ) (ht : t ≤ 99) (b : Fin 128) (j : Fin 64) : EReal :=
  (x (ix3 (⟨100 * s + t, by omega⟩ : Fin 200) b (⟨j.val, by omega⟩ : Fin 128)) : EReal) + p (ix3 (⟨s, hs⟩ : Fin 2) b (⟨t, by omega⟩ : Fin 100))
    * ((x (ix3 (⟨100 * s + t, by omega⟩ : Fin 200) b (⟨64 + j.val, by omega⟩ : Fin 128)) : EReal) - x (ix3 (⟨100 * s + t, by omega⟩ : Fin 200) b (⟨j.val, by omega⟩ : Fin 128)))

/-- The arrays at the region's entry hold the problem's data. -/
structure Given (c : Dev nD) (P : Problem) : Prop where
  pairs : ∀ (s : ℕ) (hs : s < 2) (t : ℕ) (ht : t ≤ 99) (b : Fin 128) (j : Fin 64),
    pairOf (V m c main_v8) (V m c main_v4) s hs t ht b j = P.x b (100 * s + t) j
  v12 : ∀ k j : Fin 64, (V m c main_v12 (ix2 k j) : EReal) = P.W.wx k (col 0 j)
  v15 : ∀ k j : Fin 64, (V m c main_v15 (ix2 k j) : EReal) = P.W.wx k (col 1 j)
  v18 : ∀ k j : Fin 64, (V m c main_v18 (ix2 k j) : EReal) = P.W.wx k (col 2 j)
  v13 : ∀ k j : Fin 64, (V m c main_v13 (ix2 k j) : EReal) = P.W.wh k (col 0 j)
  v16 : ∀ k j : Fin 64, (V m c main_v16 (ix2 k j) : EReal) = P.W.wh k (col 1 j)
  v19 : ∀ k j : Fin 64, (V m c main_v19 (ix2 k j) : EReal) = P.W.wh k (col 2 j)
  v14 : ∀ j : Fin 64, (V m c main_v14 (ix2 (0 : Fin 1) j) : EReal) = P.W.b (col 0 j)
  v17 : ∀ j : Fin 64, (V m c main_v17 (ix2 (0 : Fin 1) j) : EReal) = P.W.b (col 1 j)
  v20 : ∀ j : Fin 64, (V m c main_v20 (ix2 (0 : Fin 1) j) : EReal) = P.W.b (col 2 j)
  arg6 : ∀ k j : Fin 64, (V m c main_arg6 (ix2 k j) : EReal) = P.w k j
  v9 : ∀ j : Fin 64, (V m c main_v9 (ix2 (0 : Fin 1) j) : EReal) = P.v j
  v7 : ∀ k : Fin 3, (V m c main_v7 (ix1 k) : EReal) = P.dt k.val
  arg8 : ∀ (k : Fin 64) (n : Fin 100000), (V m c main_arg8 (ix2 k n) : EReal) = P.wo k n.val
  v10 : ∀ n : Fin 100000, (V m c main_v10 (ix2 (0 : Fin 1) n) : EReal) = P.bo n.val

/-- What the scratch buffers hold before point `n`. -/
def Carried (P : Problem) (n : ℕ) (f : Vec Ideal S128x64 .f32) (g : Vec Ideal S512x64 .f32) : Prop :=
  (n = 1 → AtTime P.W P.x 100 f) ∧ (2 ≤ n → AllTimes P.W P.x P.w P.v P.dt g)

variable (P : Dev nD → Problem)

def dats (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t
    | 7 => iblk m c 7 t | 8 => iblk m c 8 t | 9 => iblk m c 9 t | 10 => iblk m c 10 t | 11 => iblk m c 11 t | 12 => iblk m c 12 t | 13 => iblk m c 13 t
    | 14 => win0_14.fill (grid0.coords t) (fun _ => (0 : EReal)) (iblk m c 14 t)
    | 15 => win0_15.fill (grid0.coords t) (fun _ => (0 : EReal)) (iblk m c 15 t)
    | 16 => fun y : S4x6144x128.Idx => (P c).out (y 0).val (6144 * (t.val - 2) + (y 1).val) (y 2)
    | ⟨_ + 17, h⟩ => absurd h (Nat.not_lt.2 (Nat.le_add_left _ _))
  Φ n := iprop((∃ f g, ⌜Carried (P c) n.val f g⌝ ∗ owns (c : Thread nD τ) (Memref.whole cc0_scratch0) fullShare f
      ∗ owns (c : Thread nD τ) (Memref.whole cc0_scratch1) fullShare g) ∗ ∃ r, prngReg c r)
  q _ := fullShare
  owed _ := 0

theorem A_eq (c : Dev nD) (w : Fin cfg0.W) : (dats m P 0 c).A w = V m c (Pipeline.arrRef spec0 w) := by
  dsimp only [dats]

/-! ## The windows of one point hold what the body's lemmas ask for -/

section Values

/-- The buffers' contents before the body at point `t`. -/
structure Held (c : Dev nD) (t : Fin cfg0.N) (X : Vals Ideal) : Prop where
  x1 : X.x1 = iblk m c 0 t
  x2 : X.x2 = iblk m c 1 t
  x3 : X.x3 = iblk m c 2 t
  x4 : X.x4 = iblk m c 3 t
  x5 : X.x5 = iblk m c 4 t
  x6 : X.x6 = iblk m c 5 t
  x7 : X.x7 = iblk m c 6 t
  x8 : X.x8 = iblk m c 7 t
  x9 : X.x9 = iblk m c 8 t
  x10 : X.x10 = iblk m c 9 t
  x11 : X.x11 = iblk m c 10 t
  x12 : X.x12 = iblk m c 11 t
  x13 : X.x13 = iblk m c 12 t
  x14 : X.x14 = iblk m c 13 t
  x15 : ∃ d, X.x15 = win0_14.fill (grid0.coords t) d (iblk m c 14 t)
  x16 : ∃ d, X.x16 = win0_15.fill (grid0.coords t) d (iblk m c 15 t)

variable {m P} {c : Dev nD} {t : Fin cfg0.N} {X : Vals Ideal} (h : Given m c (P c)) (hX : Held m c t X)

include h hX

theorem fits_pick (ht : t.val < 2) (q : ℕ) (hq : q ≤ 99) (b : Fin 128) (j : Fin 64) :
    pick X.x1 (choices X) q hq (ix2 b j) = (P c).x b (100 * t.val + q) j := by
  rw [pick_apply, choices_apply, hX.x1, hX.x2, ← h.pairs t.val ht q hq b j]
  unfold pairOf
  refine congrArg₂ (· + ·) (block0 m c t ht _ _ _) (congrArg₂ (· * ·) (block1 m c t ht _ _) (congrArg₂ (· - ·) (block0 m c t ht _ _ _) (block0 m c t ht _ _ _)))

theorem fits (ht : t.val < 2) : Fits (P c).W (P c).x (100 * t.val) X where
  x1 q hq b j := fits_pick h hX ht q hq b j
  x3 k j := by rw [hX.x3, block2]; exact h.v12 k j
  x4 k j := by rw [hX.x4, block3]; exact h.v15 k j
  x5 k j := by rw [hX.x5, block4]; exact h.v18 k j
  x6 k j := by rw [hX.x6, block5]; exact h.v13 k j
  x7 k j := by rw [hX.x7, block6]; exact h.v16 k j
  x8 k j := by rw [hX.x8, block7]; exact h.v19 k j
  x9 j := by rw [hX.x9, block8]; exact h.v14 j
  x10 j := by rw [hX.x10, block9]; exact h.v17 j
  x11 j := by rw [hX.x11, block10]; exact h.v20 j

theorem solves : Solves (P c).w (P c).v (P c).dt X where
  x12 k j := by rw [hX.x12, block11]; exact h.arg6 k j
  x13 j := by rw [hX.x13, block12]; exact h.v9 j
  x14 k hk := by
    rw [hX.x14, block13]
    refine Eq.trans ?_ (h.v7 ⟨k, by omega⟩)
    exact congrArg (V m c main_v7) (funext fun a => match a with | ⟨0, _⟩ => rfl)

theorem carried0 (h0 : t.val = 0) : AtTime (P c).W (P c).x 100 (next (grid0.coords t) X).x18 := by
  have hi := coords_val t
  have hf := fits h hX (by omega)
  rw [h0] at hf
  unfold next
  rw [if_pos (by omega)]
  unfold after
  rw [if_neg (by omega)]
  refine scanned_apply (s := 0) ?_ (init_apply _ (by omega))
  unfold init
  rw [if_pos (by omega)]
  exact ⟨hf.x1, hf.x3, hf.x4, hf.x5, hf.x6, hf.x7, hf.x8, hf.x9, hf.x10, hf.x11⟩

theorem carried1 (h1 : t.val = 1) (hc : AtTime (P c).W (P c).x 100 X.x18) :
    AllTimes (P c).W (P c).x (P c).w (P c).v (P c).dt (next (grid0.coords t) X).x19 := by
  have hi := coords_val t
  have hf := fits h hX (by omega)
  rw [h1] at hf
  unfold next
  rw [if_pos (by omega)]
  have e : init (grid0.coords t) X = X := by unfold init; rw [if_neg (by omega)]
  rw [e]
  exact pages_apply _ (by omega) hf hc (solves h hX)

/-- What the body leaves in the scratch buffers. -/
theorem carried (hc : Carried (P c) t.val X.x18 X.x19) :
    Carried (P c) (t.val + 1) (next (grid0.coords t) X).x18 (next (grid0.coords t) X).x19 := by
  refine ⟨fun h0 => carried0 h hX (by omega), fun h2 => ?_⟩
  by_cases h1 : t.val = 1
  · exact carried1 h hX h1 (hc.1 h1)
  · have hi := coords_val t
    unfold next
    rw [if_neg (by omega)]
    exact hc.2 (by omega)

theorem written_apply (hc : Carried (P c) t.val X.x18 X.x19) (ht : 2 ≤ t.val) (k : Fin 4) (n : Fin 6144) (b : Fin 128) (hn : 6144 * (t.val - 2) + n.val < 100000) :
    (next (grid0.coords t) X).x17 (ix3 k n b) = (P c).out k.val (6144 * (t.val - 2) + n.val) b := by
  have hi := coords_val t
  obtain ⟨d14, e14⟩ := hX.x15
  obtain ⟨d15, e15⟩ := hX.x16
  unfold next
  rw [if_neg (by omega), blockOut_apply, e14, e15]
  unfold Problem.out
  refine congrArg₂ (· + ·) (Finset.sum_congr rfl fun j _ => congrArg₂ (· * ·) ?_ ?_) ?_
  · exact (block14 m c t ht d14 j n hn).trans (h.arg8 j ⟨_, hn⟩)
  · exact hc.2 ht k b j
  · exact (block15 m c t ht d15 n hn).trans (h.v10 ⟨_, hn⟩)

/-- What the body leaves in the outputs' window, on the part that is written back. -/
theorem written (hc : Carried (P c) t.val X.x18 X.x19) (ht : 2 ≤ t.val) :
    win0_16.cut (grid0.coords t) (next (grid0.coords t) X).x17
      = win0_16.cut (grid0.coords t) (fun y : S4x6144x128.Idx => (P c).out (y 0).val (6144 * (t.val - 2) + (y 1).val) (y 2)) := by
  funext j
  have hm := moved16 t _ (win0_16.moved_xinj (grid0.coords t) j)
  show (next (grid0.coords t) X).x17 (win0_16.xinj (grid0.coords t) j) = (fun y : S4x6144x128.Idx => (P c).out (y 0).val (6144 * (t.val - 2) + (y 1).val) (y 2)) (win0_16.xinj (grid0.coords t) j)
  generalize win0_16.xinj (grid0.coords t) j = y at hm ⊢
  obtain ⟨k, n, b, rfl⟩ : ∃ (k : Fin 4) (n : Fin 6144) (b : Fin 128), (y : S4x6144x128.Idx) = ix3 k n b := ⟨y 0, y 1, y 2, eq_ix3 _⟩
  exact written_apply h hX hc ht k n b hm

omit h in
/-- The body leaves its inputs' windows as it found them. -/
theorem keeps : Held m c t (next (grid0.coords t) X) := by
  unfold next
  split
  · unfold after init
    split <;> split <;> exact ⟨hX.x1, hX.x2, hX.x3, hX.x4, hX.x5, hX.x6, hX.x7, hX.x8, hX.x9, hX.x10, hX.x11, hX.x12, hX.x13, hX.x14, hX.x15, hX.x16⟩
  · exact ⟨hX.x1, hX.x2, hX.x3, hX.x4, hX.x5, hX.x6, hX.x7, hX.x8, hX.x9, hX.x10, hX.x11, hX.x12, hX.x13, hX.x14, hX.x15, hX.x16⟩

omit h hX in
theorem kept16 (ht : t.val < 2) : (next (grid0.coords t) X).x17 = X.x17 := by
  have hi := coords_val t
  unfold next
  rw [if_pos (by omega)]
  unfold after init
  split <;> split <;> rfl

end Values

end Cert.FusedIdeal.Track

end
-- ==== Proof.FusedIdeal.TrackRun.lean ====
/-
  The TensorCore call of `FusedIdeal`, run with what it carries, to the end of the program.
-/
module

public import proofs.«01_k».proof.Proof.FusedIdeal.Track

@[expose] public section

set_option maxRecDepth 16384

noncomputable section

namespace Cert.FusedIdeal.Track

open Cert.FusedIdeal Cert.FusedIdeal.Gen Cert.FusedIdeal.Scan Cert.FusedIdeal.Base Cert.FusedIdeal.Model Cert.FusedIdeal.Read Cert.FusedIdeal.Tiles
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg) (P : Dev nD → Problem)

theorem before14 (c : Dev nD) (t : Fin cfg0.N) (d) : (dats m P 0 c).before 14 t d = win0_14.fill (grid0.coords t) d (iblk m c 14 t) :=
  (dats m P 0 c).before_in_eq_fetched 14 rfl (fun _ => rfl) (fun t t' h => by
    show (fun a => Pipeline.Clip.of (win0_14.index t a) _ _) = fun a => Pipeline.Clip.of (win0_14.index t' a) _ _
    rw [show win0_14.index t = win0_14.index t' from h]) (fun t => win0_14.cut_fill _ _ _) t d

theorem before15 (c : Dev nD) (t : Fin cfg0.N) (d) : (dats m P 0 c).before 15 t d = win0_15.fill (grid0.coords t) d (iblk m c 15 t) :=
  (dats m P 0 c).before_in_eq_fetched 15 rfl (fun _ => rfl) (fun t t' h => by
    show (fun a => Pipeline.Clip.of (win0_15.index t a) _ _) = fun a => Pipeline.Clip.of (win0_15.index t' a) _ _
    rw [show win0_15.index t = win0_15.index t' from h]) (fun t => win0_15.cut_fill _ _ _) t d

/-- What the scratch buffers and the generator hold before point `n`. -/
def carry (c : Dev nD) (n : ℕ) : sProp 𝕄 :=
  iprop((∃ f g, ⌜Carried (P c) n f g⌝ ∗ owns (c : Thread nD τ) (Memref.whole cc0_scratch0) fullShare f
      ∗ owns (c : Thread nD τ) (Memref.whole cc0_scratch1) fullShare g) ∗ ∃ r, prngReg c r)

def bodyPre (c : Dev nD) (t : Fin cfg0.N) : sProp 𝕄 :=
  iprop(carry P c t.val ∗ (dats m P 0 c).owesAt () t.castSucc
    ∗ (∃ d, owns (c : Thread nD τ) (st0_0 t) fullShare ((dats m P 0 c).before 0 t d))
    ∗ (∃ d, owns (c : Thread nD τ) (st0_1 t) fullShare ((dats m P 0 c).before 1 t d))
    ∗ (∃ d, owns (c : Thread nD τ) (st0_2 t) fullShare ((dats m P 0 c).before 2 t d))
    ∗ (∃ d, owns (c : Thread nD τ) (st0_3 t) fullShare ((dats m P 0 c).before 3 t d))
    ∗ (∃ d, owns (c : Thread nD τ) (st0_4 t) fullShare ((dats m P 0 c).before 4 t d))
    ∗ (∃ d, owns (c : Thread nD τ) (st0_5 t) fullShare ((dats m P 0 c).before 5 t d))
    ∗ (∃ d, owns (c : Thread nD τ) (st0_6 t) fullShare ((dats m P 0 c).before 6 t d))
    ∗ (∃ d, owns (c : Thread nD τ) (st0_7 t) fullShare ((dats m P 0 c).before 7 t d))
    ∗ (∃ d, owns (c : Thread nD τ) (st0_8 t) fullShare ((dats m P 0 c).before 8 t d))
    ∗ (∃ d, owns (c : Thread nD τ) (st0_9 t) fullShare ((dats m P 0 c).before 9 t d))
    ∗ (∃ d, owns (c : Thread nD τ) (st0_10 t) fullShare ((dats m P 0 c).before 10 t d))
    ∗ (∃ d, owns (c : Thread nD τ) (st0_11 t) fullShare ((dats m P 0 c).before 11 t d))
    ∗ (∃ d, owns (c : Thread nD τ) (st0_12 t) fullShare ((dats m P 0 c).before 12 t d))
    ∗ (∃ d, owns (c : Thread nD τ) (st0_13 t) fullShare ((dats m P 0 c).before 13 t d))
    ∗ (∃ d, owns (c : Thread nD τ) (st0_14 t) fullShare ((dats m P 0 c).before 14 t d))
    ∗ (∃ d, owns (c : Thread nD τ) (st0_15 t) fullShare ((dats m P 0 c).before 15 t d))
    ∗ (∃ d, owns (c : Thread nD τ) (st0_16 t) fullShare ((dats m P 0 c).before 16 t d)))

def bodyPost (c : Dev nD) (t : Fin cfg0.N) : sProp 𝕄 :=
  iprop(carry P c (t.val + 1) ∗ (dats m P 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ owns (c : Thread nD τ) (st0_13 t) fullShare (iblk m c 13 t)
    ∗ (∃ d, owns (c : Thread nD τ) (st0_14 t) fullShare (win0_14.fill (grid0.coords t) d (win0_14.cut (grid0.coords t) ((dats m P 0 c).after 14 t))))
    ∗ (∃ d, owns (c : Thread nD τ) (st0_15 t) fullShare (win0_15.fill (grid0.coords t) d (win0_15.cut (grid0.coords t) ((dats m P 0 c).after 15 t))))
    ∗ (dats m P 0 c).leaves 16 t)

/-- What is left of the outputs' window is what the pipeline asks for. -/
theorem leaves16 {c : Dev nD} {t : Fin cfg0.N} {X : Vals Ideal} (h : Given m c (P c)) (hX : Held m c t X) (hc : Carried (P c) t.val X.x18 X.x19)
    (d) (e : X.x17 = (dats m P 0 c).before 16 t d) :
    owns (c : Thread nD τ) (st0_16 t) fullShare (next (grid0.coords t) X).x17 ⊢ ((dats m P 0 c).leaves 16 t : sProp 𝕄) := by
  unfold Dat.leaves
  by_cases ht : t.val < 2
  · rw [show cfg0.idle 16 (cfg0.grid.coords t) = true from (idle0_16 t).mpr ht, show (cfg0.win 16).flush t = false from by
      rw [Bool.eq_false_iff]; exact mt (flush0_16 t).mp (by omega), kept16 ht, e]
    iintro H; iexists d; iexact H
  · rw [show cfg0.idle 16 (cfg0.grid.coords t) = false from by rw [Bool.eq_false_iff]; exact mt (idle0_16 t).mp ht]
    dsimp only
    iintro H
    iexists (next (grid0.coords t) X).x17
    rw [show (cfg0.win 16).fill (cfg0.grid.coords t) (next (grid0.coords t) X).x17 ((cfg0.win 16).cut (cfg0.grid.coords t) ((dats m P 0 c).after 16 t))
      = (next (grid0.coords t) X).x17 from win0_16.fill_congr_cut _ (written h hX hc (by omega))]
    iexact H

set_option maxHeartbeats 4000000 in
theorem run_held (hG : ∀ c, Given m c (P c)) {c : Dev nD} {t : Fin cfg0.N} {X : Vals Ideal} (hX : Held m c t X) (hc : Carried (P c) t.val X.x18 X.x19)
    (d) (e : X.x17 = (dats m P 0 c).before 16 t d) :
    iprop(St c (mems t) X ∗ (∃ r, prngReg c r) ∗ (dats m P 0 c).owesAt () t.castSucc)
      ⊢ wp frame (wpE (defs₀ (F := Ideal)) Variants.none c none) Set.univ (bodyAt0 t) (fun _ => bodyPost m P c t) := by
  have hr := body_run c t X
  have hk := keeps hX
  have hn := carried (hG c) hX hc
  have hl := leaves16 m P (hG c) hX hc d e
  generalize next (grid0.coords t) X = Y at hr hk hn hl
  obtain ⟨e14, h14⟩ := hk.x15
  obtain ⟨e15, h15⟩ := hk.x16
  iintro ⟨HX, Hr, Ho⟩
  iapply (hr.run Set.univ _)
  isplitl [HX]; · iexact HX
  iintro H
  unfold St owned mems
  simp only [sepAll]
  rw [hk.x1, hk.x2, hk.x3, hk.x4, hk.x5, hk.x6, hk.x7, hk.x8, hk.x9, hk.x10, hk.x11, hk.x12, hk.x13, hk.x14, h14, h15]
  icases H with ⟨H0, H1, H2, H3, H4, H5, H6, H7, H8, H9, H10, H11, H12, H13, H14, H15, H16, H17, H18, -⟩
  unfold bodyPost carry
  isplitl [H17 H18 Hr]
  · isplitl [H17 H18]
    · iexists Y.x18
      iexists Y.x19
      isplitr
      · ipureintro; exact hn
      isplitl [H17]
      · iexact H17
      · iexact H18
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists e14
    rw [show win0_14.cut (grid0.coords t) ((dats m P 0 c).after 14 t) = iblk m c 14 t from win0_14.cut_fill _ _ _]
    iexact H14
  isplitl [H15]
  · iexists e15
    rw [show win0_15.cut (grid0.coords t) ((dats m P 0 c).after 15 t) = iblk m c 15 t from win0_15.cut_fill _ _ _]
    iexact H15
  iapply hl
  iexact H16

set_option maxHeartbeats 4000000 in
theorem sound_body (hG : ∀ c, Given m c (P c)) (c : Dev nD) (t : Fin cfg0.N) :
    bodyPre m P c t ⊢ wp frame (wpE (defs₀ (F := Ideal)) Variants.none c none) Set.univ (bodyAt0 t) (fun _ => bodyPost m P c t) := by
  unfold bodyPre carry
  iintro ⟨⟨⟨%f, %g, %hc, H17, H18⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [before0_0_of m (dats m P 0 c) (A_eq m P c 0) (fun _ => rfl) t d0]
  rw [before0_1_of m (dats m P 0 c) (A_eq m P c 1) (fun _ => rfl) t d1]
  rw [before0_2_of m (dats m P 0 c) (A_eq m P c 2) (fun _ => rfl) t d2]
  rw [before0_3_of m (dats m P 0 c) (A_eq m P c 3) (fun _ => rfl) t d3]
  rw [before0_4_of m (dats m P 0 c) (A_eq m P c 4) (fun _ => rfl) t d4]
  rw [before0_5_of m (dats m P 0 c) (A_eq m P c 5) (fun _ => rfl) t d5]
  rw [before0_6_of m (dats m P 0 c) (A_eq m P c 6) (fun _ => rfl) t d6]
  rw [before0_7_of m (dats m P 0 c) (A_eq m P c 7) (fun _ => rfl) t d7]
  rw [before0_8_of m (dats m P 0 c) (A_eq m P c 8) (fun _ => rfl) t d8]
  rw [before0_9_of m (dats m P 0 c) (A_eq m P c 9) (fun _ => rfl) t d9]
  rw [before0_10_of m (dats m P 0 c) (A_eq m P c 10) (fun _ => rfl) t d10]
  rw [before0_11_of m (dats m P 0 c) (A_eq m P c 11) (fun _ => rfl) t d11]
  rw [before0_12_of m (dats m P 0 c) (A_eq m P c 12) (fun _ => rfl) t d12]
  rw [before0_13_of m (dats m P 0 c) (A_eq m P c 13) (fun _ => rfl) t d13]
  rw [before14 m P c t d14, before15 m P c t d15]
  iapply (run_held m P hG (X := ⟨iblk m c 0 t, iblk m c 1 t, iblk m c 2 t, iblk m c 3 t, iblk m c 4 t, iblk m c 5 t, iblk m c 6 t, iblk m c 7 t, iblk m c 8 t, iblk m c 9 t,
      iblk m c 10 t, iblk m c 11 t, iblk m c 12 t, iblk m c 13 t, win0_14.fill (grid0.coords t) d14 (iblk m c 14 t), win0_15.fill (grid0.coords t) d15 (iblk m c 15 t),
      (dats m P 0 c).before 16 t d16, f, g⟩) ⟨rfl, rfl, rfl, rfl, rfl, rfl, rfl, rfl, rfl, rfl, rfl, rfl, rfl, rfl, ⟨d14, rfl⟩, ⟨d15, rfl⟩⟩ hc d16 rfl)
  isplitr [Hr Ho]
  · unfold St owned mems
    simp only [sepAll]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iempintro
  isplitl [Hr]; · iexact Hr
  iexact Ho

set_option maxHeartbeats 4000000 in
theorem body_obligation (hG : ∀ c, Given m c (P c)) (c : Dev nD) : BodyObligationLoose (dats m P 0 c) (defs₀ (F := Ideal)) Variants.none () Set.univ := fun t => by
  rw [bigSep_W0, bigSep_W0, defs₀_row]
  exact triple_restated (sound_body m P hG c t) rfl .rfl fun _ => .rfl

end Cert.FusedIdeal.Track

end
-- ==== Proof.FusedIdeal.Output.lean ====
/-
  What the TensorCore call of `FusedIdeal` leaves in the outputs' array.
-/
module

public import proofs.«01_k».proof.Proof.FusedIdeal.TrackRun

@[expose] public section

set_option maxRecDepth 16384

noncomputable section

namespace Cert.FusedIdeal.Track

open Cert.FusedIdeal Cert.FusedIdeal.Gen Cert.FusedIdeal.Scan Cert.FusedIdeal.Base Cert.FusedIdeal.Model Cert.FusedIdeal.Read Cert.FusedIdeal.Tiles
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (m : (ℓ : Loc nD τ sig) → Buf (Elt Ideal) ℓ) (ρ : Dev nD → PrngReg) (P : Dev nD → Problem)

theorem scratch_eq (c : Dev nD) : (Pipeline.ΦA spec0 c : sProp (MT nD τ sig Unit (Elt Ideal) ℕ (UR sig nD τ) ℕ)) = iprop(((∃ f, owns (c : Thread nD τ) (Memref.whole cc0_scratch0) fullShare f)
      ∗ (∃ f, owns (c : Thread nD τ) (Memref.whole cc0_scratch1) fullShare f)) ∗ ∃ r, prngReg c r) := by
  unfold Pipeline.ΦA
  rw [scopedRest0_eq]
  simp only [owns_whole]

theorem run_tracked (hG : ∀ c, Given m c (P c)) : θ_run (defs (F := Ideal)) (onTc (τ := τ) (main (F := Ideal))) (s₀ m ρ)
    (fun r => Pipeline.FramePost cfgs (dats m P) 0 (V m) r) :=
  Pipeline.θ_run_frame_track (Q' := _) cfgs (dats m P) (0 : Fin 1) launch0 defs₀ Variants.none m ρ main
    (hbody := fun c => body_obligation m P hG c) (hshare := fun c => (dats m P 0 c).share_full fun _ => rfl)
    (howed := fun _ _ => rfl) (V := V m) (hmain := hmain m Variants.none) (hA := A_eq m P)
    (hin := fun c => by
      show _ ⊢ carry P c 0
      rw [scratch_eq]
      unfold carry
      iintro ⟨⟨⟨%f, H1⟩, ⟨%g, H2⟩⟩, Hr⟩
      isplitl [H1 H2]
      · iexists f
        iexists g
        isplitr
        · ipureintro; exact ⟨fun h => absurd h (by omega), fun h => absurd h (by omega)⟩
        isplitl [H1]
        · iexact H1
        · iexact H2
      iexact Hr)
    (hout := fun c => by
      show carry P c 19 ⊢ _
      rw [scratch_eq]
      unfold carry
      iintro ⟨⟨%f, %g, -, H1, H2⟩, Hr⟩
      isplitl [H1 H2]
      · isplitl [H1]
        · iexists f; iexact H1
        · iexists g; iexact H2
      iexact Hr)

/-- Every element of the outputs' array, after the run. -/
theorem array_out (c : Dev nD) (y : S4x100000x128.Idx) :
    ((dats m P 0 c).arrAt 16 cfg0.N y : EReal) = (P c).out (y 0).val (y 1).val (y 2) := by
  refine (dats m P 0 c).arrAt_forall_of_cover 16 (fun (y : S4x100000x128.Idx) (e : EReal) => e = (P c).out (y 0).val (y 1).val (y 2)) ?_ ?_ y
  · intro t ht z
    have h2 := (flush0_16 t).mp ht
    rw [cast_eq]
    have e0 : (((win0_16.rect t).emb z 0 : Fin _).val : ℕ) = (z 0).val := Window.rect_emb_val_of_index_zero win0_16 t 0 rfl z
    have e1 : (((win0_16.rect t).emb z 1 : Fin _).val : ℕ) = 6144 * (t.val - 2) + (z 1).val :=
      (Window.rect_emb_val win0_16 t z 1).trans (by rw [index0_16 t h2]; show (t.val - 2) * 6144 + (z 1).val = _; omega)
    have e2 : (((win0_16.rect t).emb z 2 : Fin _).val : ℕ) = (z 2).val := Window.rect_emb_val_of_index_zero win0_16 t 2 rfl z
    show (P c).out (z 0).val (6144 * (t.val - 2) + (z 1).val) ⟨(z 2).val, _⟩ = (P c).out ((win0_16.rect t).emb z 0).val ((win0_16.rect t).emb z 1).val ((win0_16.rect t).emb z 2)
    rw [e0, e1]
    exact congrArg _ (Fin.ext e2.symm)
  · intro y
    have hy := (y 1).isLt
    have hy' : (y 1).val < 100000 := hy
    have hN : (y 1).val / 6144 + 2 < cfg0.N := by show _ < grid0.N; rw [N_0]; omega
    let t : Fin cfg0.N := ⟨(y 1).val / 6144 + 2, hN⟩
    refine ⟨t, (flush0_16 t).mpr (by show 2 ≤ (y 1).val / 6144 + 2; omega), ?_⟩
    have ht : t.val = (y 1).val / 6144 + 2 := rfl
    have hx := extent0_16 t
    refine Finset.mem_map.mpr ⟨fun a => match a with
      | ⟨0, _⟩ => ⟨(y 0).val, (y 0).isLt⟩
      | ⟨1, _⟩ => ⟨(y 1).val % 6144, by show _ < win0_16.xsize (grid0.coords t) 1; omega⟩
      | ⟨2, _⟩ => ⟨(y 2).val, (y 2).isLt⟩, Finset.mem_univ _, ?_⟩
    funext a
    apply Fin.ext
    match a with
    | ⟨0, _⟩ => exact Window.rect_emb_val_of_index_zero win0_16 t 0 rfl _
    | ⟨1, _⟩ =>
      refine (Window.rect_emb_val win0_16 t _ 1).trans ?_
      rw [index0_16 t (by omega)]
      show (t.val - 2) * 6144 + (y 1).val % 6144 = (y 1).val
      omega
    | ⟨2, _⟩ => exact Window.rect_emb_val_of_index_zero win0_16 t 2 rfl _

/-- The outputs the problems name, as one array. -/
def outs (c : Dev nD) : FVec Ideal S4x100000x128 .f32 := fun y => (P c).out (y 0).val (y 1).val (y 2)

/-- The run ends with the named outputs in the result, and its arguments as they were. -/
theorem run_outs (hG : ∀ c, Given m c (P c)) : θ_run (defs (F := Ideal)) (onTc (τ := τ) (main (F := Ideal))) ⟨m, fun _ => 0, ρ⟩ (fun r => ∀ c : Dev nD,
      r.2.mem ((c.tc : Thread nD τ).loc main_v21) = outs P c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 16).trans (funext fun y => array_out m P c y),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 11).trans (((dats m P 0 c).arrAt_in 11 rfl _).trans ((A_eq m P c 11).trans (V_main_arg6 m c))),
      ((h c).2 main_arg7 (Pipeline.mem_restRefs_of main_arg7 (by decide) (by decide))).trans (V_main_arg7 m c),
      ((h c).1 14).trans (((dats m P 0 c).arrAt_in 14 rfl _).trans ((A_eq m P c 14).trans (V_main_arg8 m c))),
      ((h c).2 main_arg9 (Pipeline.mem_restRefs_of main_arg9 (by decide) (by decide))).trans (V_main_arg9 m c)⟩) (run_tracked m ρ P hG)

end Cert.FusedIdeal.Track

end
-- ==== Proof.FusedIdeal.Entry.lean ====
/-
  The arrays at the entry of `FusedIdeal`'s one TensorCore call, read at one entry each from the arguments.
-/
module

public import proofs.«01_k».proof.Proof.FusedIdeal.Output
public import Idealize.ShloMosaic.Lib.StableHlo.RunClose
public import Idealize.ShloMosaic.Lib.ReduceAll

@[expose] public section

set_option maxRecDepth 16384

noncomputable section

namespace Cert.FusedIdeal.Entry

open Cert.FusedIdeal Cert.FusedIdeal.Gen Cert.FusedIdeal.Model Cert.FusedIdeal.Track
open Idealize.ShloMosaic Idealize.ShloMosaic.TcCoe Idealize.ShloMosaic.ValueIdx

variable (m : (ℓ : Loc nD τ sig) → Buf (Elt Ideal) ℓ) (c : Dev nD)

/-- The arguments, each with its type. -/
abbrev a0 : Vec Ideal S128x200 .i32 := m ((c : Thread nD τ).loc main_arg0)
abbrev a1 : FVec Ideal S4 .f32 := m ((c : Thread nD τ).loc main_arg1)
abbrev a2 : FVec Ideal S25600x128 .f32 := m ((c : Thread nD τ).loc main_arg2)
abbrev a3 : FVec Ideal S64x192 .f32 := m ((c : Thread nD τ).loc main_arg3)
abbrev a4 : FVec Ideal S64x192 .f32 := m ((c : Thread nD τ).loc main_arg4)
abbrev a5 : FVec Ideal S192 .f32 := m ((c : Thread nD τ).loc main_arg5)
abbrev a6 : FVec Ideal S64x64 .f32 := m ((c : Thread nD τ).loc main_arg6)
abbrev a7 : FVec Ideal S64 .f32 := m ((c : Thread nD τ).loc main_arg7)
abbrev a8 : FVec Ideal S64x100000 .f32 := m ((c : Thread nD τ).loc main_arg8)
abbrev a9 : FVec Ideal S100000 .f32 := m ((c : Thread nD τ).loc main_arg9)

/-- The input of row `b` at time `t`: the right half of its pair of rows for an index from 50000 on, else the left half. -/
def input (x0 : Vec Ideal S128x200 .i32) (x2 : FVec Ideal S25600x128 .f32) (b : Fin 128) (t : ℕ) (j : Fin 64) : EReal :=
  if ht : t < 200 then
    if IntOp.cmpi .sge (x0 (ix2 b (⟨t, ht⟩ : Fin 200))) 50000#32 = 1#1 then x2 (ix2 (⟨128 * t + b.val, by omega⟩ : Fin 25600) (⟨64 + j.val, by omega⟩ : Fin 128))
    else x2 (ix2 (⟨128 * t + b.val, by omega⟩ : Fin 25600) (⟨j.val, by omega⟩ : Fin 128))
  else 0

/-- The step from time `k` to the next. -/
def stepOf (x1 : FVec Ideal S4 .f32) (k : ℕ) : EReal :=
  if hk : k < 3 then (x1 (ix1 (⟨1 + k, by omega⟩ : Fin 4)) : EReal) - x1 (ix1 (⟨k, by omega⟩ : Fin 4)) else 0

/-- The problem the arguments pose. -/
def problem : Problem where
  W := { wx := fun k q => a3 m c (ix2 k q), wh := fun k q => a4 m c (ix2 k q), b := fun q => a5 m c (ix1 q) }
  x := input (a0 m c) (a2 m c)
  w := fun k j => a6 m c (ix2 k j)
  v := fun j => a7 m c (ix1 j)
  dt := stepOf (a1 m c)
  wo := fun k n => if h : n < 100000 then a8 m c (ix2 k (⟨n, h⟩ : Fin 100000)) else 0
  bo := fun n => if h : n < 100000 then a9 m c (ix1 (⟨n, h⟩ : Fin 100000)) else 0

/-! ## The arrays as terms of the arguments -/

theorem V_v4 : V m c main_v4 = transpose S2x128x100 [1, 0, 2] (shapeCast S128x2x100 (uitofp (F := Ideal) .f32 (cmpi .sge (a0 m c)
    (broadcastInDim S128x200 ![] bcast_S_S128x200 (constantI S_ 32 50000#32)))) shapeCasts_S128x200_S128x2x100) transposes_S128x2x100_S2x128x100_1_0_2 := by
  simp only [V, hostOps0]
  after_results_entrywise []

theorem V_v7 : V m c main_v7 = subf (extractStridedSlice S3 ![1] (a1 m c) slices_S4_S3_1) (extractStridedSlice S3 ![0] (a1 m c) slices_S4_S3_0) := by
  simp only [V, hostOps0]
  after_results_entrywise []

theorem V_v8 : V m c main_v8 = shapeCast S200x128x128 (a2 m c) shapeCasts_S25600x128_S200x128x128 := by
  simp only [V, hostOps0]
  after_results_entrywise []

theorem V_v9 : V m c main_v9 = shapeCast S1x64 (a7 m c) shapeCasts_S64_S1x64 := by
  simp only [V, hostOps0]
  after_results_entrywise []

theorem V_v10 : V m c main_v10 = shapeCast S1x100000 (a9 m c) shapeCasts_S100000_S1x100000 := by
  simp only [V, hostOps0]
  after_results_entrywise []

theorem V_v12 : V m c main_v12 = extractStridedSlice S64x64 ![0, 0] (a3 m c) slices_S64x192_S64x64_0_0 := by
  simp only [V, hostOps0]
  after_results_entrywise []

theorem V_v15 : V m c main_v15 = extractStridedSlice S64x64 ![0, 64] (a3 m c) slices_S64x192_S64x64_0_64 := by
  simp only [V, hostOps0]
  after_results_entrywise []

theorem V_v18 : V m c main_v18 = extractStridedSlice S64x64 ![0, 128] (a3 m c) slices_S64x192_S64x64_0_128 := by
  simp only [V, hostOps0]
  after_results_entrywise []

theorem V_v13 : V m c main_v13 = extractStridedSlice S64x64 ![0, 0] (a4 m c) slices_S64x192_S64x64_0_0 := by
  simp only [V, hostOps0]
  after_results_entrywise []

theorem V_v16 : V m c main_v16 = extractStridedSlice S64x64 ![0, 64] (a4 m c) slices_S64x192_S64x64_0_64 := by
  simp only [V, hostOps0]
  after_results_entrywise []

theorem V_v19 : V m c main_v19 = extractStridedSlice S64x64 ![0, 128] (a4 m c) slices_S64x192_S64x64_0_128 := by
  simp only [V, hostOps0]
  after_results_entrywise []

theorem V_v14 : V m c main_v14 = extractStridedSlice S1x64 ![0, 0] (shapeCast S1x192 (a5 m c) shapeCasts_S192_S1x192) slices_S1x192_S1x64_0_0 := by
  simp only [V, hostOps0]
  after_results_entrywise []

theorem V_v17 : V m c main_v17 = extractStridedSlice S1x64 ![0, 64] (shapeCast S1x192 (a5 m c) shapeCasts_S192_S1x192) slices_S1x192_S1x64_0_64 := by
  simp only [V, hostOps0]
  after_results_entrywise []

theorem V_v20 : V m c main_v20 = extractStridedSlice S1x64 ![0, 128] (shapeCast S1x192 (a5 m c) shapeCasts_S192_S1x192) slices_S1x192_S1x64_0_128 := by
  simp only [V, hostOps0]
  after_results_entrywise []

/-! ## Their entries -/

/-- One gate's columns of the weights. -/
theorem gate_apply (w : FVec Ideal S64x192 .f32) (g : Fin 3) (o : ℕ) (ho : o = 64 * g.val) (h : S64x192.Slices ![0, o] S64x64) (k j : Fin 64) :
    (extractStridedSlice S64x64 ![0, o] w h (ix2 k j) : EReal) = w (ix2 k (col g j)) := by
  subst ho
  refine extractStridedSlice_apply _ _ h (ix2 k j) (ix2 k (col g j)) fun a => ?_
  fin_cases a
  · exact (Nat.zero_add _).symm
  · rfl

/-- One gate's entries of the bias. -/
theorem bias_apply (w : FVec Ideal S192 .f32) (g : Fin 3) (o : ℕ) (ho : o = 64 * g.val) (h : S1x192.Slices ![0, o] S1x64) (j : Fin 64) :
    (extractStridedSlice S1x64 ![0, o] (shapeCast S1x192 w shapeCasts_S192_S1x192) h (ix2 (0 : Fin 1) j) : EReal) = w (ix1 (col g j)) := by
  subst ho
  refine (extractStridedSlice_apply _ _ h (ix2 (0 : Fin 1) j) (ix2 (0 : Fin 1) (col g j)) fun a => ?_).trans ?_
  · fin_cases a
    · rfl
    · rfl
  · exact shapeCast_apply _ _ (ix2 (0 : Fin 1) (col g j)) (ix1 (col g j)) (by rw [Shape.rowMajor_val_one, Shape.rowMajor_val_two]; simp)

/-- The share is one for an index from 50000 on, else zero. -/
theorem share_apply (x0 : Vec Ideal S128x200 .i32) (s : ℕ) (hs : s < 2) (t : ℕ) (ht : t ≤ 99) (b : Fin 128) :
    (transpose S2x128x100 [1, 0, 2] (shapeCast S128x2x100 (uitofp (F := Ideal) .f32 (cmpi .sge x0
      (broadcastInDim S128x200 ![] bcast_S_S128x200 (constantI S_ 32 50000#32)))) shapeCasts_S128x200_S128x2x100) transposes_S128x2x100_S2x128x100_1_0_2
        (ix3 (⟨s, hs⟩ : Fin 2) b (⟨t, by omega⟩ : Fin 100)) : EReal)
      = if IntOp.cmpi .sge (x0 (ix2 b (⟨100 * s + t, by omega⟩ : Fin 200))) 50000#32 = 1#1 then 1 else 0 := by
  refine (transpose_apply _ _ _ _ (ix3 b (⟨s, hs⟩ : Fin 2) (⟨t, by omega⟩ : Fin 100)) fun a => ?_).trans ?_
  · fin_cases a <;> rfl
  refine (shapeCast_apply _ _ (ix3 b (⟨s, hs⟩ : Fin 2) (⟨t, by omega⟩ : Fin 100)) (ix2 b (⟨100 * s + t, by omega⟩ : Fin 200)) ?_).trans ?_
  · rw [Shape.rowMajor_val_two, Shape.rowMajor_val_three]
    show b.val * 200 + (100 * s + t) = (b.val * 2 + s) * 100 + t; omega
  show (((IntOp.cmpi .sge (x0 (ix2 b (⟨100 * s + t, by omega⟩ : Fin 200))) 50000#32).toNat : ℝ) : EReal) = _
  generalize IntOp.cmpi .sge (x0 (ix2 b (⟨100 * s + t, by omega⟩ : Fin 200))) 50000#32 = w
  rcases BitVec.eq_zero_or_eq_one w with rfl | rfl
  · rw [if_neg (by decide)]; simp
  · rw [if_pos rfl]; simp

/-- One entry of the pairs. -/
theorem pair_apply (x2 : FVec Ideal S25600x128 .f32) (t : Fin 200) (b q : Fin 128) :
    shapeCast S200x128x128 x2 shapeCasts_S25600x128_S200x128x128 (ix3 t b q) = x2 (ix2 (⟨128 * t.val + b.val, by omega⟩ : Fin 25600) q) :=
  shapeCast_apply _ _ (ix3 t b q) (ix2 (⟨128 * t.val + b.val, by omega⟩ : Fin 25600) q) (by
    rw [Shape.rowMajor_val_two, Shape.rowMajor_val_three]
    show (128 * t.val + b.val) * 128 + q.val = (t.val * 128 + b.val) * 128 + q.val; omega)

/-- With finite pairs the share picks one half. -/
theorem pairOf_eq (x0 : Vec Ideal S128x200 .i32) (x2 : FVec Ideal S25600x128 .f32) (hx : ∀ i, Fin' (x2 i)) (s : ℕ) (hs : s < 2) (t : ℕ) (ht : t ≤ 99)
    (b : Fin 128) (j : Fin 64) :
    pairOf (shapeCast S200x128x128 x2 shapeCasts_S25600x128_S200x128x128)
      (transpose S2x128x100 [1, 0, 2] (shapeCast S128x2x100 (uitofp (F := Ideal) .f32 (cmpi .sge x0
        (broadcastInDim S128x200 ![] bcast_S_S128x200 (constantI S_ 32 50000#32)))) shapeCasts_S128x200_S128x2x100) transposes_S128x2x100_S2x128x100_1_0_2)
      s hs t ht b j = input x0 x2 b (100 * s + t) j := by
  unfold pairOf input
  rw [dif_pos (show 100 * s + t < 200 by omega), share_apply x0 s hs t ht b]
  simp only [pair_apply]
  split
  · exact choose_right (hx _) (hx _)
  · exact choose_left (hx _) (hx _)

/-- The step from time `k`. -/
theorem step_apply (x1 : FVec Ideal S4 .f32) (k : Fin 3) :
    (subf (extractStridedSlice S3 ![1] x1 slices_S4_S3_1) (extractStridedSlice S3 ![0] x1 slices_S4_S3_0) (ix1 k) : EReal) = stepOf x1 k.val := by
  unfold stepOf
  rw [dif_pos k.isLt]
  refine congrArg₂ (fun a b : EReal => a - b) ?_ ?_
  · exact extractStridedSlice_apply _ _ _ (ix1 k) (ix1 (⟨1 + k.val, by omega⟩ : Fin 4)) fun a => by fin_cases a; rfl
  · exact extractStridedSlice_apply _ _ _ (ix1 k) (ix1 (⟨k.val, by omega⟩ : Fin 4)) fun a => by fin_cases a; exact (Nat.zero_add _).symm

/-- The arrays at the call's entry hold the problem the arguments pose. -/
theorem given (hx : ∀ i, Fin' (a2 m c i)) : Given m c (problem m c) where
  pairs s hs t ht b j := by rw [V_v8, V_v4]; exact pairOf_eq (a0 m c) (a2 m c) hx s hs t ht b j
  v12 k j := by rw [V_v12]; exact gate_apply (a3 m c) 0 0 rfl _ k j
  v15 k j := by rw [V_v15]; exact gate_apply (a3 m c) 1 64 rfl _ k j
  v18 k j := by rw [V_v18]; exact gate_apply (a3 m c) 2 128 rfl _ k j
  v13 k j := by rw [V_v13]; exact gate_apply (a4 m c) 0 0 rfl _ k j
  v16 k j := by rw [V_v16]; exact gate_apply (a4 m c) 1 64 rfl _ k j
  v19 k j := by rw [V_v19]; exact gate_apply (a4 m c) 2 128 rfl _ k j
  v14 j := by rw [V_v14]; exact bias_apply (a5 m c) 0 0 rfl _ j
  v17 j := by rw [V_v17]; exact bias_apply (a5 m c) 1 64 rfl _ j
  v20 j := by rw [V_v20]; exact bias_apply (a5 m c) 2 128 rfl _ j
  arg6 k j := by rw [V_main_arg6]; rfl
  v9 j := by
    rw [V_v9]
    exact shapeCast_apply _ _ (ix2 (0 : Fin 1) j) (ix1 j) (by rw [Shape.rowMajor_val_one, Shape.rowMajor_val_two]; simp)
  v7 k := by rw [V_v7]; exact step_apply (a1 m c) k
  arg8 k n := by
    rw [V_main_arg8]; show _ = dite (n.val < 100000) _ _
    rw [dif_pos n.isLt]
  v10 n := by
    rw [V_v10]
    refine (shapeCast_apply _ _ (ix2 (0 : Fin 1) n) (ix1 n) (by rw [Shape.rowMajor_val_one, Shape.rowMajor_val_two]; simp)).trans ?_
    show _ = dite (n.val < 100000) _ _
    rw [dif_pos n.isLt]

end Cert.FusedIdeal.Entry

end
-- ==== Proof.FusedReference.Whole.lean ====
/-
  `FusedReferenceIdeal`'s result is the outputs the kernel's problem names, and its arguments stay.
-/
module

public import proofs.«01_k».proof.Proof.FusedReference.Rows
public import proofs.«01_k».proof.Proof.FusedIdeal.Entry
public import Idealize.ShloMosaic.Lib.Quiescent

@[expose] public section

set_option maxRecDepth 16384

noncomputable section

namespace Cert.FusedReferenceIdeal.Whole

open Cert.FusedReferenceIdeal Cert.FusedReferenceIdeal.Gen Cert.FusedReferenceIdeal.Value Cert.FusedReferenceIdeal.Stretch Cert.FusedReferenceIdeal.Rows
open Cert.FusedIdeal.Model
open Idealize.ShloMosaic Idealize.ShloMosaic.TcCoe Idealize.ShloMosaic.ValueIdx
open Idealize.ShloMosaic.StableHlo Idealize.SL.Sem

/-- The input of row `b` at time `t`. -/
theorem inputs_apply (x0 : IVec S128x200 32) (x2 : FVec Ideal S25600x128 .f32) (t : ℕ) (ht : t < 200) (b : Fin 128) (j : Fin 64) :
    (inputs x0 x2 (ix3 (⟨t, ht⟩ : Fin 200) b j) : EReal) = Cert.FusedIdeal.Entry.input x0 x2 b t j := by
  unfold Cert.FusedIdeal.Entry.input
  rw [dif_pos ht]
  have ep : (broadcastInDim S200x128x64 ![0, 1, 2] bcast_S200x128x1_S200x128x64_0_1_2 (broadcastInDim S200x128x1 ![0, 1] bcast_S200x128_S200x128x1_0_1
      (transpose S200x128 [1, 0] (cmpi .sge x0 (broadcastInDim S128x200 ![] bcast_S_S128x200 (constantI S_ 32 50000#32))) transposes_S128x200_S200x128_1_0)))
        (ix3 (⟨t, ht⟩ : Fin 200) b j) = IntOp.cmpi .sge (x0 (ix2 b (⟨t, ht⟩ : Fin 200))) 50000#32 := by
    refine (broadcastInDim_apply _ _ _ (ix3 (⟨t, ht⟩ : Fin 200) b j) (ix3 (⟨t, ht⟩ : Fin 200) b (0 : Fin 1)) fun a => ?_).trans
      ((broadcastInDim_apply _ _ _ (ix3 (⟨t, ht⟩ : Fin 200) b (0 : Fin 1)) (ix2 (⟨t, ht⟩ : Fin 200) b) fun a => ?_).trans
        ((transpose_apply _ _ _ (ix2 (⟨t, ht⟩ : Fin 200) b) (ix2 b (⟨t, ht⟩ : Fin 200)) fun a => ?_).trans ?_))
    · fin_cases a <;> rfl
    · fin_cases a <;> rfl
    · fin_cases a <;> rfl
    · rfl
  have er : (extractStridedSlice S200x128x64 ![0, 0, 64] (shapeCast S200x128x128 x2 shapeCasts_S25600x128_S200x128x128) slices_S200x128x128_S200x128x64_0_0_64
      (ix3 (⟨t, ht⟩ : Fin 200) b j) : EReal) = x2 (ix2 (⟨128 * t + b.val, by omega⟩ : Fin 25600) (⟨64 + j.val, by omega⟩ : Fin 128)) := by
    refine (extractStridedSlice_apply _ _ _ (ix3 (⟨t, ht⟩ : Fin 200) b j) (ix3 (⟨t, ht⟩ : Fin 200) b (⟨64 + j.val, by omega⟩ : Fin 128)) fun a => ?_).trans
      (Cert.FusedIdeal.Entry.pair_apply x2 (⟨t, ht⟩ : Fin 200) b _)
    fin_cases a
    · exact (Nat.zero_add _).symm
    · exact (Nat.zero_add _).symm
    · rfl
  have el : (extractStridedSlice S200x128x64 ![0, 0, 0] (shapeCast S200x128x128 x2 shapeCasts_S25600x128_S200x128x128) slices_S200x128x128_S200x128x64_0_0_0
      (ix3 (⟨t, ht⟩ : Fin 200) b j) : EReal) = x2 (ix2 (⟨128 * t + b.val, by omega⟩ : Fin 25600) (⟨j.val, by omega⟩ : Fin 128)) := by
    refine (extractStridedSlice_apply _ _ _ (ix3 (⟨t, ht⟩ : Fin 200) b j) (ix3 (⟨t, ht⟩ : Fin 200) b (⟨j.val, by omega⟩ : Fin 128)) fun a => ?_).trans
      (Cert.FusedIdeal.Entry.pair_apply x2 (⟨t, ht⟩ : Fin 200) b _)
    fin_cases a <;> exact (Nat.zero_add _).symm
  show Scalar.select (broadcastInDim S200x128x64 _ _ _ _) (extractStridedSlice S200x128x64 _ _ _ _) (extractStridedSlice S200x128x64 _ _ _ _) = _
  rw [ep, er, el]
  rfl

variable (m' : (ℓ : Loc nD τ sig) → Buf (Elt Ideal) ℓ) (c : Dev nD)

/-- The reference's result, from arguments that are the kernel's. -/
theorem final_outs (P : Dev nD → Cert.FusedIdeal.Track.Problem) (m : (ℓ : Loc Cert.FusedIdeal.nD Cert.FusedIdeal.τ Cert.FusedIdeal.sig) → Buf (Elt Ideal) ℓ)
    (hP : P c = Cert.FusedIdeal.Entry.problem m c)
    (h0 : r0 m' c = Cert.FusedIdeal.Entry.a0 m c) (h1 : r1 m' c = Cert.FusedIdeal.Entry.a1 m c) (h2 : r2 m' c = Cert.FusedIdeal.Entry.a2 m c)
    (h3 : r3 m' c = Cert.FusedIdeal.Entry.a3 m c) (h4 : r4 m' c = Cert.FusedIdeal.Entry.a4 m c) (h5 : r5 m' c = Cert.FusedIdeal.Entry.a5 m c)
    (h6 : r6 m' c = Cert.FusedIdeal.Entry.a6 m c) (h7 : r7 m' c = Cert.FusedIdeal.Entry.a7 m c) (h8 : r8 m' c = Cert.FusedIdeal.Entry.a8 m c)
    (h9 : r9 m' c = Cert.FusedIdeal.Entry.a9 m c) :
    (finalContents condOps preI bodyI postI 200 m' c (Proc.devRef .tc main_v154) : FVec Ideal S4x100000x128 .f32) = Cert.FusedIdeal.Track.outs P c := by
  funext y
  obtain ⟨k, n, b, rfl⟩ : ∃ (k : Fin 4) (n : Fin 100000) (b : Fin 128), y = ix3 k n b :=
    ⟨y 0, y 1, y 2, funext fun a => match a with | ⟨0, _⟩ => rfl | ⟨1, _⟩ => rfl | ⟨2, _⟩ => rfl⟩
  refine (final_apply m' c (Cert.FusedIdeal.Entry.input (r0 m' c) (r2 m' c)) (fun k hk b j => inputs_apply _ _ k hk b j)
    (Cert.FusedIdeal.Entry.stepOf (r1 m' c)) (fun k => Cert.FusedIdeal.Entry.step_apply (r1 m' c) k) k n b).trans ?_
  rw [h0, h1, h2, h3, h4, h5, h6, h7, h8, h9]
  show _ = (P c).out k.val n.val b
  rw [hP]
  refine congrArg₂ (fun x y : EReal => x + y) (Finset.sum_congr rfl fun j _ => ?_) ?_
  · refine (mul_comm _ _).trans (congrArg (fun x : EReal => x * _) ?_)
    show _ = dite (n.val < 100000) _ _
    rw [dif_pos n.isLt]
  · show _ = dite (n.val < 100000) _ _
    rw [dif_pos n.isLt]

variable (ρ : Dev nD → PrngReg)

/-- The run's result, and its arguments. -/
theorem run : θ_run (defs (F := Ideal)) (onTc (τ := τ) (main (F := Ideal))) ⟨m', fun _ => 0, ρ⟩ (fun r => ∀ c : Dev nD,
      r.2.mem ((c.tc : Thread nD τ).loc main_v154) = finalContents condOps preI bodyI postI 200 m' c (Proc.devRef .tc main_v154)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run _ _ _).mono (fun _ h c => ⟨h c main_v154 rfl,
    (h c main_arg0 rfl).trans (final_keep m' c main_arg0 (by decide) (by decide) (by decide) (by decide) (by decide) (by decide) (by decide)),
    (h c main_arg1 rfl).trans (final_keep m' c main_arg1 (by decide) (by decide) (by decide) (by decide) (by decide) (by decide) (by decide)),
    (h c main_arg2 rfl).trans (final_keep m' c main_arg2 (by decide) (by decide) (by decide) (by decide) (by decide) (by decide) (by decide)),
    (h c main_arg3 rfl).trans (final_keep m' c main_arg3 (by decide) (by decide) (by decide) (by decide) (by decide) (by decide) (by decide)),
    (h c main_arg4 rfl).trans (final_keep m' c main_arg4 (by decide) (by decide) (by decide) (by decide) (by decide) (by decide) (by decide)),
    (h c main_arg5 rfl).trans (final_keep m' c main_arg5 (by decide) (by decide) (by decide) (by decide) (by decide) (by decide) (by decide)),
    (h c main_arg6 rfl).trans (final_keep m' c main_arg6 (by decide) (by decide) (by decide) (by decide) (by decide) (by decide) (by decide)),
    (h c main_arg7 rfl).trans (final_keep m' c main_arg7 (by decide) (by decide) (by decide) (by decide) (by decide) (by decide) (by decide)),
    (h c main_arg8 rfl).trans (final_keep m' c main_arg8 (by decide) (by decide) (by decide) (by decide) (by decide) (by decide) (by decide)),
    (h c main_arg9 rfl).trans (final_keep m' c main_arg9 (by decide) (by decide) (by decide) (by decide) (by decide) (by decide) (by decide))⟩) (run_fold m' ρ)

end Cert.FusedReferenceIdeal.Whole

end
-- ==== Proof.RepackIdeal.Halves.lean ====
/-
The table laid out in pairs of rows: the run that copies it block by block leaves, in row r of its result, row r of
the table beside row 50000 + r, and so does putting the two halves of the table side by side.
-/
module

public import proofs.«01_k».proof.Proof.Gen.RepackIdeal.Value
public import proofs.«01_k».proof.Proof.Gen.RepackReferenceIdeal.Run
public import Idealize.ShloMosaic.Lib.Pipeline.Value
public import Idealize.ShloMosaic.Lib.ValueIdx

@[expose] public section

noncomputable section

namespace Cert.RepackIdeal.Halves

open Cert.RepackIdeal Cert.RepackIdeal.Gen Idealize.ShloMosaic Idealize.ShloMosaic.TcCoe Idealize.SL.Sem Idealize.ShloMosaic.ValueIdx
open Idealize.ShloMosaic.Pipeline (Dat Window)

variable {F : FTy → Type} [FloatOps F]

/-- Two rows of the table beside each other. -/
def halves (x : FVec F S100000x64 .f32) : FVec F S50000x128 .f32 := fun y =>
  if h : (y 1).val < 64 then x (ix2 (⟨(y 0).val, by have : (y 0).val < 50000 := (y 0).isLt; omega⟩ : Fin 100000) (⟨(y 1).val, h⟩ : Fin 64))
  else x (ix2 (⟨50000 + (y 0).val, by have : (y 0).val < 50000 := (y 0).isLt; omega⟩ : Fin 100000)
    (⟨(y 1).val - 64, by have : (y 1).val < 128 := (y 1).isLt; omega⟩ : Fin 64))

/-! ## What one grid point stores -/

/-- A column of the first store. -/
theorem out_left (x0 x1 : Vec F S2000x64 .f32) (y : S2000x128.Idx) (h : (y 1).val < 64) :
    out0_2 x0 x1 y = x0 (ix2 (y 0) (⟨(y 1).val, h⟩ : Fin 64)) := by
  unfold out0_2
  rw [View.canon_cons_of_not_mem]
  · have e : r0_1.emb (ix2 (y 0) (⟨(y 1).val, h⟩ : Fin 64)) = y := funext fun a => Fin.ext (match a with
      | ⟨0, _⟩ => (by show 0 + 1 * (y 0).val = (y 0).val; omega)
      | ⟨1, _⟩ => (by show 0 + 1 * (y 1).val = (y 1).val; omega))
    refine (congrArg _ e.symm).trans ((View.canon_cons_emb r0_1 _ _ _).trans ?_)
    exact congrArg x0 (funext fun a => Fin.ext (match a with
      | ⟨0, _⟩ => (by show 0 + 1 * (y 0).val = (y 0).val; omega)
      | ⟨1, _⟩ => (by show 0 + 1 * (y 1).val = (y 1).val; omega)))
  · intro hy
    have : 64 ≤ (y 1).val := ((Rect.mem_set_unit (inb := inb_S2000x128_S2000x64_0_64)).mp hy 1).1
    omega

/-- A column of the second store. -/
theorem out_right (x0 x1 : Vec F S2000x64 .f32) (y : S2000x128.Idx) (h : 64 ≤ (y 1).val) :
    out0_2 x0 x1 y = x1 (ix2 (y 0) (⟨(y 1).val - 64, by have : (y 1).val < 128 := (y 1).isLt; omega⟩ : Fin 64)) := by
  unfold out0_2
  have hlt : (y 1).val < 128 := (y 1).isLt
  have e : r0_2.emb (ix2 (y 0) (⟨(y 1).val - 64, by omega⟩ : Fin 64)) = y := funext fun a => Fin.ext (match a with
    | ⟨0, _⟩ => (by show 0 + 1 * (y 0).val = (y 0).val; omega)
    | ⟨1, _⟩ => (by show 64 + 1 * ((y 1).val - 64) = (y 1).val; omega))
  refine (congrArg _ e.symm).trans ((View.canon_cons_emb r0_2 _ _ _).trans ?_)
  exact congrArg x1 (funext fun a => Fin.ext (match a with
    | ⟨0, _⟩ => (by show 0 + 1 * (y 0).val = (y 0).val; omega)
    | ⟨1, _⟩ => (by show 0 + 1 * ((y 1).val - 64) = (y 1).val - 64; omega)))

/-! ## Which block of the table each window shows -/

theorem index0 : ∀ t : Fin cfg0.N, win0_0.index t 0 = t.val := (by decide +kernel : ∀ t : Fin grid0.N, win0_0.index t 0 = t.val)
theorem index1 : ∀ t : Fin cfg0.N, win0_1.index t 0 = t.val + 25 := (by decide +kernel : ∀ t : Fin grid0.N, win0_1.index t 0 = t.val + 25)
theorem index2 : ∀ t : Fin cfg0.N, win0_2.index t 0 = t.val := (by decide +kernel : ∀ t : Fin grid0.N, win0_2.index t 0 = t.val)
theorem flushes : ∀ t : Fin cfg0.N, win0_2.flush t = true := (by decide +kernel : ∀ t : Fin grid0.N, win0_2.flush t = true)
theorem points : cfg0.N = 25 := (by decide +kernel : grid0.N = 25)

variable (m : (ℓ : Loc nD τ sig) → Buf (Elt F) ℓ) (ρ : Dev nD → PrngReg)

/-- The table. -/
abbrev table (c : Dev nD) : FVec F S100000x64 .f32 := m ((c.tc : Thread nD τ).loc main_arg0)

theorem block0 (c : Dev nD) (t : Fin cfg0.N) (i : Fin 2000) (j : Fin 64) (n : Fin 100000) (hn : n.val = 2000 * t.val + i.val) :
    (iblk m c 0 t : Vec F S2000x64 .f32) (ix2 i j) = table m c (ix2 n j) :=
  (congrArg (V m c main_arg0) (show _ = ix2 n j from funext fun a => Fin.ext (match a with
    | ⟨0, _⟩ => (Window.rect_emb_val win0_0 t (ix2 i j) 0).trans (by rw [index0 t]; show t.val * 2000 + i.val = n.val; omega)
    | ⟨1, _⟩ => Window.rect_emb_val_of_index_zero win0_0 t 1 rfl (ix2 i j)))).trans (congrFun (V_main_arg0 m c) _)

theorem block1 (c : Dev nD) (t : Fin cfg0.N) (i : Fin 2000) (j : Fin 64) (n : Fin 100000) (hn : n.val = 50000 + (2000 * t.val + i.val)) :
    (iblk m c 1 t : Vec F S2000x64 .f32) (ix2 i j) = table m c (ix2 n j) :=
  (congrArg (V m c main_arg0) (show _ = ix2 n j from funext fun a => Fin.ext (match a with
    | ⟨0, _⟩ => (Window.rect_emb_val win0_1 t (ix2 i j) 0).trans (by rw [index1 t]; show (t.val + 25) * 2000 + i.val = n.val; omega)
    | ⟨1, _⟩ => Window.rect_emb_val_of_index_zero win0_1 t 1 rfl (ix2 i j)))).trans (congrFun (V_main_arg0 m c) _)

/-! ## The whole result -/

/-- A stored entry is the result's entry at its place in the array. -/
theorem stored (c : Dev nD) (t : Fin cfg0.N) (z : S2000x128.Idx) (y : S50000x128.Idx) (e0 : (y 0).val = 2000 * t.val + (z 0).val) (e1 : (y 1).val = (z 1).val) :
    out0_2 (iblk m c 0 t) (iblk m c 1 t) z = halves (table m c) y := by
  have hz : (z 1).val < 128 := (z 1).isLt
  unfold halves
  by_cases h : (z 1).val < 64
  · rw [dif_pos (by rw [e1]; exact h), out_left _ _ z h]
    refine (block0 m c t (z 0) ⟨(z 1).val, h⟩ ⟨(y 0).val, (by have : (y 0).val < 50000 := (y 0).isLt; omega)⟩ e0).trans ?_
    exact congrArg _ (congrArg _ (Fin.ext e1.symm))
  · rw [dif_neg (by rw [e1]; exact h), out_right _ _ z (Nat.le_of_not_lt h)]
    refine (block1 m c t (z 0) ⟨(z 1).val - 64, by omega⟩ ⟨50000 + (y 0).val, (by have : (y 0).val < 50000 := (y 0).isLt; omega)⟩ (congrArg _ e0)).trans ?_
    exact congrArg _ (congrArg _ (Fin.ext (congrArg (· - 64) e1.symm)))

/-- The result's array after the last grid point. -/
theorem array_out (c : Dev nD) : (dats m 0 c).arrAt 2 cfg0.N = halves (table m c) := by
  funext y
  refine (dats m 0 c).arrAt_forall_of_cover 2 (fun (y : S50000x128.Idx) (e : F .f32) => e = halves (table m c) y) ?_ ?_ y
  · intro t _ z
    rw [cast_eq]
    refine (congrFun (Value.flushed2 m c t) z).trans (stored m c t (fun a => ⟨(z a).val, (z a).isLt⟩) ((win0_2.rect t).emb z) ?_ ?_)
    · exact (Window.rect_emb_val win0_2 t z 0).trans (by rw [index2 t]; show t.val * 2000 + (z 0).val = 2000 * t.val + (z 0).val; omega)
    · exact Window.rect_emb_val_of_index_zero win0_2 t 1 rfl z
  · intro y
    have hy0 : (y 0).val < 50000 := (y 0).isLt
    let t : Fin cfg0.N := ⟨(y 0).val / 2000, by rw [points]; omega⟩
    refine ⟨t, flushes t, Finset.mem_map.mpr ⟨fun a => match a with
      | ⟨0, _⟩ => ⟨(y 0).val % 2000, (by show _ < 2000; omega)⟩
      | ⟨1, _⟩ => ⟨(y 1).val, (y 1).isLt⟩, Finset.mem_univ _, ?_⟩⟩
    funext a
    apply Fin.ext
    match a with
    | ⟨0, _⟩ =>
      refine (Window.rect_emb_val win0_2 t _ 0).trans ?_
      rw [index2 t]
      show (y 0).val / 2000 * 2000 + (y 0).val % 2000 = (y 0).val
      omega
    | ⟨1, _⟩ => exact Window.rect_emb_val_of_index_zero win0_2 t 1 rfl _

/-- The run ends with the rows in pairs, and its table as it was. -/
theorem run : θ_run defs (onTc (τ := τ) (main (F := F))) ⟨m, fun _ => 0, ρ⟩ fun r => ∀ c : Dev nD,
      r.2.mem ((c.tc : Thread nD τ).loc main_v0) = halves (table m c)
      ∧ r.2.mem ((c.tc : Thread nD τ).loc main_arg0) = m ((c.tc : Thread nD τ).loc main_arg0) :=
  (θ_run defs _ _).mono (fun _ h c => ⟨(h c).1.trans (array_out m c), (h c).2⟩) (Value.run_blocks m ρ)

/-! ## The two halves of the table side by side -/

open Cert.RepackReferenceIdeal Cert.RepackReferenceIdeal.Gen in
theorem sides_eq (x : FVec F S100000x64 .f32) :
    concatenate Cert.RepackReferenceIdeal.S50000x128 1
      [⟨Cert.RepackReferenceIdeal.S50000x64, extractStridedSlice Cert.RepackReferenceIdeal.S50000x64 ![0, 0] x slices_S100000x64_S50000x64_0_0⟩,
       ⟨Cert.RepackReferenceIdeal.S50000x64, extractStridedSlice Cert.RepackReferenceIdeal.S50000x64 ![50000, 0] x slices_S100000x64_S50000x64_50000_0⟩]
      concatenates_S50000x64_S50000x64_S50000x128_d1 = halves x := by
  funext y
  have h0 : (y 0).val < 50000 := (y 0).isLt
  have h1 : (y 1).val < 128 := (y 1).isLt
  unfold halves
  by_cases h : (y 1).val < 64
  · rw [dif_pos h]
    refine (concatenate_pair_apply_left (s₁ := Cert.RepackReferenceIdeal.S50000x64) (s₂ := Cert.RepackReferenceIdeal.S50000x64) 1 _ _ _ y rfl (ix2 (⟨(y 0).val, h0⟩ : Fin 50000) (⟨(y 1).val, h⟩ : Fin 64) : Cert.RepackReferenceIdeal.S50000x64.Idx)
      (fun b => match b with | ⟨0, _⟩ => rfl | ⟨1, _⟩ => rfl)).trans ?_
    exact extractStridedSlice_apply _ _ _ _ _ fun a => match a with
      | ⟨0, _⟩ => (by show (y 0).val = 0 + (y 0).val; omega)
      | ⟨1, _⟩ => (by show (y 1).val = 0 + (y 1).val; omega)
  · rw [dif_neg h]
    refine (concatenate_pair_apply_right (s₁ := Cert.RepackReferenceIdeal.S50000x64) (s₂ := Cert.RepackReferenceIdeal.S50000x64) 1 _ _ _ y rfl rfl (ix2 (⟨(y 0).val, h0⟩ : Fin 50000) (⟨(y 1).val - 64, by omega⟩ : Fin 64))
      (fun b hb => match b, hb with | ⟨0, _⟩, _ => rfl | ⟨1, _⟩, hb => absurd rfl hb) (by show (y 1).val - 64 + 64 = (y 1).val; omega)).trans ?_
    exact extractStridedSlice_apply _ _ _ _ _ fun a => match a with
      | ⟨0, _⟩ => rfl
      | ⟨1, _⟩ => (by show (y 1).val - 64 = 0 + ((y 1).val - 64); omega)

end Cert.RepackIdeal.Halves

end
-- ==== Proof.lean ====
/-
  The certificate. Of the SparseCore gather: its run (Proof/Gather.lean, Proof/Launch.lean, and the same at the ideal
  program), the reference's run, and the equality of the two results (Proof/Rows.lean). Of the fused TensorCore call: its
  frame (Proof/Fused/), its outputs (Proof/FusedIdeal/), and its reference's outputs (Proof/FusedReference/). Of the table's
  layout: its result and its reference's (Proof/RepackIdeal/).
-/
module

public import proofs.«01_k».proof.Defs
public import proofs.«01_k».proof.Proof.Launch
public import proofs.«01_k».proof.Proof.LaunchIdeal
public import proofs.«01_k».proof.Proof.Rows
public import proofs.«01_k».proof.Proof.Fused.Region
public import proofs.«01_k».proof.Proof.FusedIdeal.Region
public import proofs.«01_k».proof.Proof.FusedReference.Whole
public import proofs.«01_k».proof.Proof.Gen.Pre_finite_rows
public import proofs.«01_k».proof.Proof.Gen.Repack
public import proofs.«01_k».proof.Proof.Gen.Repack.Skeleton
public import proofs.«01_k».proof.Proof.Gen.Repack.Frame
public import proofs.«01_k».proof.Proof.Gen.RepackIdeal
public import proofs.«01_k».proof.Proof.Gen.RepackIdeal.Skeleton
public import proofs.«01_k».proof.Proof.Gen.RepackIdeal.Frame
public import proofs.«01_k».proof.Proof.Gen.RepackIdeal.Value
public import proofs.«01_k».proof.Proof.Gen.RepackReferenceIdeal.Run
public import proofs.«01_k».proof.Proof.RepackIdeal.Halves
public import Idealize.ShloMosaic.Lib.ReduceAll
public import Idealize.ShloMosaic.Lib.Pointwise.Select
public import Idealize.ShloMosaic.Lib.Quiescent

@[expose] public section

noncomputable section

namespace Cert.Proof

open Idealize.ShloMosaic Idealize.SL.Sem

/-- The row numbers that the kernel makes of tokens below 100000 are the tokens modulo 50000. -/
theorem numbers_toNat {t : IVec KernelIdeal.S128x200 32} (h : ∀ r, (t r).toNat < 100000) (r : KernelIdeal.S25600.Idx) :
    (KernelIdeal.Gather.numbers t r).toNat = (KernelIdeal.Gather.flat t r).toNat % 50000 :=
  Rows.lowered (KernelIdeal.Gather.flat t r) (h _)

theorem numbers_lt {t : IVec KernelIdeal.S128x200 32} (h : ∀ r, (t r).toNat < 100000) (r : KernelIdeal.S25600.Idx) :
    (KernelIdeal.Gather.numbers t r).toNat < 50000 := by
  rw [numbers_toNat h]; exact Nat.mod_lt _ (by norm_num)

/-- They are the reference's row numbers. -/
theorem numbers_eq {t : IVec KernelIdeal.S128x200 32} (h : ∀ r, (t r).toNat < 100000) : Rows.remainders (Rows.flat t) = KernelIdeal.Gather.numbers t :=
  funext fun r => BitVec.eq_of_toNat_eq ((Rows.remainders_toNat _ r (h _)).trans (numbers_toNat h r).symm)

/-- The precondition of the kernel, as the launch theorem takes it. -/
theorem kernel_pre {m : (ℓ : Loc Kernel.nD Kernel.τ Kernel.sig) → Buf (Elt Bits) ℓ} (h : Pre_Kernel m) : Kernel.Gather.PreOK m :=
  Kernel.Gather.preOK_of m fun d r => numbers_lt (fun r => Rows.pre_lt _ _ (h d) r) r

/-- The precondition of the ideal kernel, as the launch theorem takes it. -/
theorem ideal_pre {m : (ℓ : Loc KernelIdeal.nD KernelIdeal.τ KernelIdeal.sig) → Buf (Elt Ideal) ℓ} (h : Pre_KernelIdeal m) : KernelIdeal.Gather.PreOK m :=
  KernelIdeal.Gather.preOK_of m fun d r => numbers_lt (fun r => Rows.pre_lt _ _ (h d) r) r

/-- The kernel runs, and leaves its arguments unchanged and its semaphores at zero. -/
theorem frame_p : quiescent_Kernel := fun m ρ hpre =>
  (θ_run _ _ _).mono (fun _ h => ⟨fun c => (h.1 c).2, h.2⟩) (Kernel.Gather.run_main m ρ (kernel_pre hpre))

/-- So does the ideal kernel. -/
theorem frame_pi : quiescent_KernelIdeal := fun m ρ hpre =>
  (θ_run _ _ _).mono (fun _ h => ⟨fun c => (h.1 c).2, h.2⟩) (KernelIdeal.Gather.run_main m ρ (ideal_pre hpre))

/-- So does the reference, which has no semaphores. -/
theorem frame_ri : quiescent_ReferenceIdeal := fun m ρ _ =>
  (θ_run _ _ _).mono (fun _ h => ⟨fun c => (h c).2, sem_eq_zero_of_no_sems rfl _⟩) (ReferenceIdeal.Value.run m ρ)

/-- The ideal kernel's result is the reference's: each is the table's rows that the row numbers name. -/
theorem value : algebraic_KernelIdeal_ReferenceIdeal := by
  intro m ρ m' ρ' hpre hargs
  refine ⟨fun c => KernelIdeal.Gather.gathered m c,
    (θ_run _ _ _).mono (fun _ h => h.1) (KernelIdeal.Gather.run_main m ρ (ideal_pre hpre)),
    (θ_run _ _ _).mono (fun _ h c => ⟨(h c).1.trans ?_, (h c).2⟩) (ReferenceIdeal.Value.run m' ρ')⟩
  have ht : ∀ r, (m ((c.tc : Thread KernelIdeal.nD KernelIdeal.τ).loc KernelIdeal.main_arg0) r).toNat < 100000 := fun r => Rows.pre_lt _ _ (hpre c) r
  have hlt : ∀ r, (KernelIdeal.Gather.numbers (m ((c.tc : Thread KernelIdeal.nD KernelIdeal.τ).loc KernelIdeal.main_arg0)) r).toNat < 50000 := numbers_lt ht
  have e : Rows.taken (F := Ideal) (Rows.remainders (Rows.flat (m ((c.tc : Thread KernelIdeal.nD KernelIdeal.τ).loc KernelIdeal.main_arg0))))
      (m ((c.tc : Thread KernelIdeal.nD KernelIdeal.τ).loc KernelIdeal.main_arg1)) = KernelIdeal.Gather.gathered m c := by
    rw [numbers_eq ht]
    funext y
    obtain ⟨p, q, rfl⟩ : ∃ (p : Fin 25600) (q : Fin 128), y = Idealize.ShloMosaic.ix2 p q := ⟨y 0, y 1, (Idealize.ShloMosaic.ix2_eta y).symm⟩
    refine (Rows.taken_eq (F := Ideal) _ _ hlt p q).trans ?_
    refine congrArg (m ((c.tc : Thread KernelIdeal.nD KernelIdeal.τ).loc KernelIdeal.main_arg1)) ((Idealize.ShloMosaic.ix2_inj _ _ _ _).mpr ⟨Fin.ext ?_, rfl⟩)
    show _ = (KernelIdeal.Gather.entry (KernelIdeal.Gather.idxs m c) p).toNat % 50000
    rw [KernelIdeal.Gather.entry_idxs]
    exact (Nat.mod_eq_of_lt (hlt _)).symm
  refine Eq.trans ?_ e
  rw [← (hargs c).1, ← (hargs c).2]
  rfl

/-! ## The fused call -/

/-- The index set of a scalar has one member. -/
instance : Subsingleton (⟨0, ![]⟩ : Shape).Idx := ⟨fun _ _ => funext fun a => a.elim0⟩

/-- The precondition of the fused call says that every entry of the gathered pairs is a real number. -/
theorem pairs_finite {m : (ℓ : Loc FusedIdeal.nD FusedIdeal.τ FusedIdeal.sig) → Buf (Elt Ideal) ℓ} (h : Pre_FusedIdeal_finite_rows m)
    (c : Dev FusedIdeal.nD) (i : FusedIdeal.S25600x128.Idx) : FusedIdeal.Model.Fin' (FusedIdeal.Entry.a2 m c i) := by
  have e := Host.reduce_andi_all _ _ _ _ _ (congrFun (h c) (fun a => a.elim0)) i
  have e' : Ideal.cmp .olt (max (FusedIdeal.Entry.a2 m c i : EReal) (-(FusedIdeal.Entry.a2 m c i : EReal))) (Ideal.ofBits .f32 0x7F800000#32) = 1#1 := e
  have htop : Ideal.ofBits .f32 0x7F800000#32 = ⊤ := by simp [Ideal.ofBits, Ideal.ieee]
  rw [htop] at e'
  have hl := (Ideal.cmp_olt_eq_one _ _).1 e'
  generalize (FusedIdeal.Entry.a2 m c i : EReal) = x at hl
  induction x using EReal.rec with
  | bot => simp at hl
  | top => simp at hl
  | coe r => exact ⟨r, rfl⟩

/-- The fused call runs, and leaves its arguments unchanged and its semaphores at zero. -/
theorem frame_f : quiescent_Fused := fun m ρ _ => Fused.Base.quiescent m ρ

/-- So does the ideal fused call. -/
theorem frame_fi : quiescent_FusedIdeal := fun m ρ _ => FusedIdeal.Base.quiescent m ρ

/-- So does its reference, which has no semaphores. -/
theorem frame_si : quiescent_FusedReferenceIdeal := fun m ρ _ =>
  (θ_run _ _ _).mono (fun _ h => ⟨fun c => (h c).2, sem_eq_zero_of_no_sems rfl _⟩) (FusedReferenceIdeal.Whole.run m ρ)

/-- The ideal fused call's result is its reference's. -/
theorem fused_value : algebraic_FusedIdeal_FusedReferenceIdeal_pre_finite_rows := by
  intro m ρ m' ρ' hpre hargs
  refine ⟨fun c => FusedIdeal.Track.outs (FusedIdeal.Entry.problem m) c,
    FusedIdeal.Track.run_outs m ρ (FusedIdeal.Entry.problem m) fun c => FusedIdeal.Entry.given m c (pairs_finite hpre c),
    (θ_run _ _ _).mono (fun _ h c => ⟨(h c).1.trans ?_, (h c).2⟩) (FusedReferenceIdeal.Whole.run m' ρ')⟩
  obtain ⟨h0, h1, h2, h3, h4, h5, h6, h7, h8, h9⟩ := hargs c
  exact FusedReferenceIdeal.Whole.final_outs m' c (FusedIdeal.Entry.problem m) m rfl h0 h1 h2 h3 h4 h5 h6 h7 h8 h9

/-! ## The layout of the table -/

/-- The layout call runs, and leaves its table unchanged and its semaphores at zero. -/
theorem frame_t : quiescent_Repack := fun m ρ _ => Repack.Gen.frame m ρ

/-- So does the ideal layout call. -/
theorem frame_ti : quiescent_RepackIdeal := fun m ρ _ => RepackIdeal.Gen.frame m ρ

/-- So does its reference, which has no semaphores. -/
theorem frame_ui : quiescent_RepackReferenceIdeal := fun m ρ _ =>
  (θ_run _ _ _).mono (fun _ h => ⟨fun c => (h c).2, sem_eq_zero_of_no_sems rfl _⟩) (RepackReferenceIdeal.Value.run m ρ)

/-- The ideal layout call's result is its reference's. -/
theorem layout_value : algebraic_RepackIdeal_RepackReferenceIdeal := by
  intro m ρ m' ρ' _ hargs
  refine ⟨fun c => RepackIdeal.Halves.halves (RepackIdeal.Halves.table m c), RepackIdeal.Halves.run m ρ,
    (θ_run _ _ _).mono (fun _ h c => ⟨(h c).1.trans ?_, (h c).2⟩) (RepackReferenceIdeal.Value.run m' ρ')⟩
  rw [hargs c]
  exact RepackIdeal.Halves.sides_eq (F := Ideal) _

/-- Every claim of the certificate. -/
theorem claim : Cert.Claim :=
  ⟨Cert.Kernel.Gen.facts, Cert.KernelIdeal.Gen.facts, Cert.ReferenceIdeal.Gen.facts, Cert.Fused.Gen.facts, Cert.FusedIdeal.Gen.facts,
    Cert.FusedReferenceIdeal.Gen.facts, Cert.Repack.Gen.facts, Cert.RepackIdeal.Gen.facts, Cert.RepackReferenceIdeal.Gen.facts,
    Cert.Pre_in_vocabulary.Gen.facts, Cert.Pre_finite_rows.Gen.facts,
    frame_p, frame_pi, frame_ri, fun m ρ _ => frame_ri m ρ trivial, frame_f, frame_fi, fun m ρ _ => frame_fi m ρ trivial,
    frame_si, fun m ρ _ => frame_si m ρ trivial, frame_t, frame_ti, frame_ui, trivial, value, trivial, fused_value, trivial, layout_value⟩

end Cert.Proof

end
